-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v101) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S1024x1024 : Shape := ⟨2, ![1024, 1024]⟩
abbrev S1x4096x64x128 : Shape := ⟨4, ![1, 4096, 64, 128]⟩
abbrev S2x4096x128 : Shape := ⟨3, ![2, 4096, 128]⟩
abbrev S256x1024 : Shape := ⟨2, ![256, 1024]⟩
abbrev S8x256x128 : Shape := ⟨3, ![8, 256, 128]⟩
abbrev S4 : Shape := ⟨1, ![4]⟩
abbrev S14 : Shape := ⟨1, ![14]⟩
abbrev S8 : Shape := ⟨1, ![8]⟩
abbrev S1 : Shape := ⟨1, ![1]⟩
abbrev S_ : Shape := ⟨0, ![]⟩
abbrev S1x4096x128 : Shape := ⟨3, ![1, 4096, 128]⟩
abbrev S4096x128 : Shape := ⟨2, ![4096, 128]⟩
abbrev S1x4096x1x128 : Shape := ⟨4, ![1, 4096, 1, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S1x256x128 : Shape := ⟨3, ![1, 256, 128]⟩

abbrev nBuf : Space → Nat
  | .hbm => 6
  | .vmem => 9
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1024x1024, .f32⟩
  | .hbm, ⟨3, _⟩ => ⟨S1x4096x64x128, .f32⟩
  | .hbm, ⟨4, _⟩ => ⟨S1x4096x64x128, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S2x4096x128, .f32⟩
  | .local _ .vmem, ⟨5, _⟩ => ⟨S2x4096x128, .f32⟩
  | .local _ .vmem, ⟨6, _⟩ => ⟨S256x1024, .f32⟩
  | .local _ .vmem, ⟨7, _⟩ => ⟨S8x256x128, .f32⟩
  | .local _ .vmem, ⟨8, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 4 → Nat :=
  let c0_i32_2 : BitVec 32 := 0#32
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.muli v2 c8_i32_0
  let v4 : BitVec 32 := Scalar.addi v3 c0_i32
  let c0_i32_8 : BitVec 32 := 0#32
  ![0, 0, v4.toNat, 0]
def k0_dev1 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v19 : BitVec 32 := Scalar.addi v2 c1_i32_15
  let c8_i32_16 : BitVec 32 := 8#32
  let c0_i32_17 : BitVec 32 := 0#32
  let v20 : BitVec 1 := Scalar.cmpi .eq c8_i32_16 c0_i32_17
  let c1_i32_18 : BitVec 32 := 1#32
  let v21 : BitVec 32 := Scalar.select v20 c1_i32_18 c8_i32_16
  let v22 : BitVec 32 := Scalar.remsi v19 v21
  let c0_i32_20 : BitVec 32 := 0#32
  let v24 : BitVec 1 := Scalar.cmpi .slt v22 c0_i32_20
  let c0_i32_21 : BitVec 32 := 0#32
  let v25 : BitVec 1 := Scalar.cmpi .slt v21 c0_i32_21
  let v26 : BitVec 1 := Scalar.xori v24 v25
  let c0_i32_19 : BitVec 32 := 0#32
  let v23 : BitVec 1 := Scalar.cmpi .ne v22 c0_i32_19
  let v27 : BitVec 1 := Scalar.andi v26 v23
  let v28 : BitVec 32 := Scalar.addi v22 v21
  let v29 : BitVec 32 := Scalar.select v27 v28 v22
  let c1_i32_23 : BitVec 32 := 1#32
  let v30 : BitVec 32 := Scalar.muli v29 c1_i32_23
  let v31 : BitVec 32 := Scalar.addi c0_i32_24 v30
  v31.toNat
def k0_dev2 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_25 : BitVec 32 := 2#32
  let v32 : BitVec 32 := Scalar.addi v2 c2_i32_25
  let c8_i32_26 : BitVec 32 := 8#32
  let c0_i32_27 : BitVec 32 := 0#32
  let v33 : BitVec 1 := Scalar.cmpi .eq c8_i32_26 c0_i32_27
  let c1_i32_28 : BitVec 32 := 1#32
  let v34 : BitVec 32 := Scalar.select v33 c1_i32_28 c8_i32_26
  let v35 : BitVec 32 := Scalar.remsi v32 v34
  let c0_i32_30 : BitVec 32 := 0#32
  let v37 : BitVec 1 := Scalar.cmpi .slt v35 c0_i32_30
  let c0_i32_31 : BitVec 32 := 0#32
  let v38 : BitVec 1 := Scalar.cmpi .slt v34 c0_i32_31
  let v39 : BitVec 1 := Scalar.xori v37 v38
  let c0_i32_29 : BitVec 32 := 0#32
  let v36 : BitVec 1 := Scalar.cmpi .ne v35 c0_i32_29
  let v40 : BitVec 1 := Scalar.andi v39 v36
  let v41 : BitVec 32 := Scalar.addi v35 v34
  let v42 : BitVec 32 := Scalar.select v40 v41 v35
  let c1_i32_33 : BitVec 32 := 1#32
  let v43 : BitVec 32 := Scalar.muli v42 c1_i32_33
  let v44 : BitVec 32 := Scalar.addi c0_i32_34 v43
  v44.toNat
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v45 : BitVec 32 := Scalar.addi v2 c3_i32
  let c8_i32_35 : BitVec 32 := 8#32
  let c0_i32_36 : BitVec 32 := 0#32
  let v46 : BitVec 1 := Scalar.cmpi .eq c8_i32_35 c0_i32_36
  let c1_i32_37 : BitVec 32 := 1#32
  let v47 : BitVec 32 := Scalar.select v46 c1_i32_37 c8_i32_35
  let v48 : BitVec 32 := Scalar.remsi v45 v47
  let c0_i32_39 : BitVec 32 := 0#32
  let v50 : BitVec 1 := Scalar.cmpi .slt v48 c0_i32_39
  let c0_i32_40 : BitVec 32 := 0#32
  let v51 : BitVec 1 := Scalar.cmpi .slt v47 c0_i32_40
  let v52 : BitVec 1 := Scalar.xori v50 v51
  let c0_i32_38 : BitVec 32 := 0#32
  let v49 : BitVec 1 := Scalar.cmpi .ne v48 c0_i32_38
  let v53 : BitVec 1 := Scalar.andi v52 v49
  let v54 : BitVec 32 := Scalar.addi v48 v47
  let v55 : BitVec 32 := Scalar.select v53 v54 v48
  let c1_i32_42 : BitVec 32 := 1#32
  let v56 : BitVec 32 := Scalar.muli v55 c1_i32_42
  let v57 : BitVec 32 := Scalar.addi c0_i32_43 v56
  v57.toNat
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v58 : BitVec 32 := Scalar.addi v2 c4_i32
  let c8_i32_44 : BitVec 32 := 8#32
  let c0_i32_45 : BitVec 32 := 0#32
  let v59 : BitVec 1 := Scalar.cmpi .eq c8_i32_44 c0_i32_45
  let c1_i32_46 : BitVec 32 := 1#32
  let v60 : BitVec 32 := Scalar.select v59 c1_i32_46 c8_i32_44
  let v61 : BitVec 32 := Scalar.remsi v58 v60
  let c0_i32_48 : BitVec 32 := 0#32
  let v63 : BitVec 1 := Scalar.cmpi .slt v61 c0_i32_48
  let c0_i32_49 : BitVec 32 := 0#32
  let v64 : BitVec 1 := Scalar.cmpi .slt v60 c0_i32_49
  let v65 : BitVec 1 := Scalar.xori v63 v64
  let c0_i32_47 : BitVec 32 := 0#32
  let v62 : BitVec 1 := Scalar.cmpi .ne v61 c0_i32_47
  let v66 : BitVec 1 := Scalar.andi v65 v62
  let v67 : BitVec 32 := Scalar.addi v61 v60
  let v68 : BitVec 32 := Scalar.select v66 v67 v61
  let c1_i32_51 : BitVec 32 := 1#32
  let v69 : BitVec 32 := Scalar.muli v68 c1_i32_51
  let v70 : BitVec 32 := Scalar.addi c0_i32_52 v69
  v70.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v71 : BitVec 32 := Scalar.addi v2 c5_i32
  let c8_i32_53 : BitVec 32 := 8#32
  let c0_i32_54 : BitVec 32 := 0#32
  let v72 : BitVec 1 := Scalar.cmpi .eq c8_i32_53 c0_i32_54
  let c1_i32_55 : BitVec 32 := 1#32
  let v73 : BitVec 32 := Scalar.select v72 c1_i32_55 c8_i32_53
  let v74 : BitVec 32 := Scalar.remsi v71 v73
  let c0_i32_57 : BitVec 32 := 0#32
  let v76 : BitVec 1 := Scalar.cmpi .slt v74 c0_i32_57
  let c0_i32_58 : BitVec 32 := 0#32
  let v77 : BitVec 1 := Scalar.cmpi .slt v73 c0_i32_58
  let v78 : BitVec 1 := Scalar.xori v76 v77
  let c0_i32_56 : BitVec 32 := 0#32
  let v75 : BitVec 1 := Scalar.cmpi .ne v74 c0_i32_56
  let v79 : BitVec 1 := Scalar.andi v78 v75
  let v80 : BitVec 32 := Scalar.addi v74 v73
  let v81 : BitVec 32 := Scalar.select v79 v80 v74
  let c1_i32_60 : BitVec 32 := 1#32
  let v82 : BitVec 32 := Scalar.muli v81 c1_i32_60
  let v83 : BitVec 32 := Scalar.addi c0_i32_61 v82
  v83.toNat
def k0_dev6 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v84 : BitVec 32 := Scalar.addi v2 c6_i32
  let c8_i32_62 : BitVec 32 := 8#32
  let c0_i32_63 : BitVec 32 := 0#32
  let v85 : BitVec 1 := Scalar.cmpi .eq c8_i32_62 c0_i32_63
  let c1_i32_64 : BitVec 32 := 1#32
  let v86 : BitVec 32 := Scalar.select v85 c1_i32_64 c8_i32_62
  let v87 : BitVec 32 := Scalar.remsi v84 v86
  let c0_i32_66 : BitVec 32 := 0#32
  let v89 : BitVec 1 := Scalar.cmpi .slt v87 c0_i32_66
  let c0_i32_67 : BitVec 32 := 0#32
  let v90 : BitVec 1 := Scalar.cmpi .slt v86 c0_i32_67
  let v91 : BitVec 1 := Scalar.xori v89 v90
  let c0_i32_65 : BitVec 32 := 0#32
  let v88 : BitVec 1 := Scalar.cmpi .ne v87 c0_i32_65
  let v92 : BitVec 1 := Scalar.andi v91 v88
  let v93 : BitVec 32 := Scalar.addi v87 v86
  let v94 : BitVec 32 := Scalar.select v92 v93 v87
  let c1_i32_69 : BitVec 32 := 1#32
  let v95 : BitVec 32 := Scalar.muli v94 c1_i32_69
  let v96 : BitVec 32 := Scalar.addi c0_i32_70 v95
  v96.toNat
def k0_dev7 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v97 : BitVec 32 := Scalar.addi v2 c7_i32
  let c8_i32_71 : BitVec 32 := 8#32
  let c0_i32_72 : BitVec 32 := 0#32
  let v98 : BitVec 1 := Scalar.cmpi .eq c8_i32_71 c0_i32_72
  let c1_i32_73 : BitVec 32 := 1#32
  let v99 : BitVec 32 := Scalar.select v98 c1_i32_73 c8_i32_71
  let v100 : BitVec 32 := Scalar.remsi v97 v99
  let c0_i32_75 : BitVec 32 := 0#32
  let v102 : BitVec 1 := Scalar.cmpi .slt v100 c0_i32_75
  let c0_i32_76 : BitVec 32 := 0#32
  let v103 : BitVec 1 := Scalar.cmpi .slt v99 c0_i32_76
  let v104 : BitVec 1 := Scalar.xori v102 v103
  let c0_i32_74 : BitVec 32 := 0#32
  let v101 : BitVec 1 := Scalar.cmpi .ne v100 c0_i32_74
  let v105 : BitVec 1 := Scalar.andi v104 v101
  let v106 : BitVec 32 := Scalar.addi v100 v99
  let v107 : BitVec 32 := Scalar.select v105 v106 v100
  let c1_i32_78 : BitVec 32 := 1#32
  let v108 : BitVec 32 := Scalar.muli v107 c1_i32_78
  let v109 : BitVec 32 := Scalar.addi c0_i32_79 v108
  v109.toNat
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_411 : BitVec 32 := 0#32
  let c0_i32_412 : BitVec 32 := 0#32
  ![v2.toNat, 0, 0]
def k0_off4 (d0 : Dev nD) (c1_i32_401 : BitVec 32) : Fin 2 → Nat :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v460 : BitVec 32 := Scalar.addi v2 c1_i32_401
  let c8_i32_402 : BitVec 32 := 8#32
  let c0_i32_403 : BitVec 32 := 0#32
  let v461 : BitVec 1 := Scalar.cmpi .eq c8_i32_402 c0_i32_403
  let c1_i32_404 : BitVec 32 := 1#32
  let v462 : BitVec 32 := Scalar.select v461 c1_i32_404 c8_i32_402
  let v463 : BitVec 32 := Scalar.remsi v460 v462
  let c0_i32_406 : BitVec 32 := 0#32
  let v465 : BitVec 1 := Scalar.cmpi .slt v463 c0_i32_406
  let c0_i32_407 : BitVec 32 := 0#32
  let v466 : BitVec 1 := Scalar.cmpi .slt v462 c0_i32_407
  let v467 : BitVec 1 := Scalar.xori v465 v466
  let c0_i32_405 : BitVec 32 := 0#32
  let v464 : BitVec 1 := Scalar.cmpi .ne v463 c0_i32_405
  let v468 : BitVec 1 := Scalar.andi v467 v464
  let v469 : BitVec 32 := Scalar.addi v463 v462
  let v470 : BitVec 32 := Scalar.select v468 v469 v463
  let c128_i32 : BitVec 32 := 128#32
  let v471 : BitVec 32 := Scalar.muli v470 c128_i32
  ![0, v471.toNat]
def k0_dev8 (d0 : Dev nD) : Nat :=
  let c0_i32_410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_401 : BitVec 32 := 1#32
  let v460 : BitVec 32 := Scalar.addi v2 c1_i32_401
  let c8_i32_402 : BitVec 32 := 8#32
  let c0_i32_403 : BitVec 32 := 0#32
  let v461 : BitVec 1 := Scalar.cmpi .eq c8_i32_402 c0_i32_403
  let c1_i32_404 : BitVec 32 := 1#32
  let v462 : BitVec 32 := Scalar.select v461 c1_i32_404 c8_i32_402
  let v463 : BitVec 32 := Scalar.remsi v460 v462
  let c0_i32_406 : BitVec 32 := 0#32
  let v465 : BitVec 1 := Scalar.cmpi .slt v463 c0_i32_406
  let c0_i32_407 : BitVec 32 := 0#32
  let v466 : BitVec 1 := Scalar.cmpi .slt v462 c0_i32_407
  let v467 : BitVec 1 := Scalar.xori v465 v466
  let c0_i32_405 : BitVec 32 := 0#32
  let v464 : BitVec 1 := Scalar.cmpi .ne v463 c0_i32_405
  let v468 : BitVec 1 := Scalar.andi v467 v464
  let v469 : BitVec 32 := Scalar.addi v463 v462
  let v470 : BitVec 32 := Scalar.select v468 v469 v463
  let c1_i32_409 : BitVec 32 := 1#32
  let v472 : BitVec 32 := Scalar.muli v470 c1_i32_409
  let v473 : BitVec 32 := Scalar.addi c0_i32_410 v472
  v473.toNat
def k0_dev9 (d0 : Dev nD) : Nat :=
  let c0_i32_424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_414 : BitVec 32 := 2#32
  let v481 : BitVec 32 := Scalar.addi v2 c2_i32_414
  let c8_i32_415 : BitVec 32 := 8#32
  let c0_i32_416 : BitVec 32 := 0#32
  let v482 : BitVec 1 := Scalar.cmpi .eq c8_i32_415 c0_i32_416
  let c1_i32_417 : BitVec 32 := 1#32
  let v483 : BitVec 32 := Scalar.select v482 c1_i32_417 c8_i32_415
  let v484 : BitVec 32 := Scalar.remsi v481 v483
  let c0_i32_419 : BitVec 32 := 0#32
  let v486 : BitVec 1 := Scalar.cmpi .slt v484 c0_i32_419
  let c0_i32_420 : BitVec 32 := 0#32
  let v487 : BitVec 1 := Scalar.cmpi .slt v483 c0_i32_420
  let v488 : BitVec 1 := Scalar.xori v486 v487
  let c0_i32_418 : BitVec 32 := 0#32
  let v485 : BitVec 1 := Scalar.cmpi .ne v484 c0_i32_418
  let v489 : BitVec 1 := Scalar.andi v488 v485
  let v490 : BitVec 32 := Scalar.addi v484 v483
  let v491 : BitVec 32 := Scalar.select v489 v490 v484
  let c1_i32_423 : BitVec 32 := 1#32
  let v493 : BitVec 32 := Scalar.muli v491 c1_i32_423
  let v494 : BitVec 32 := Scalar.addi c0_i32_424 v493
  v494.toNat
def k0_dev10 (d0 : Dev nD) : Nat :=
  let c0_i32_438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_428 : BitVec 32 := 3#32
  let v502 : BitVec 32 := Scalar.addi v2 c3_i32_428
  let c8_i32_429 : BitVec 32 := 8#32
  let c0_i32_430 : BitVec 32 := 0#32
  let v503 : BitVec 1 := Scalar.cmpi .eq c8_i32_429 c0_i32_430
  let c1_i32_431 : BitVec 32 := 1#32
  let v504 : BitVec 32 := Scalar.select v503 c1_i32_431 c8_i32_429
  let v505 : BitVec 32 := Scalar.remsi v502 v504
  let c0_i32_433 : BitVec 32 := 0#32
  let v507 : BitVec 1 := Scalar.cmpi .slt v505 c0_i32_433
  let c0_i32_434 : BitVec 32 := 0#32
  let v508 : BitVec 1 := Scalar.cmpi .slt v504 c0_i32_434
  let v509 : BitVec 1 := Scalar.xori v507 v508
  let c0_i32_432 : BitVec 32 := 0#32
  let v506 : BitVec 1 := Scalar.cmpi .ne v505 c0_i32_432
  let v510 : BitVec 1 := Scalar.andi v509 v506
  let v511 : BitVec 32 := Scalar.addi v505 v504
  let v512 : BitVec 32 := Scalar.select v510 v511 v505
  let c1_i32_437 : BitVec 32 := 1#32
  let v514 : BitVec 32 := Scalar.muli v512 c1_i32_437
  let v515 : BitVec 32 := Scalar.addi c0_i32_438 v514
  v515.toNat
def k0_dev11 (d0 : Dev nD) : Nat :=
  let c0_i32_452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_442 : BitVec 32 := 4#32
  let v523 : BitVec 32 := Scalar.addi v2 c4_i32_442
  let c8_i32_443 : BitVec 32 := 8#32
  let c0_i32_444 : BitVec 32 := 0#32
  let v524 : BitVec 1 := Scalar.cmpi .eq c8_i32_443 c0_i32_444
  let c1_i32_445 : BitVec 32 := 1#32
  let v525 : BitVec 32 := Scalar.select v524 c1_i32_445 c8_i32_443
  let v526 : BitVec 32 := Scalar.remsi v523 v525
  let c0_i32_447 : BitVec 32 := 0#32
  let v528 : BitVec 1 := Scalar.cmpi .slt v526 c0_i32_447
  let c0_i32_448 : BitVec 32 := 0#32
  let v529 : BitVec 1 := Scalar.cmpi .slt v525 c0_i32_448
  let v530 : BitVec 1 := Scalar.xori v528 v529
  let c0_i32_446 : BitVec 32 := 0#32
  let v527 : BitVec 1 := Scalar.cmpi .ne v526 c0_i32_446
  let v531 : BitVec 1 := Scalar.andi v530 v527
  let v532 : BitVec 32 := Scalar.addi v526 v525
  let v533 : BitVec 32 := Scalar.select v531 v532 v526
  let c1_i32_451 : BitVec 32 := 1#32
  let v535 : BitVec 32 := Scalar.muli v533 c1_i32_451
  let v536 : BitVec 32 := Scalar.addi c0_i32_452 v535
  v536.toNat
def k0_dev12 (d0 : Dev nD) : Nat :=
  let c0_i32_466 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_456 : BitVec 32 := 5#32
  let v544 : BitVec 32 := Scalar.addi v2 c5_i32_456
  let c8_i32_457 : BitVec 32 := 8#32
  let c0_i32_458 : BitVec 32 := 0#32
  let v545 : BitVec 1 := Scalar.cmpi .eq c8_i32_457 c0_i32_458
  let c1_i32_459 : BitVec 32 := 1#32
  let v546 : BitVec 32 := Scalar.select v545 c1_i32_459 c8_i32_457
  let v547 : BitVec 32 := Scalar.remsi v544 v546
  let c0_i32_461 : BitVec 32 := 0#32
  let v549 : BitVec 1 := Scalar.cmpi .slt v547 c0_i32_461
  let c0_i32_462 : BitVec 32 := 0#32
  let v550 : BitVec 1 := Scalar.cmpi .slt v546 c0_i32_462
  let v551 : BitVec 1 := Scalar.xori v549 v550
  let c0_i32_460 : BitVec 32 := 0#32
  let v548 : BitVec 1 := Scalar.cmpi .ne v547 c0_i32_460
  let v552 : BitVec 1 := Scalar.andi v551 v548
  let v553 : BitVec 32 := Scalar.addi v547 v546
  let v554 : BitVec 32 := Scalar.select v552 v553 v547
  let c1_i32_465 : BitVec 32 := 1#32
  let v556 : BitVec 32 := Scalar.muli v554 c1_i32_465
  let v557 : BitVec 32 := Scalar.addi c0_i32_466 v556
  v557.toNat
def k0_dev13 (d0 : Dev nD) : Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_470 : BitVec 32 := 6#32
  let v565 : BitVec 32 := Scalar.addi v2 c6_i32_470
  let c8_i32_471 : BitVec 32 := 8#32
  let c0_i32_472 : BitVec 32 := 0#32
  let v566 : BitVec 1 := Scalar.cmpi .eq c8_i32_471 c0_i32_472
  let c1_i32_473 : BitVec 32 := 1#32
  let v567 : BitVec 32 := Scalar.select v566 c1_i32_473 c8_i32_471
  let v568 : BitVec 32 := Scalar.remsi v565 v567
  let c0_i32_475 : BitVec 32 := 0#32
  let v570 : BitVec 1 := Scalar.cmpi .slt v568 c0_i32_475
  let c0_i32_476 : BitVec 32 := 0#32
  let v571 : BitVec 1 := Scalar.cmpi .slt v567 c0_i32_476
  let v572 : BitVec 1 := Scalar.xori v570 v571
  let c0_i32_474 : BitVec 32 := 0#32
  let v569 : BitVec 1 := Scalar.cmpi .ne v568 c0_i32_474
  let v573 : BitVec 1 := Scalar.andi v572 v569
  let v574 : BitVec 32 := Scalar.addi v568 v567
  let v575 : BitVec 32 := Scalar.select v573 v574 v568
  let c1_i32_479 : BitVec 32 := 1#32
  let v577 : BitVec 32 := Scalar.muli v575 c1_i32_479
  let v578 : BitVec 32 := Scalar.addi c0_i32_480 v577
  v578.toNat
def k0_dev14 (d0 : Dev nD) : Nat :=
  let c0_i32_494 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_484 : BitVec 32 := 7#32
  let v586 : BitVec 32 := Scalar.addi v2 c7_i32_484
  let c8_i32_485 : BitVec 32 := 8#32
  let c0_i32_486 : BitVec 32 := 0#32
  let v587 : BitVec 1 := Scalar.cmpi .eq c8_i32_485 c0_i32_486
  let c1_i32_487 : BitVec 32 := 1#32
  let v588 : BitVec 32 := Scalar.select v587 c1_i32_487 c8_i32_485
  let v589 : BitVec 32 := Scalar.remsi v586 v588
  let c0_i32_489 : BitVec 32 := 0#32
  let v591 : BitVec 1 := Scalar.cmpi .slt v589 c0_i32_489
  let c0_i32_490 : BitVec 32 := 0#32
  let v592 : BitVec 1 := Scalar.cmpi .slt v588 c0_i32_490
  let v593 : BitVec 1 := Scalar.xori v591 v592
  let c0_i32_488 : BitVec 32 := 0#32
  let v590 : BitVec 1 := Scalar.cmpi .ne v589 c0_i32_488
  let v594 : BitVec 1 := Scalar.andi v593 v590
  let v595 : BitVec 32 := Scalar.addi v589 v588
  let v596 : BitVec 32 := Scalar.select v594 v595 v589
  let c1_i32_493 : BitVec 32 := 1#32
  let v598 : BitVec 32 := Scalar.muli v596 c1_i32_493
  let v599 : BitVec 32 := Scalar.addi c0_i32_494 v598
  v599.toNat
def k0_off5 (d0 : Dev nD) : Fin 2 → Nat :=
  let c0_499 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_498 : BitVec 32 := 128#32
  let v607 : BitVec 32 := Scalar.muli v2 c128_i32_498
  let v608 : Index := Scalar.indexCast v607
  ![0, v608.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v610 : Index := Scalar.indexCast v2
  let c0_500 : Index := 0#32
  let c0_501 : Index := 0#32
  ![v610.toNat, 0, 0]
def k0_off7 (d0 : Dev nD) (c1_i32_502 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v614 : BitVec 32 := Scalar.addi v2 c1_i32_502
  let c8_i32_503 : BitVec 32 := 8#32
  let c0_i32_504 : BitVec 32 := 0#32
  let v615 : BitVec 1 := Scalar.cmpi .eq c8_i32_503 c0_i32_504
  let c1_i32_505 : BitVec 32 := 1#32
  let v616 : BitVec 32 := Scalar.select v615 c1_i32_505 c8_i32_503
  let v617 : BitVec 32 := Scalar.remsi v614 v616
  let c0_i32_507 : BitVec 32 := 0#32
  let v619 : BitVec 1 := Scalar.cmpi .slt v617 c0_i32_507
  let c0_i32_508 : BitVec 32 := 0#32
  let v620 : BitVec 1 := Scalar.cmpi .slt v616 c0_i32_508
  let v621 : BitVec 1 := Scalar.xori v619 v620
  let c0_i32_506 : BitVec 32 := 0#32
  let v618 : BitVec 1 := Scalar.cmpi .ne v617 c0_i32_506
  let v622 : BitVec 1 := Scalar.andi v621 v618
  let v623 : BitVec 32 := Scalar.addi v617 v616
  let v624 : BitVec 32 := Scalar.select v622 v623 v617
  ![v624.toNat]
def k0_off8 (d0 : Dev nD) (c1_i32_502 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v614 : BitVec 32 := Scalar.addi v2 c1_i32_502
  let c8_i32_503 : BitVec 32 := 8#32
  let c0_i32_504 : BitVec 32 := 0#32
  let v615 : BitVec 1 := Scalar.cmpi .eq c8_i32_503 c0_i32_504
  let c1_i32_505 : BitVec 32 := 1#32
  let v616 : BitVec 32 := Scalar.select v615 c1_i32_505 c8_i32_503
  let v617 : BitVec 32 := Scalar.remsi v614 v616
  let c0_i32_507 : BitVec 32 := 0#32
  let v619 : BitVec 1 := Scalar.cmpi .slt v617 c0_i32_507
  let c0_i32_508 : BitVec 32 := 0#32
  let v620 : BitVec 1 := Scalar.cmpi .slt v616 c0_i32_508
  let v621 : BitVec 1 := Scalar.xori v619 v620
  let c0_i32_506 : BitVec 32 := 0#32
  let v618 : BitVec 1 := Scalar.cmpi .ne v617 c0_i32_506
  let v622 : BitVec 1 := Scalar.andi v621 v618
  let v623 : BitVec 32 := Scalar.addi v617 v616
  let v624 : BitVec 32 := Scalar.select v622 v623 v617
  let c0_i32_512 : BitVec 32 := 0#32
  let c0_i32_513 : BitVec 32 := 0#32
  ![v624.toNat, 0, 0]
def k0_off9 (d0 : Dev nD) : Fin 2 → Nat :=
  let c0_i32_618 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_614 : BitVec 32 := 128#32
  let v766 : BitVec 32 := Scalar.muli v2 c128_i32_614
  ![0, v766.toNat]
def k0_dev15 (d0 : Dev nD) : Nat :=
  let c0_i32_617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_606 : BitVec 32 := 1#32
  let v754 : BitVec 32 := Scalar.addi v2 c1_i32_606
  let c8_i32_607 : BitVec 32 := 8#32
  let c0_i32_608 : BitVec 32 := 0#32
  let v755 : BitVec 1 := Scalar.cmpi .eq c8_i32_607 c0_i32_608
  let c1_i32_609 : BitVec 32 := 1#32
  let v756 : BitVec 32 := Scalar.select v755 c1_i32_609 c8_i32_607
  let v757 : BitVec 32 := Scalar.remsi v754 v756
  let c0_i32_611 : BitVec 32 := 0#32
  let v759 : BitVec 1 := Scalar.cmpi .slt v757 c0_i32_611
  let c0_i32_612 : BitVec 32 := 0#32
  let v760 : BitVec 1 := Scalar.cmpi .slt v756 c0_i32_612
  let v761 : BitVec 1 := Scalar.xori v759 v760
  let c0_i32_610 : BitVec 32 := 0#32
  let v758 : BitVec 1 := Scalar.cmpi .ne v757 c0_i32_610
  let v762 : BitVec 1 := Scalar.andi v761 v758
  let v763 : BitVec 32 := Scalar.addi v757 v756
  let v764 : BitVec 32 := Scalar.select v762 v763 v757
  let c1_i32_616 : BitVec 32 := 1#32
  let v767 : BitVec 32 := Scalar.muli v764 c1_i32_616
  let v768 : BitVec 32 := Scalar.addi c0_i32_617 v767
  v768.toNat
def k0_dev16 (d0 : Dev nD) : Nat :=
  let c0_i32_631 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_620 : BitVec 32 := 2#32
  let v775 : BitVec 32 := Scalar.addi v2 c2_i32_620
  let c8_i32_621 : BitVec 32 := 8#32
  let c0_i32_622 : BitVec 32 := 0#32
  let v776 : BitVec 1 := Scalar.cmpi .eq c8_i32_621 c0_i32_622
  let c1_i32_623 : BitVec 32 := 1#32
  let v777 : BitVec 32 := Scalar.select v776 c1_i32_623 c8_i32_621
  let v778 : BitVec 32 := Scalar.remsi v775 v777
  let c0_i32_625 : BitVec 32 := 0#32
  let v780 : BitVec 1 := Scalar.cmpi .slt v778 c0_i32_625
  let c0_i32_626 : BitVec 32 := 0#32
  let v781 : BitVec 1 := Scalar.cmpi .slt v777 c0_i32_626
  let v782 : BitVec 1 := Scalar.xori v780 v781
  let c0_i32_624 : BitVec 32 := 0#32
  let v779 : BitVec 1 := Scalar.cmpi .ne v778 c0_i32_624
  let v783 : BitVec 1 := Scalar.andi v782 v779
  let v784 : BitVec 32 := Scalar.addi v778 v777
  let v785 : BitVec 32 := Scalar.select v783 v784 v778
  let c1_i32_630 : BitVec 32 := 1#32
  let v788 : BitVec 32 := Scalar.muli v785 c1_i32_630
  let v789 : BitVec 32 := Scalar.addi c0_i32_631 v788
  v789.toNat
def k0_dev17 (d0 : Dev nD) : Nat :=
  let c0_i32_644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_634 : BitVec 32 := 3#32
  let v796 : BitVec 32 := Scalar.addi v2 c3_i32_634
  let c8_i32_635 : BitVec 32 := 8#32
  let c0_i32_636 : BitVec 32 := 0#32
  let v797 : BitVec 1 := Scalar.cmpi .eq c8_i32_635 c0_i32_636
  let c1_i32_637 : BitVec 32 := 1#32
  let v798 : BitVec 32 := Scalar.select v797 c1_i32_637 c8_i32_635
  let v799 : BitVec 32 := Scalar.remsi v796 v798
  let c0_i32_639 : BitVec 32 := 0#32
  let v801 : BitVec 1 := Scalar.cmpi .slt v799 c0_i32_639
  let c0_i32_640 : BitVec 32 := 0#32
  let v802 : BitVec 1 := Scalar.cmpi .slt v798 c0_i32_640
  let v803 : BitVec 1 := Scalar.xori v801 v802
  let c0_i32_638 : BitVec 32 := 0#32
  let v800 : BitVec 1 := Scalar.cmpi .ne v799 c0_i32_638
  let v804 : BitVec 1 := Scalar.andi v803 v800
  let v805 : BitVec 32 := Scalar.addi v799 v798
  let v806 : BitVec 32 := Scalar.select v804 v805 v799
  let c1_i32_643 : BitVec 32 := 1#32
  let v809 : BitVec 32 := Scalar.muli v806 c1_i32_643
  let v810 : BitVec 32 := Scalar.addi c0_i32_644 v809
  v810.toNat
def k0_dev18 (d0 : Dev nD) : Nat :=
  let c0_i32_657 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_647 : BitVec 32 := 4#32
  let v817 : BitVec 32 := Scalar.addi v2 c4_i32_647
  let c8_i32_648 : BitVec 32 := 8#32
  let c0_i32_649 : BitVec 32 := 0#32
  let v818 : BitVec 1 := Scalar.cmpi .eq c8_i32_648 c0_i32_649
  let c1_i32_650 : BitVec 32 := 1#32
  let v819 : BitVec 32 := Scalar.select v818 c1_i32_650 c8_i32_648
  let v820 : BitVec 32 := Scalar.remsi v817 v819
  let c0_i32_652 : BitVec 32 := 0#32
  let v822 : BitVec 1 := Scalar.cmpi .slt v820 c0_i32_652
  let c0_i32_653 : BitVec 32 := 0#32
  let v823 : BitVec 1 := Scalar.cmpi .slt v819 c0_i32_653
  let v824 : BitVec 1 := Scalar.xori v822 v823
  let c0_i32_651 : BitVec 32 := 0#32
  let v821 : BitVec 1 := Scalar.cmpi .ne v820 c0_i32_651
  let v825 : BitVec 1 := Scalar.andi v824 v821
  let v826 : BitVec 32 := Scalar.addi v820 v819
  let v827 : BitVec 32 := Scalar.select v825 v826 v820
  let c1_i32_656 : BitVec 32 := 1#32
  let v830 : BitVec 32 := Scalar.muli v827 c1_i32_656
  let v831 : BitVec 32 := Scalar.addi c0_i32_657 v830
  v831.toNat
def k0_dev19 (d0 : Dev nD) : Nat :=
  let c0_i32_670 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_660 : BitVec 32 := 5#32
  let v838 : BitVec 32 := Scalar.addi v2 c5_i32_660
  let c8_i32_661 : BitVec 32 := 8#32
  let c0_i32_662 : BitVec 32 := 0#32
  let v839 : BitVec 1 := Scalar.cmpi .eq c8_i32_661 c0_i32_662
  let c1_i32_663 : BitVec 32 := 1#32
  let v840 : BitVec 32 := Scalar.select v839 c1_i32_663 c8_i32_661
  let v841 : BitVec 32 := Scalar.remsi v838 v840
  let c0_i32_665 : BitVec 32 := 0#32
  let v843 : BitVec 1 := Scalar.cmpi .slt v841 c0_i32_665
  let c0_i32_666 : BitVec 32 := 0#32
  let v844 : BitVec 1 := Scalar.cmpi .slt v840 c0_i32_666
  let v845 : BitVec 1 := Scalar.xori v843 v844
  let c0_i32_664 : BitVec 32 := 0#32
  let v842 : BitVec 1 := Scalar.cmpi .ne v841 c0_i32_664
  let v846 : BitVec 1 := Scalar.andi v845 v842
  let v847 : BitVec 32 := Scalar.addi v841 v840
  let v848 : BitVec 32 := Scalar.select v846 v847 v841
  let c1_i32_669 : BitVec 32 := 1#32
  let v851 : BitVec 32 := Scalar.muli v848 c1_i32_669
  let v852 : BitVec 32 := Scalar.addi c0_i32_670 v851
  v852.toNat
def k0_dev20 (d0 : Dev nD) : Nat :=
  let c0_i32_683 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_673 : BitVec 32 := 6#32
  let v859 : BitVec 32 := Scalar.addi v2 c6_i32_673
  let c8_i32_674 : BitVec 32 := 8#32
  let c0_i32_675 : BitVec 32 := 0#32
  let v860 : BitVec 1 := Scalar.cmpi .eq c8_i32_674 c0_i32_675
  let c1_i32_676 : BitVec 32 := 1#32
  let v861 : BitVec 32 := Scalar.select v860 c1_i32_676 c8_i32_674
  let v862 : BitVec 32 := Scalar.remsi v859 v861
  let c0_i32_678 : BitVec 32 := 0#32
  let v864 : BitVec 1 := Scalar.cmpi .slt v862 c0_i32_678
  let c0_i32_679 : BitVec 32 := 0#32
  let v865 : BitVec 1 := Scalar.cmpi .slt v861 c0_i32_679
  let v866 : BitVec 1 := Scalar.xori v864 v865
  let c0_i32_677 : BitVec 32 := 0#32
  let v863 : BitVec 1 := Scalar.cmpi .ne v862 c0_i32_677
  let v867 : BitVec 1 := Scalar.andi v866 v863
  let v868 : BitVec 32 := Scalar.addi v862 v861
  let v869 : BitVec 32 := Scalar.select v867 v868 v862
  let c1_i32_682 : BitVec 32 := 1#32
  let v872 : BitVec 32 := Scalar.muli v869 c1_i32_682
  let v873 : BitVec 32 := Scalar.addi c0_i32_683 v872
  v873.toNat
def k0_dev21 (d0 : Dev nD) : Nat :=
  let c0_i32_696 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_686 : BitVec 32 := 7#32
  let v880 : BitVec 32 := Scalar.addi v2 c7_i32_686
  let c8_i32_687 : BitVec 32 := 8#32
  let c0_i32_688 : BitVec 32 := 0#32
  let v881 : BitVec 1 := Scalar.cmpi .eq c8_i32_687 c0_i32_688
  let c1_i32_689 : BitVec 32 := 1#32
  let v882 : BitVec 32 := Scalar.select v881 c1_i32_689 c8_i32_687
  let v883 : BitVec 32 := Scalar.remsi v880 v882
  let c0_i32_691 : BitVec 32 := 0#32
  let v885 : BitVec 1 := Scalar.cmpi .slt v883 c0_i32_691
  let c0_i32_692 : BitVec 32 := 0#32
  let v886 : BitVec 1 := Scalar.cmpi .slt v882 c0_i32_692
  let v887 : BitVec 1 := Scalar.xori v885 v886
  let c0_i32_690 : BitVec 32 := 0#32
  let v884 : BitVec 1 := Scalar.cmpi .ne v883 c0_i32_690
  let v888 : BitVec 1 := Scalar.andi v887 v884
  let v889 : BitVec 32 := Scalar.addi v883 v882
  let v890 : BitVec 32 := Scalar.select v888 v889 v883
  let c1_i32_695 : BitVec 32 := 1#32
  let v893 : BitVec 32 := Scalar.muli v890 c1_i32_695
  let v894 : BitVec 32 := Scalar.addi c0_i32_696 v893
  v894.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x256x1024 : Shape := ⟨3, ![1, 256, 1024]⟩
abbrev S1024x8192 : Shape := ⟨2, ![1024, 8192]⟩
abbrev S8192x1024 : Shape := ⟨2, ![8192, 1024]⟩
abbrev S1x4096x64x128 : Shape := ⟨4, ![1, 4096, 64, 128]⟩
abbrev S1x256x8192 : Shape := ⟨3, ![1, 256, 8192]⟩
abbrev S1x256x64x128 : Shape := ⟨4, ![1, 256, 64, 128]⟩
abbrev S_ : Shape := ⟨0, ![]⟩
abbrev S1x64x256x1 : Shape := ⟨4, ![1, 64, 256, 1]⟩
abbrev S1x1024x64x128 : Shape := ⟨4, ![1, 1024, 64, 128]⟩
abbrev S1x64x256x1024 : Shape := ⟨4, ![1, 64, 256, 1024]⟩
abbrev S1x64x256 : Shape := ⟨3, ![1, 64, 256]⟩
abbrev S1x256x64x1 : Shape := ⟨4, ![1, 256, 64, 1]⟩
abbrev S1x64x128x256 : Shape := ⟨4, ![1, 64, 128, 256]⟩

abbrev nBuf : Space → Nat
  | .hbm => 122
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x8192, .f32⟩
  | .hbm, ⟨2, _⟩ => ⟨S8192x1024, .f32⟩
  | .hbm, ⟨3, _⟩ => ⟨S1x4096x64x128, .f32⟩
  | .hbm, ⟨4, _⟩ => ⟨S1x4096x64x128, .f32⟩
  | .hbm, ⟨5, _⟩ => ⟨S1x256x8192, .f32⟩
  | .hbm, ⟨6, _⟩ => ⟨S1x256x64x128, .f32⟩
  | .hbm, ⟨7, _⟩ => ⟨S_, .f32⟩
  | .hbm, ⟨8, _⟩ => ⟨S1x256x64x128, .f32⟩
  | .hbm, ⟨9, _⟩ => ⟨S_, .f32⟩
  | .hbm, ⟨10, _⟩ => ⟨S1x64x256x1, .f32⟩
  | .hbm, ⟨11, _⟩ => ⟨S_, .f32⟩
  | .hbm, ⟨12, _⟩ => ⟨S1x64x256x1, .f32⟩
  | .hbm, ⟨13, _⟩ => ⟨S1x1024x64x128, .f32⟩
  | .hbm, ⟨14, _⟩ => ⟨S1x1024x64x128, .f32⟩
  | .hbm, ⟨15, _⟩ => ⟨S1x64x256x1024, .f32⟩
  | .hbm, ⟨16, _⟩ => ⟨S_, .f32⟩
  | .hbm, ⟨17, _⟩ => ⟨S1x64x256x1024, .f32⟩
  | .hbm, ⟨18, _⟩ => ⟨S1x64x256x1024, .f32⟩
  | .hbm, ⟨19, _⟩ => ⟨S_, .f32⟩
  | .hbm, ⟨20, _⟩ => ⟨S1x64x256, .f32⟩
  | .hbm, ⟨21, _⟩ => ⟨S1x64x256x1, .f32⟩
  | .hbm, ⟨22, _⟩ => ⟨S1x64x256x1, .f32⟩
  | .hbm, ⟨23, _⟩ => ⟨S1x64x256x1, .f32⟩
  | .hbm, ⟨24, _⟩ => ⟨S1x64x256x1, .f32⟩
  | .hbm, ⟨25, _⟩ => ⟨S1x64x256x1024, .f32⟩
  | .hbm, ⟨26, _⟩ => ⟨S1x64x256x1024, .f32⟩
  | .hbm, ⟨27, _⟩ => ⟨S1x64x256x1024, .f32⟩
  | .hbm, ⟨28, _⟩ => ⟨S1x64x256x1, .f32⟩
  | .hbm, ⟨29, _⟩ => ⟨S_, .f32⟩
  | .hbm, ⟨30, _⟩ => ⟨S1x64x256, .f32⟩
  | .hbm, ⟨31, _⟩ => ⟨S1x64x256x1, .f32⟩
  | .hbm, ⟨32, _⟩ => ⟨S1x64x256x1, .f32⟩
  | .hbm, ⟨33, _⟩ => ⟨S1x256x64x1, .f32⟩
  | .hbm, ⟨34, _⟩ => ⟨S1x256x64x128, .f32⟩
  | .hbm, ⟨35, _⟩ => ⟨S1x256x64x128, .f32⟩
  | .hbm, ⟨36, _⟩ => ⟨S1x64x128x256, .f32⟩
  | .hbm, ⟨37, _⟩ => ⟨S1x256x64x128, .f32⟩
  | .hbm, ⟨38, _⟩ => ⟨S1x256x64x128, .f32⟩
  | .hbm, ⟨39, _⟩ => ⟨S1x1024x64x128, .f32⟩
  | .hbm, ⟨40, _⟩ => ⟨S1x1024x64x128, .f32⟩
  | .hbm, ⟨41, _⟩ => ⟨S1x64x256x1024, .f32⟩
  | .hbm, ⟨42, _⟩ => ⟨S_, .f32⟩
  | .hbm, ⟨43, _⟩ => ⟨S1x64x256x1024, .f32⟩
  | .hbm, ⟨44, _⟩ => ⟨S1x64x256x1024, .f32⟩
  | .hbm, ⟨45, _⟩ => ⟨S_, .f32⟩
  | .hbm, ⟨46, _⟩ => ⟨S1x64x256, .f32⟩
  | .hbm, ⟨47, _⟩ => ⟨S1x64x256x1, .f32⟩
  | .hbm, ⟨48, _⟩ => ⟨S1x64x256x1, .f32⟩
  | .hbm, ⟨49, _⟩ => ⟨S1x64x256x1, .f32⟩
  | .hbm, ⟨50, _⟩ => ⟨S1x64x256x1, .f32⟩
  | .hbm, ⟨51, _⟩ => ⟨S1x64x256x1024, .f32⟩
  | .hbm, ⟨52, _⟩ => ⟨S1x64x256x1024, .f32⟩
  | .hbm, ⟨53, _⟩ => ⟨S1x64x256x1024, .f32⟩
  | .hbm, ⟨54, _⟩ => ⟨S1x64x256x1, .f32⟩
  | .hbm, ⟨55, _⟩ => ⟨S_, .f32⟩
  | .hbm, ⟨56, _⟩ => ⟨S1x64x256, .f32⟩
  | .hbm, ⟨57, _⟩ => ⟨S1x64x256x1, .f32⟩
  | .hbm, ⟨58, _⟩ => ⟨S1x64x256x1, .f32⟩
  | .hbm, ⟨59, _⟩ => ⟨S1x256x64x1, .f32⟩
  | .hbm, ⟨60, _⟩ => ⟨S1x256x64x128, .f32⟩
  | .hbm, ⟨61, _⟩ => ⟨S1x256x64x128, .f32⟩
  | .hbm, ⟨62, _⟩ => ⟨S1x64x128x256, .f32⟩
  | .hbm, ⟨63, _⟩ => ⟨S1x256x64x128, .f32⟩
  | .hbm, ⟨64, _⟩ => ⟨S1x256x64x128, .f32⟩
  | .hbm, ⟨65, _⟩ => ⟨S1x1024x64x128, .f32⟩
  | .hbm, ⟨66, _⟩ => ⟨S1x1024x64x128, .f32⟩
  | .hbm, ⟨67, _⟩ => ⟨S1x64x256x1024, .f32⟩
  | .hbm, ⟨68, _⟩ => ⟨S_, .f32⟩
  | .hbm, ⟨69, _⟩ => ⟨S1x64x256x1024, .f32⟩
  | .hbm, ⟨70, _⟩ => ⟨S1x64x256x1024, .f32⟩
  | .hbm, ⟨71, _⟩ => ⟨S_, .f32⟩
  | .hbm, ⟨72, _⟩ => ⟨S1x64x256, .f32⟩
  | .hbm, ⟨73, _⟩ => ⟨S1x64x256x1, .f32⟩
  | .hbm, ⟨74, _⟩ => ⟨S1x64x256x1, .f32⟩
  | .hbm, ⟨75, _⟩ => ⟨S1x64x256x1, .f32⟩
  | .hbm, ⟨76, _⟩ => ⟨S1x64x256x1, .f32⟩
  | .hbm, ⟨77, _⟩ => ⟨S1x64x256x1024, .f32⟩
  | .hbm, ⟨78, _⟩ => ⟨S1x64x256x1024, .f32⟩
  | .hbm, ⟨79, _⟩ => ⟨S1x64x256x1024, .f32⟩
  | .hbm, ⟨80, _⟩ => ⟨S1x64x256x1, .f32⟩
  | .hbm, ⟨81, _⟩ => ⟨S_, .f32⟩
  | .hbm, ⟨82, _⟩ => ⟨S1x64x256, .f32⟩
  | .hbm, ⟨83, _⟩ => ⟨S1x64x256x1, .f32⟩
  | .hbm, ⟨84, _⟩ => ⟨S1x64x256x1, .f32⟩
  | .hbm, ⟨85, _⟩ => ⟨S1x256x64x1, .f32⟩
  | .hbm, ⟨86, _⟩ => ⟨S1x256x64x128, .f32⟩
  | .hbm, ⟨87, _⟩ => ⟨S1x256x64x128, .f32⟩
  | .hbm, ⟨88, _⟩ => ⟨S1x64x128x256, .f32⟩
  | .hbm, ⟨89, _⟩ => ⟨S1x256x64x128, .f32⟩
  | .hbm, ⟨90, _⟩ => ⟨S1x256x64x128, .f32⟩
  | .hbm, ⟨91, _⟩ => ⟨S1x1024x64x128, .f32⟩
  | .hbm, ⟨92, _⟩ => ⟨S1x1024x64x128, .f32⟩
  | .hbm, ⟨93, _⟩ => ⟨S1x64x256x1024, .f32⟩
  | .hbm, ⟨94, _⟩ => ⟨S_, .f32⟩
  | .hbm, ⟨95, _⟩ => ⟨S1x64x256x1024, .f32⟩
  | .hbm, ⟨96, _⟩ => ⟨S1x64x256x1024, .f32⟩
  | .hbm, ⟨97, _⟩ => ⟨S_, .f32⟩
  | .hbm, ⟨98, _⟩ => ⟨S1x64x256, .f32⟩
  | .hbm, ⟨99, _⟩ => ⟨S1x64x256x1, .f32⟩
  | .hbm, ⟨100, _⟩ => ⟨S1x64x256x1, .f32⟩
  | .hbm, ⟨101, _⟩ => ⟨S1x64x256x1, .f32⟩
  | .hbm, ⟨102, _⟩ => ⟨S1x64x256x1, .f32⟩
  | .hbm, ⟨103, _⟩ => ⟨S1x64x256x1024, .f32⟩
  | .hbm, ⟨104, _⟩ => ⟨S1x64x256x1024, .f32⟩
  | .hbm, ⟨105, _⟩ => ⟨S1x64x256x1024, .f32⟩
  | .hbm, ⟨106, _⟩ => ⟨S1x64x256x1, .f32⟩
  | .hbm, ⟨107, _⟩ => ⟨S_, .f32⟩
  | .hbm, ⟨108, _⟩ => ⟨S1x64x256, .f32⟩
  | .hbm, ⟨109, _⟩ => ⟨S1x64x256x1, .f32⟩
  | .hbm, ⟨110, _⟩ => ⟨S1x64x256x1, .f32⟩
  | .hbm, ⟨111, _⟩ => ⟨S1x256x64x1, .f32⟩
  | .hbm, ⟨112, _⟩ => ⟨S1x256x64x128, .f32⟩
  | .hbm, ⟨113, _⟩ => ⟨S1x256x64x128, .f32⟩
  | .hbm, ⟨114, _⟩ => ⟨S1x64x128x256, .f32⟩
  | .hbm, ⟨115, _⟩ => ⟨S1x256x64x128, .f32⟩
  | .hbm, ⟨116, _⟩ => ⟨S1x256x64x128, .f32⟩
  | .hbm, ⟨117, _⟩ => ⟨S1x256x64x1, .f32⟩
  | .hbm, ⟨118, _⟩ => ⟨S1x256x64x128, .f32⟩
  | .hbm, ⟨119, _⟩ => ⟨S1x256x64x128, .f32⟩
  | .hbm, ⟨120, _⟩ => ⟨S1x256x8192, .f32⟩
  | .hbm, ⟨121, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_11 : Ref sig .tc := ⟨.hbm, 94, rfl⟩
abbrev main_v77 : Ref sig .tc := ⟨.hbm, 95, rfl⟩
abbrev main_v78 : Ref sig .tc := ⟨.hbm, 96, rfl⟩
abbrev main_cst_12 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_13 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩

abbrev nD : Nat := 1
abbrev τ : Topo := Topo.v7x

variable {F : FTy → Type} [FloatOps F]
-- ==== Proof.Geom.lean ====
/-
# The kernel's places: peers, slots, chunks, and what a copy leaves

Each device talks to its seven peers in the order `pr c 1, …, pr c 7`. The kernel names devices, semaphores and
sub-rectangles by word arithmetic on its own number; this module gives each of those a closed form, says which
elements each sub-rectangle holds, and computes what a copy between two of them leaves.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.Pipeline.ValueKit.Geometry
public import Idealize.ShloMosaic.Lib.Tactic

@[expose] public section

noncomputable section

namespace Cert.KernelIdeal.Pf

open Cert.KernelIdeal Cert.KernelIdeal.Gen
open Idealize.ShloMosaic
open Idealize.ShloMosaic.TcCoe
open Idealize.ShloMosaic.ValueIdx

variable {F : FTy → Type} [FloatOps F]

/-! ## Peers -/

set_option backward.proofsInPublic true in
/-- The device `k` places after `c`, counted round the eight. -/
def pr (c : Dev nD) (k : ℕ) : Dev nD := ⟨(c.val + k) % 8, Nat.mod_lt _ (by decide)⟩

theorem pr_zero (c : Dev nD) : pr c 0 = c := by revert c; decide
theorem pr_ne (c : Dev nD) (k : Fin 7) : pr c (k.val + 1) ≠ c := by revert c k; decide

theorem sdev1 (c : Dev nD) : (⟨k0_dev1 c, k0_dev1_lt c⟩ : Dev nD) = pr c 1 := by revert c; decide +kernel
theorem sdev2 (c : Dev nD) : (⟨k0_dev2 c, k0_dev2_lt c⟩ : Dev nD) = pr c 2 := by revert c; decide +kernel
theorem sdev3 (c : Dev nD) : (⟨k0_dev3 c, k0_dev3_lt c⟩ : Dev nD) = pr c 3 := by revert c; decide +kernel
theorem sdev4 (c : Dev nD) : (⟨k0_dev4 c, k0_dev4_lt c⟩ : Dev nD) = pr c 4 := by revert c; decide +kernel
theorem sdev5 (c : Dev nD) : (⟨k0_dev5 c, k0_dev5_lt c⟩ : Dev nD) = pr c 5 := by revert c; decide +kernel
theorem sdev6 (c : Dev nD) : (⟨k0_dev6 c, k0_dev6_lt c⟩ : Dev nD) = pr c 6 := by revert c; decide +kernel
theorem sdev7 (c : Dev nD) : (⟨k0_dev7 c, k0_dev7_lt c⟩ : Dev nD) = pr c 7 := by revert c; decide +kernel
theorem rdev1 (c : Dev nD) : (⟨k0_dev8 c, k0_dev8_lt c⟩ : Dev nD) = pr c 1 := by revert c; decide +kernel
theorem rdev2 (c : Dev nD) : (⟨k0_dev9 c, k0_dev9_lt c⟩ : Dev nD) = pr c 2 := by revert c; decide +kernel
theorem rdev3 (c : Dev nD) : (⟨k0_dev10 c, k0_dev10_lt c⟩ : Dev nD) = pr c 3 := by revert c; decide +kernel
theorem rdev4 (c : Dev nD) : (⟨k0_dev11 c, k0_dev11_lt c⟩ : Dev nD) = pr c 4 := by revert c; decide +kernel
theorem rdev5 (c : Dev nD) : (⟨k0_dev12 c, k0_dev12_lt c⟩ : Dev nD) = pr c 5 := by revert c; decide +kernel
theorem rdev6 (c : Dev nD) : (⟨k0_dev13 c, k0_dev13_lt c⟩ : Dev nD) = pr c 6 := by revert c; decide +kernel
theorem rdev7 (c : Dev nD) : (⟨k0_dev14 c, k0_dev14_lt c⟩ : Dev nD) = pr c 7 := by revert c; decide +kernel
theorem gdev1 (c : Dev nD) : (⟨k0_dev15 c, k0_dev15_lt c⟩ : Dev nD) = pr c 1 := by revert c; decide +kernel
theorem gdev2 (c : Dev nD) : (⟨k0_dev16 c, k0_dev16_lt c⟩ : Dev nD) = pr c 2 := by revert c; decide +kernel
theorem gdev3 (c : Dev nD) : (⟨k0_dev17 c, k0_dev17_lt c⟩ : Dev nD) = pr c 3 := by revert c; decide +kernel
theorem gdev4 (c : Dev nD) : (⟨k0_dev18 c, k0_dev18_lt c⟩ : Dev nD) = pr c 4 := by revert c; decide +kernel
theorem gdev5 (c : Dev nD) : (⟨k0_dev19 c, k0_dev19_lt c⟩ : Dev nD) = pr c 5 := by revert c; decide +kernel
theorem gdev6 (c : Dev nD) : (⟨k0_dev20 c, k0_dev20_lt c⟩ : Dev nD) = pr c 6 := by revert c; decide +kernel
theorem gdev7 (c : Dev nD) : (⟨k0_dev21 c, k0_dev21_lt c⟩ : Dev nD) = pr c 7 := by revert c; decide +kernel

/-! ## Offsets -/

theorem off4_eq (c : Dev nD) (k : Fin 7) : k0_off4 c (BitVec.ofNat 32 (1 + k.val)) = ![0, 128 * (pr c (k.val + 1)).val] := by
  revert c k; decide +kernel
theorem off7_eq (c : Dev nD) (k : Fin 7) : k0_off7 c (BitVec.ofNat 32 (1 + k.val)) = ![(pr c (k.val + 1)).val] := by
  revert c k; decide +kernel
theorem off8_eq (c : Dev nD) (k : Fin 7) : k0_off8 c (BitVec.ofNat 32 (1 + k.val)) = ![(pr c (k.val + 1)).val, 0, 0] := by
  revert c k; decide +kernel

/-! ## Buffers and their pieces -/

abbrev kM : Memref sig .tc .vmem S2x4096x128 .f32 := Memref.whole cc0_scratch0
abbrev vM : Memref sig .tc .vmem S2x4096x128 .f32 := Memref.whole cc0_scratch1
abbrev accM : Memref sig .tc .vmem S256x1024 .f32 := Memref.whole cc0_scratch2
abbrev rsM : Memref sig .tc .vmem S8x256x128 .f32 := Memref.whole cc0_scratch3
abbrev agM : Memref sig .tc .vmem S256x1024 .f32 := Memref.whole cc0_scratch4
abbrev KM : Memref sig .tc .hbm S1x4096x64x128 .f32 := Memref.whole main_arg3
abbrev VM : Memref sig .tc .hbm S1x4096x64x128 .f32 := Memref.whole main_arg4

theorem slot_inb (s : Fin 8) : ∀ a, (![s.val, 0, 0] : Fin 3 → ℕ) a + S1x256x128.size a ≤ S8x256x128.size a := by
  revert s; decide
theorem chunk_inb (s : Fin 8) : ∀ a, (![0, 128 * s.val] : Fin 2 → ℕ) a + S256x128.size a ≤ S256x1024.size a := by
  revert s; decide
theorem half_inb (b : Fin 2) : ∀ a, (![b.val, 0, 0] : Fin 3 → ℕ) a + S1x4096x128.size a ≤ S2x4096x128.size a := by
  revert b; decide

/-- Slot `s` of a buffer of eight blocks, as a block. -/
abbrev slotOf (M : Memref sig .tc .vmem S8x256x128 .f32) (s : Fin 8) : Memref sig .tc .vmem S256x128 .f32 :=
  (M.slice (Rect.unit (s := S8x256x128) ![s.val, 0, 0] S1x256x128.size (slot_inb s)) (fun _ => rfl)).squeeze S256x128 squeezes_S1x256x128_S256x128
/-- Column chunk `s` of a buffer of eight chunks side by side. -/
abbrev chunkOf (M : Memref sig .tc .vmem S256x1024 .f32) (s : Fin 8) : Memref sig .tc .vmem S256x128 .f32 :=
  M.slice (Rect.unit (s := S256x1024) ![0, 128 * s.val] S256x128.size (chunk_inb s)) (fun _ => rfl)
/-- Half `b` of a double buffer, as one block. -/
abbrev halfOf (M : Memref sig .tc .vmem S2x4096x128 .f32) (b : Fin 2) : Memref sig .tc .vmem S4096x128 .f32 :=
  (M.slice (Rect.unit (s := S2x4096x128) ![b.val, 0, 0] S1x4096x128.size (half_inb b)) (fun _ => rfl)).squeeze S4096x128 squeezes_S1x4096x128_S4096x128
/-- Head `h` of device `c`'s eight, out of the array of all the heads. -/
abbrev headOf (M : Memref sig .tc .hbm S1x4096x64x128 .f32) (c : Dev nD) (h : Fin 8) : Memref sig .tc .hbm S4096x128 .f32 :=
  (M.slice (Rect.unit (s := S1x4096x64x128) (k0_off1 c (BitVec.ofNat 32 h.val)) S1x4096x1x128.size (k0_off1_inb c h)) (fun _ => rfl)).squeeze
    S4096x128 squeezes_S1x4096x1x128_S4096x128

def slotS (s : Fin 8) : Finset S8x256x128.Idx := (slotOf rsM s).view.set
def chunkS (s : Fin 8) : Finset S256x1024.Idx := (chunkOf accM s).view.set
def halfS (b : Fin 2) : Finset S2x4096x128.Idx := (halfOf kM b).view.set

theorem mem_slotS (s : Fin 8) (i : S8x256x128.Idx) : i ∈ slotS s ↔ (i 0).val = s.val := by
  unfold slotS
  rw [show (slotOf rsM s).view.set = (Rect.unit (s := S8x256x128) ![s.val, 0, 0] S1x256x128.size (slot_inb s)).set from
    (View.set_reshape _ _).trans (View.set_slice_whole _ _), Rect.mem_set_unit]
  have h1 : (i 1).val < 256 := (i 1).isLt
  have h2 : (i 2).val < 128 := (i 2).isLt
  constructor
  · intro h; have := h 0; simp [S1x256x128] at this; omega
  · intro h a; fin_cases a <;> simp [S1x256x128] <;> omega

theorem mem_chunkS (s : Fin 8) (i : S256x1024.Idx) : i ∈ chunkS s ↔ (i 1).val / 128 = s.val := by
  unfold chunkS
  rw [show (chunkOf accM s).view.set = (Rect.unit (s := S256x1024) ![0, 128 * s.val] S256x128.size (chunk_inb s)).set from
    View.set_slice_whole _ _, Rect.mem_set_unit]
  have h0 : (i 0).val < 256 := (i 0).isLt
  constructor
  · intro h; have := h 1; simp [S256x128] at this; omega
  · intro h a; fin_cases a <;> simp [S256x128] <;> omega

theorem mem_halfS (b : Fin 2) (i : S2x4096x128.Idx) : i ∈ halfS b ↔ (i 0).val = b.val := by
  unfold halfS
  rw [show (halfOf kM b).view.set = (Rect.unit (s := S2x4096x128) ![b.val, 0, 0] S1x4096x128.size (half_inb b)).set from
    (View.set_reshape _ _).trans (View.set_slice_whole _ _), Rect.mem_set_unit]
  have h1 : (i 1).val < 4096 := (i 1).isLt
  have h2 : (i 2).val < 128 := (i 2).isLt
  constructor
  · intro h; have := h 0; simp [S1x4096x128] at this; omega
  · intro h a; fin_cases a <;> simp [S1x4096x128] <;> omega

theorem set_slot (s : Fin 8) : (slotOf rsM s).view.set = slotS s := rfl
theorem set_chunk_acc (s : Fin 8) : (chunkOf accM s).view.set = chunkS s := rfl
theorem set_chunk_ag (s : Fin 8) : (chunkOf agM s).view.set = chunkS s := rfl
theorem set_half_k (b : Fin 2) : (halfOf kM b).view.set = halfS b := rfl
theorem set_half_v (b : Fin 2) : (halfOf vM b).view.set = halfS b := rfl

/-! ### Where an index of a piece lies in the buffer -/

theorem slot_emb (s : Fin 8) (x : Fin 256) (y : Fin 128) :
    (slotOf rsM s).view.emb (ix2 x y) = (ix3 s x y : S8x256x128.Idx) := by
  show (Rect.unit (s := S8x256x128) ![s.val, 0, 0] S1x256x128.size (slot_inb s)).emb (Shape.reshapeEquiv _ (ix2 x y)) = _
  rw [reshapeEquiv_ix2_1ab]
  funext a; fin_cases a <;> apply Fin.ext <;> rw [ValueKit.rect_emb_unit_val] <;> simp

theorem chunk_emb (s : Fin 8) (x : Fin 256) (y : Fin 128) :
    (chunkOf accM s).view.emb (ix2 x y) = (ix2 x ⟨128 * s.val + y.val, by omega⟩ : S256x1024.Idx) := by
  show (Rect.unit (s := S256x1024) ![0, 128 * s.val] S256x128.size (chunk_inb s)).emb (ix2 x y) = _
  funext a; fin_cases a <;> apply Fin.ext <;> rw [ValueKit.rect_emb_unit_val] <;> simp

theorem half_emb (b : Fin 2) (x : Fin 4096) (y : Fin 128) :
    (halfOf kM b).view.emb (ix2 x y) = (ix3 b x y : S2x4096x128.Idx) := by
  show (Rect.unit (s := S2x4096x128) ![b.val, 0, 0] S1x4096x128.size (half_inb b)).emb (Shape.reshapeEquiv _ (ix2 x y)) = _
  rw [reshapeEquiv_ix2_1ab]
  funext a; fin_cases a <;> apply Fin.ext <;> rw [ValueKit.rect_emb_unit_val] <;> simp

/-- The place of head `h` of device `c` among the sixty-four. -/
def hd (c : Dev nD) (h : Fin 8) : Fin 64 := ⟨8 * c.val + h.val, by have := c.isLt; have := h.isLt; simp only [nD] at *; omega⟩

theorem unit1 (x : Fin 4096) (y : Fin 128) (h : (⟨2, ![4096, 128]⟩ : Shape).numel = (⟨4, ![1, 4096, 1, 128]⟩ : Shape).numel) :
    Shape.reshapeEquiv h (ix2 x y) = ix4 (0 : Fin 1) x (0 : Fin 1) y :=
  Shape.reshapeEquiv_eq_of_rowMajor h (by
    rw [Shape.rowMajor_val_four, Shape.rowMajor_val_two]
    show (((0 * 4096 + x.val) * 1 + 0) * 128 + y.val) = x.val * 128 + y.val
    omega)

theorem head_emb (c : Dev nD) (h : Fin 8) (x : Fin 4096) (y : Fin 128) :
    (headOf KM c h).view.emb (ix2 x y) = (ix4 (0 : Fin 1) x (hd c h) y : S1x4096x64x128.Idx) := by
  show (Rect.unit (s := S1x4096x64x128) (k0_off1 c (BitVec.ofNat 32 h.val)) S1x4096x1x128.size (k0_off1_inb c h)).emb (Shape.reshapeEquiv _ (ix2 x y)) = _
  rw [unit1]
  funext a; apply Fin.ext; rw [ValueKit.rect_emb_unit_val]
  refine Eq.trans (congrArg (· + _) (congrFun (k0_off1_eq c h) a)) ?_
  fin_cases a <;> simp [hd]

/-! ### What a copy leaves -/

/-- A copy leaves in every element of the destination what the target contents `G` hold there, if it does so
    index by index. -/
theorem copy_at {sp sp' : Space} {s : Shape} {src : Memref sig .tc sp s .f32} {dst : Memref sig .tc sp' s .f32}
    (fs : src.view.ty.Contents (Elt F)) (fd G : dst.view.ty.Contents (Elt F))
    (h : ∀ j : s.Idx, dst.view.read (Elt F) G j = src.view.read (Elt F) fs j) :
    ∀ i ∈ dst.view.set, dst.view.write (Elt F) fd (src.view.read (Elt F) fs) Finset.univ i = G i := by
  intro i hi
  obtain ⟨j, -, rfl⟩ := Finset.mem_map.mp hi
  rw [View.write_emb_of_mem _ _ (Finset.mem_univ _), ← h, View.read_apply, cast_cast, cast_eq]

theorem ex_ix2 {a b : ℕ} (j : (⟨2, ![a, b]⟩ : Shape).Idx) : ∃ x y, j = ix2 x y := ⟨j 0, j 1, eq_ix2 j⟩

end Cert.KernelIdeal.Pf

end
-- ==== Proof.Proto.lean ====
/-
# The exchange, as a protocol

Every device runs three exchanges with its seven peers: a handshake on the runtime's barrier semaphore, a scatter of
the column chunks of its partial product (`rs`), and a gather of the finished chunks (`ag`). This module fixes the
resource algebra, the semaphore cells, what each cell is paid with, what each device owes at the start, and the levels
that order the waits.

* Barrier cell of `c`: one unit from each peer `s`. `s` hands over its own slot `c` of the scatter buffer and its own
  chunk `c` of the gather buffer, which is where `c` will write.
* `rs` cell `s` of `c`: paid once by `s`, with slot `s` of `c`'s scatter buffer holding `s`'s chunk `c`.
* `ag` cell `s` of `c`: paid once by `s`, with chunk `s` of `c`'s gather buffer holding `s`'s finished chunk.
* send cell `j` of `c`: paid by `c`'s own transfer, with the share of the source that it borrowed.
-/
module

public import proofs.«01_k».proof.Proof.Geom

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's, the exchange's (duties named by `Fin 8`), the local copies' -/

abbrev UB : Type := URounds (GSem nD τ sig) (Fin 8)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

def xstg (c : Dev nD) : (cc0_stg0_0 : Ref sig .tc).ty.Contents (Elt F) :=
  (win0_0.blk (0 : Fin 1)).view.read (Elt F) (m ((c : Thread nD τ).loc main_arg0))
def wqstg (c : Dev nD) : (cc0_stg1_0 : Ref sig .tc).ty.Contents (Elt F) :=
  (win0_1.blk (0 : Fin 1)).view.read (Elt F) (m ((c : Thread nD τ).loc main_arg1))
def wostg (c : Dev nD) : (cc0_stg2_0 : Ref sig .tc).ty.Contents (Elt F) :=
  (win0_2.blk (0 : Fin 1)).view.read (Elt F) (m ((c : Thread nD τ).loc main_arg2))

/-- The double buffer of keys (values) holding head `h` of device `c`'s in both halves. -/
def kbuf (c : Dev nD) (h : Fin 8) : (cc0_scratch0 : Ref sig .tc).ty.Contents (Elt F) := fun i =>
  (m ((c : Thread nD τ).loc main_arg3) : S1x4096x64x128.Idx → Elt F .f32) (ix4 (0 : Fin 1) (i 1) (hd c h) (i 2))
def vbuf (c : Dev nD) (h : Fin 8) : (cc0_scratch1 : Ref sig .tc).ty.Contents (Elt F) := fun i =>
  (m ((c : Thread nD τ).loc main_arg4) : S1x4096x64x128.Idx → Elt F .f32) (ix4 (0 : Fin 1) (i 1) (hd c h) (i 2))
/-- Head `h` of device `c`'s keys (values), as one loaded block. -/
def khead (c : Dev nD) (h : Fin 8) : Vec F S1x4096x128 .f32 := fun i =>
  (m ((c : Thread nD τ).loc main_arg3) : S1x4096x64x128.Idx → Elt F .f32) (ix4 (0 : Fin 1) (i 1) (hd c h) (i 2))
def vhead (c : Dev nD) (h : Fin 8) : Vec F S1x4096x128 .f32 := fun i =>
  (m ((c : Thread nD τ).loc main_arg4) : S1x4096x64x128.Idx → Elt F .f32) (ix4 (0 : Fin 1) (i 1) (hd c h) (i 2))

/-- The queries of device `c`'s eight heads. -/
def qv (c : Dev nD) : FVec F S256x1024 .f32 := k0_pay1 (xstg m c) (wqstg m c)

def head0 (c : Dev nD) : FVec F S256x128 .f32 := k0_pay3 (k0_pay2 (qv m c) (khead m c 0)) (vhead m c 0)
def head1 (c : Dev nD) : FVec F S256x128 .f32 := k0_pay4 (qv m c) (khead m c 1) (vhead m c 1)
def head2 (c : Dev nD) : FVec F S256x128 .f32 := k0_pay7 (k0_pay5 (qv m c) (khead m c 2)) (k0_pay6 (qv m c) (khead m c 2)) (vhead m c 2)
def head3 (c : Dev nD) : FVec F S256x128 .f32 := k0_pay8 (qv m c) (khead m c 3) (vhead m c 3)
def head4 (c : Dev nD) : FVec F S256x128 .f32 := k0_pay11 (k0_pay9 (qv m c) (khead m c 4)) (k0_pay10 (qv m c) (khead m c 4)) (vhead m c 4)
def head5 (c : Dev nD) : FVec F S256x128 .f32 := k0_pay12 (qv m c) (khead m c 5) (vhead m c 5)
def head6 (c : Dev nD) : FVec F S256x128 .f32 := k0_pay15 (k0_pay13 (qv m c) (khead m c 6)) (k0_pay14 (qv m c) (khead m c 6)) (vhead m c 6)

/-- Device `c`'s partial product: its eight heads' attention against its rows of the output projection. -/
def acc (c : Dev nD) : FVec F S256x1024 .f32 :=
  k0_pay19 (head0 m c) (head1 m c) (head2 m c) (head3 m c) (head4 m c) (head5 m c) (head6 m c)
    (k0_pay16 (qv m c) (khead m c 7)) (k0_pay17 (qv m c) (khead m c 7)) (k0_pay18 (vhead m c 7))
    (constant S256x128 .f32 0x00000000#32) (wostg m c)
def accB (c : Dev nD) : (cc0_scratch2 : Ref sig .tc).ty.Contents (Elt F) := acc m c

/-- The scatter buffer of device `c` once complete: slot `s` holds device `s`'s column chunk `c`. -/
def rsv (c : Dev nD) : Vec F S8x256x128 .f32 := fun i =>
  acc m (i 0) (ix2 (i 1) (⟨128 * c.val + (i 2).val, by have h1 : c.val < 8 := c.isLt; have h2 : (i 2).val < 128 := (i 2).isLt; omega⟩ : Fin 1024))
def rsB (c : Dev nD) : (cc0_scratch3 : Ref sig .tc).ty.Contents (Elt F) := rsv m c

/-- Column chunk `c` of the sum, computed on device `c`. -/
def red (c : Dev nD) : FVec F S256x128 .f32 := k0_pay21 (rsv m c)

/-- The gather buffer once complete, the same on every device: chunk `s` is device `s`'s sum. -/
def agv : Vec F S256x1024 .f32 := fun i =>
  red m (⟨(i 1).val / 128, by have h : (i 1).val < 1024 := (i 1).isLt; show _ < 8; omega⟩ : Dev nD)
    (ix2 (i 0) (⟨(i 1).val % 128, Nat.mod_lt _ (by decide)⟩ : Fin 128))
def agB : (cc0_scratch4 : Ref sig .tc).ty.Contents (Elt F) := agv m

/-- What every device's result holds. -/
def outv : (cc0_stg3_0 : Ref sig .tc).ty.Contents (Elt F) := k0_pay22 (agv m)

/-! ## Semaphores and cells -/

/-- The runtime's barrier semaphore of collective id 0 (not scoped to the launch). -/
abbrev barS : Sem sig := (SemArray.scalar (sig.barrier 0 rfl) : Sems sig S_).sem
set_option backward.proofsInPublic true in
def copS (j : Fin 4) : DmaSem sig := ⟨4 + j.val, by have := j.isLt; show _ < 38; omega⟩
set_option backward.proofsInPublic true in
def sndS (j : Fin 14) : DmaSem sig := ⟨8 + j.val, by have := j.isLt; show _ < 38; omega⟩
set_option backward.proofsInPublic true in
def rsS (s : Fin 8) : DmaSem sig := ⟨22 + s.val, by have := s.isLt; show _ < 38; omega⟩
set_option backward.proofsInPublic true in
def agS (s : Fin 8) : DmaSem sig := ⟨30 + s.val, by have := s.isLt; show _ < 38; omega⟩

abbrev barCell (c : Dev nD) : GSem nD τ sig := ((c : Thread nD τ), .reg barS)
abbrev copCell (c : Dev nD) (j : Fin 4) : GSem nD τ sig := ((c : Thread nD τ), .dma (copS j))
abbrev sndCell (c : Dev nD) (j : Fin 14) : GSem nD τ sig := ((c : Thread nD τ), .dma (sndS j))
abbrev rsCell (c : Dev nD) (s : Fin 8) : GSem nD τ sig := ((c : Thread nD τ), .dma (rsS s))
abbrev agCell (c : Dev nD) (s : Fin 8) : GSem nD τ sig := ((c : Thread nD τ), .dma (agS s))

/-- The exchange's cells on one device: the barrier, the fourteen send cells, the eight `rs` and the eight `ag` cells. -/
abbrev Ck : Type := Option (Fin 14 ⊕ (Fin 8 ⊕ Fin 8))
abbrev Ck.bar : Ck := none
abbrev Ck.snd (j : Fin 14) : Ck := some (.inl j)
abbrev Ck.rs (s : Fin 8) : Ck := some (.inr (.inl s))
abbrev Ck.ag (s : Fin 8) : Ck := some (.inr (.inr s))

def csem : Ck → SemLoc sig
  | none => .reg barS
  | some (.inl j) => .dma (sndS j)
  | some (.inr (.inl s)) => .dma (rsS s)
  | some (.inr (.inr s)) => .dma (agS s)
abbrev kcell (ck : Dev nD × Ck) : GSem nD τ sig := ((ck.1 : Thread nD τ), csem ck.2)

/-- The credit one block's transfer brings. -/
abbrev N : ℕ := (chunkOf agM 0).view.dmaCredit
theorem N_pos : 0 < N := View.dmaCredit_pos _ (by decide)

/-! ## The pieces -/

def rsPt (c : Dev nD) (s : Fin 8) (f : Buf (Elt F) ((c : Thread nD τ).loc cc0_scratch3)) : sProp 𝕄 :=
  ((c : Thread nD τ).loc cc0_scratch3) ↦[slotS s]{fullShare} f
def agPt (c : Dev nD) (s : Fin 8) (q : PosShare TreeShare) (f : Buf (Elt F) ((c : Thread nD τ).loc cc0_scratch4)) : sProp 𝕄 :=
  ((c : Thread nD τ).loc cc0_scratch4) ↦[chunkS s]{q} f
def accPt (c : Dev nD) (s : Fin 8) (f : Buf (Elt F) ((c : Thread nD τ).loc cc0_scratch2)) : sProp 𝕄 :=
  ((c : Thread nD τ).loc cc0_scratch2) ↦[chunkS s]{fullShare} f

omit [FloatOps F] in
instance rsPt_storable (c : Dev nD) (s) (f) : BI.Storable (upEmb : UEmb _ 𝕄) (rsPt (F := F) c s f) := by unfold rsPt; infer_instance
omit [FloatOps F] in
instance agPt_storable (c : Dev nD) (s) (q) (f) : BI.Storable (upEmb : UEmb _ 𝕄) (agPt (F := F) c s q f) := by unfold agPt; infer_instance
omit [FloatOps F] in
instance accPt_storable (c : Dev nD) (s) (f) : BI.Storable (upEmb : UEmb _ 𝕄) (accPt (F := F) c s f) := by unfold accPt; infer_instance

/-! ## The schedule -/

def fin8 (n : ℕ) : Fin 8 := ⟨n % 8, Nat.mod_lt _ (by decide)⟩

/-- What `s`'s barrier signal hands `c`: `s`'s slot `c` and chunk `c`. -/
def barPay (c s : Dev nD) : sProp 𝕄 := iprop((∃ f, rsPt s c f) ∗ (∃ f, agPt s c fullShare f))

def dmaPay (c : Dev nD) (q : ℕ) : sProp 𝕄 :=
  if q < 8 then iprop(emp)
  else if q < 15 then accPt c (pr c (q - 8 + 1)) (accB m c)
  else if q < 22 then agPt c c (Transfers.shareTokN fullShare (q - 15)) (agB m)
  else if q < 30 then rsPt c (fin8 (q - 22)) (rsB m c)
  else agPt c (fin8 (q - 30)) fullShare (agB m)

def dmaDuties (c : Dev nD) (q : ℕ) : Finset (Fin 8) :=
  if q < 8 then ∅
  else if q < 22 then {0}
  else if q < 30 then (if q = 22 + c.val then ∅ else {0})
  else (if q = 30 + c.val then ∅ else {0})

def exRd : Rounds.Schedule (GSem nD τ sig) (Fin 8) 𝕄 where
  duties g r := if r = 0 ∧ g.1.2 = .tc then (match g.2 with | .reg _ => Finset.univ.erase g.1.1 | .dma q => dmaDuties g.1.1 q.val) else ∅
  unitless _ := False
  amount g _ _ := match g.2 with | .reg _ => 1 | .dma _ => N
  payload g _ d := match g.2 with | .reg _ => barPay g.1.1 d | .dma q => dmaPay m g.1.1 q.val
  amount_pos g _ _ _ := by
    rcases g with ⟨t, s | s⟩
    · exact Nat.one_pos
    · exact N_pos

instance exRd_storable (g : GSem nD τ sig) (r : ℕ) (d : Fin 8) :
    BI.Storable (upEmb : UEmb _ 𝕄) ((exRd (F := F) m).payload g r d) := by
  rcases g with ⟨t, s | s⟩
  · show BI.Storable upEmb (barPay t.1 d); unfold barPay; infer_instance
  · show BI.Storable upEmb (dmaPay m t.1 s.val); unfold dmaPay; (repeat' split) <;> infer_instance

section Sched
variable (c s : Dev nD)

theorem duties_bar : (exRd (F := F) m).duties (barCell c) 0 = Finset.univ.erase c := by
  dsimp only [exRd]; exact if_pos ⟨rfl, rfl⟩
theorem duties_snd (j : Fin 14) : (exRd (F := F) m).duties (sndCell c j) 0 = {0} := by
  dsimp only [exRd]; rw [if_pos ⟨rfl, rfl⟩]
  show dmaDuties c (8 + j.val) = _
  unfold dmaDuties; rw [if_neg (by omega), if_pos (by omega)]
theorem duties_rs (h : s ≠ c) : (exRd (F := F) m).duties (rsCell c s) 0 = {0} := by
  dsimp only [exRd]; rw [if_pos ⟨rfl, rfl⟩]
  show dmaDuties c (22 + s.val) = _
  have := s.isLt; simp only [nD] at this
  unfold dmaDuties; rw [if_neg (by omega), if_neg (by omega), if_pos (by omega), if_neg (fun e => h (Fin.ext (by omega)))]
theorem duties_ag (h : s ≠ c) : (exRd (F := F) m).duties (agCell c s) 0 = {0} := by
  dsimp only [exRd]; rw [if_pos ⟨rfl, rfl⟩]
  show dmaDuties c (30 + s.val) = _
  unfold dmaDuties; rw [if_neg (by omega), if_neg (by omega), if_neg (by omega), if_neg (fun e => h (Fin.ext (by omega)))]
theorem duties_rs_own (r : ℕ) : (exRd (F := F) m).duties (rsCell c c) r = ∅ := by
  dsimp only [exRd]
  split
  · show dmaDuties c (22 + c.val) = _
    have := c.isLt; simp only [nD] at this
    unfold dmaDuties; rw [if_neg (by omega), if_neg (by omega), if_pos (by omega), if_pos rfl]
  · rfl
theorem duties_ag_own (r : ℕ) : (exRd (F := F) m).duties (agCell c c) r = ∅ := by
  dsimp only [exRd]
  split
  · show dmaDuties c (30 + c.val) = _
    unfold dmaDuties; rw [if_neg (by omega), if_neg (by omega), if_neg (by omega), if_pos rfl]
  · rfl
theorem duties_later (g : GSem nD τ sig) : ∀ r, 1 ≤ r → (exRd (F := F) m).duties g r = ∅ :=
  fun r hr => by dsimp only [exRd]; rw [if_neg fun h => by omega]

theorem amount_reg (q : Sem sig) (d : Fin 8) : (exRd (F := F) m).amount ((c : Thread nD τ), .reg q) 0 d = 1 := rfl
theorem amount_dma (q : DmaSem sig) (d : Fin 8) : (exRd (F := F) m).amount ((c : Thread nD τ), .dma q) 0 d = N := rfl

theorem expect_bar : (exRd (F := F) m).expect (barCell c) 0 = 7 := by
  unfold Schedule.expect Schedule.amountOf
  rw [duties_bar, Finset.sum_congr rfl fun d _ => amount_reg m c _ d, Finset.sum_const, Finset.card_erase_of_mem (Finset.mem_univ _), Finset.card_univ]
  rfl
theorem expect_dma (q : DmaSem sig) (h : (exRd (F := F) m).duties ((c : Thread nD τ), .dma q) 0 = {0}) :
    (exRd (F := F) m).expect ((c : Thread nD τ), .dma q) 0 = N := by
  unfold Schedule.expect Schedule.amountOf; rw [h, Finset.sum_singleton, amount_dma]

theorem payload_bar (d : Fin 8) : (exRd (F := F) m).payload (barCell c) 0 d = barPay c d := rfl
theorem payload_rs (d : Fin 8) : (exRd (F := F) m).payload (rsCell c s) 0 d = rsPt c s (rsB m c) := by
  show dmaPay m c (22 + s.val) = _
  have := s.isLt; simp only [nD] at this
  unfold dmaPay
  rw [if_neg (by omega), if_neg (by omega), if_neg (by omega), if_pos (by omega),
    show fin8 (22 + s.val - 22) = s from Fin.ext (by show (22 + s.val - 22) % 8 = s.val; omega)]
theorem payload_ag (d : Fin 8) : (exRd (F := F) m).payload (agCell c s) 0 d = agPt c s fullShare (agB m) := by
  show dmaPay m c (30 + s.val) = _
  have := s.isLt; simp only [nD] at this
  unfold dmaPay
  rw [if_neg (by omega), if_neg (by omega), if_neg (by omega), if_neg (by omega),
    show fin8 (30 + s.val - 30) = s from Fin.ext (by show (30 + s.val - 30) % 8 = s.val; omega)]
theorem payload_snd1 (j : Fin 14) (k : ℕ) (h : j.val = k) (hk : k < 7) (d : Fin 8) :
    (exRd (F := F) m).payload (sndCell c j) 0 d = accPt c (pr c (k + 1)) (accB m c) := by
  show dmaPay m c (8 + j.val) = _
  unfold dmaPay
  rw [if_neg (by omega), if_pos (by omega), show 8 + j.val - 8 + 1 = k + 1 by omega]
theorem payload_snd2 (j : Fin 14) (k : ℕ) (h : j.val = 7 + k) (d : Fin 8) :
    (exRd (F := F) m).payload (sndCell c j) 0 d = agPt c c (Transfers.shareTokN fullShare k) (agB m) := by
  show dmaPay m c (8 + j.val) = _
  have := j.isLt
  unfold dmaPay
  rw [if_neg (by omega), if_neg (by omega), if_pos (by omega), show 8 + j.val - 15 = k by omega]

/-- The rest of the barrier cell's round, peer by peer. -/
theorem rest_bar : bigSep ((exRd (F := F) m).duties (barCell c) 0 \ ∅) (fun d => (exRd (F := F) m).payload (barCell c) 0 d)
    = iprop(barPay c (pr c 1) ∗ barPay c (pr c 2) ∗ barPay c (pr c 3) ∗ barPay c (pr c 4) ∗ barPay c (pr c 5) ∗ barPay c (pr c 6) ∗ barPay c (pr c 7)) := by
  rw [Finset.sdiff_empty, duties_bar,
    bigSep_eq_bigSepL_of_eq [pr c 1, pr c 2, pr c 3, pr c 4, pr c 5, pr c 6, pr c 7] (by revert c; decide) (by revert c; decide)]
  rfl
theorem rest_one (q : DmaSem sig) (h : (exRd (F := F) m).duties ((c : Thread nD τ), .dma q) 0 = {0}) :
    bigSep ((exRd (F := F) m).duties ((c : Thread nD τ), .dma q) 0 \ ∅) (fun d => (exRd (F := F) m).payload ((c : Thread nD τ), .dma q) 0 d)
      = (exRd (F := F) m).payload ((c : Thread nD τ), .dma q) 0 0 := by
  rw [Finset.sdiff_empty, h, bigSep_singleton]

end Sched

/-! ## What each device owes at launch; the levels -/

/-- The gather credits still owed with `n` transfers to go; the last `n` peers, nearest first. -/
def OA (c : Dev nD) : ℕ → CellTallies nD τ sig Unit
  | 0 => 0
  | n + 1 => OA c n + tallyAt (agCell (pr c (7 - n)) c) () N
/-- All gather credits and the scatter credits still owed with `n` transfers to go. -/
def OR (c : Dev nD) : ℕ → CellTallies nD τ sig Unit
  | 0 => OA c 7
  | n + 1 => OR c n + tallyAt (rsCell (pr c (7 - n)) c) () N
/-- All transfer credits and the barrier units still owed with `n` signals to go. -/
def OB (c : Dev nD) : ℕ → CellTallies nD τ sig Unit
  | 0 => OR c 7
  | n + 1 => OB c n + tallyAt (barCell (pr c (7 - n))) () 1

def O₀ (c : Dev nD) : CellTallies nD τ sig Unit := OB c 7

def L (g : GSem nD τ sig) : Finset Unit := if g.1.2 = .tc then {()} else ∅
/-- Staging, local copies and send cells at 0, barrier cells at 1, scatter cells at 2, gather cells at 3. -/
def lvq (q : ℕ) : ℕ := if q < 22 then 0 else if q < 30 then 2 else 3
def lv (g : GSem nD τ sig) (_ : Unit) : ℕ := match g.2 with | .reg _ => 1 | .dma q => lvq q.val

theorem L_of_ne (g : GSem nD τ sig) (h : g.1.2 ≠ .tc) : L g = ∅ := if_neg h
theorem L_tc (c : Dev nD) (sm : SemLoc sig) : L ((c : Thread nD τ), sm) = {()} := if_pos rfl

theorem lv_rs (c : Dev nD) (s : Fin 8) : lv (rsCell c s) () = 2 := by
  show lvq (22 + s.val) = 2; unfold lvq; rw [if_neg (by omega), if_pos (by omega)]
theorem lv_ag (c : Dev nD) (s : Fin 8) : lv (agCell c s) () = 3 := by
  show lvq (30 + s.val) = 3; unfold lvq; rw [if_neg (by omega), if_neg (by omega)]

theorem add_tally_pos {O : CellTallies nD τ sig Unit} {h g : GSem nD τ sig} {k : ℕ} {u : Unit}
    (hp : 0 < (O + tallyAt h () k) g u) : 0 < O g u ∨ g = h := by
  rw [Pi.add_apply, Finsupp.add_apply, tallyAt_apply] at hp
  by_cases e : g = h
  · exact .inr e
  · rw [if_neg (fun h' => e h'.1), Nat.add_zero] at hp; exact .inl hp

theorem OA_pos {c : Dev nD} {n : ℕ} {g : GSem nD τ sig} {u : Unit} (h : 0 < OA c n g u) : ∃ p, g = agCell p c := by
  induction n with
  | zero => exact absurd h (Nat.lt_irrefl 0)
  | succ n ih => rcases add_tally_pos h with h | rfl; exacts [ih h, ⟨_, rfl⟩]
theorem OR_pos {c : Dev nD} {n : ℕ} {g : GSem nD τ sig} {u : Unit} (h : 0 < OR c n g u) :
    (∃ p, g = agCell p c) ∨ ∃ p, g = rsCell p c := by
  induction n with
  | zero => exact .inl (OA_pos h)
  | succ n ih => rcases add_tally_pos h with h | rfl; exacts [ih h, .inr ⟨_, rfl⟩]
theorem OB_pos {c : Dev nD} {n : ℕ} {g : GSem nD τ sig} {u : Unit} (h : 0 < OB c n g u) :
    (∃ p, g = agCell p c) ∨ (∃ p, g = rsCell p c) ∨ ∃ p, g = barCell p := by
  induction n with
  | zero => rcases OR_pos h with h | h; exacts [.inl h, .inr (.inl h)]
  | succ n ih => rcases add_tally_pos h with h | rfl; exacts [ih h, .inr (.inr ⟨_, rfl⟩)]

/-- A wait at a level below everything owed. -/
theorem mayWait_cut (c : Dev nD) (sm : SemLoc sig) (O : CellTallies nD τ sig Unit) (n : ℕ)
    (hs : lv ((c : Thread nD τ), sm) () ≤ n) (hO : ∀ g u, 0 < O g u → n < lv g () ∧ g.1.2 = .tc) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).2]; exact Finset.mem_singleton_self _)
    (fun p hp => by rw [Finset.mem_singleton.mp hp]; exact hs)
    (fun g u hg => (hO g u hg).1)

theorem mayWait_low (c : Dev nD) (q : DmaSem sig) (hq : q.val < 22) (n : ℕ) :
    (levAts L lv : sProp 𝕄) ⊢ MayWait (c : Thread nD τ) (.dma q) () (OB c n) :=
  mayWait_cut c _ _ 0 (by show lvq q.val ≤ 0; unfold lvq; rw [if_pos hq]) fun g u hg => by
    rcases OB_pos hg with ⟨p, rfl⟩ | ⟨p, rfl⟩ | ⟨p, rfl⟩
    · exact ⟨by rw [lv_ag]; decide, rfl⟩
    · exact ⟨by rw [lv_rs]; decide, rfl⟩
    · exact ⟨Nat.one_pos, rfl⟩
theorem mayWait_bar (c : Dev nD) :
    (levAts L lv : sProp 𝕄) ⊢ MayWait (c : Thread nD τ) (.reg barS) () (OB c 0) :=
  mayWait_cut c _ _ 1 (le_refl 1) fun g u hg => by
    rcases OR_pos hg with ⟨p, rfl⟩ | ⟨p, rfl⟩
    · exact ⟨by rw [lv_ag]; decide, rfl⟩
    · exact ⟨by rw [lv_rs]; decide, rfl⟩
theorem mayWait_rs (c : Dev nD) (s : Fin 8) :
    (levAts L lv : sProp 𝕄) ⊢ MayWait (c : Thread nD τ) (.dma (rsS s)) () (OR c 0) :=
  mayWait_cut c _ _ 2 (by rw [lv_rs]) fun g u hg => by
    rcases OA_pos hg with ⟨p, rfl⟩
    exact ⟨by rw [lv_ag]; decide, rfl⟩
theorem mayWait_none (c : Dev nD) (sm : SemLoc sig) : (levAts L lv : sProp 𝕄) ⊢ MayWait (c : Thread nD τ) sm () 0 := by
  rw [MayWait_zero]; iintro -; iempintro

end Cert.KernelIdeal.Pf

end
-- ==== Proof.Steps.lean ====
/-
# The steps of the body

One rule per kind of effect of the kernel's body, over the exchange's protocol: signalling a peer, waiting for the
barrier, sending a chunk of the scatter and of the gather, waiting on a transfer's cell, and the local copies that bring
in one head's keys and values. Each wait on a cell of the exchange closes it at once, so that its counter at zero is in
hand again.
-/
module

public import proofs.«01_k».proof.Proof.Proto

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The body's programs on device `c`, at postcondition `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` still owes, whatever it has waited on. -/
def Owes (c : Dev nD) (O : CellTallies nD τ sig Unit) : sProp 𝕄 := iprop(∃ W, owes (c : Thread nD τ) O W)

/-- Every cell's invariant, and that every cell has reached its round 0. -/
def records (K : Dev nD × Ck → ℕ) : sProp 𝕄 :=
  iprop((bigSep Finset.univ fun ck : Dev nD × Ck => cellInv ER (exRd m) (K ck) (kcell ck))
    ∗ bigSep Finset.univ fun ck : Dev nD × Ck => reached ER (kcell ck) 0)

instance records_persistent (K : Dev nD × Ck → ℕ) : BI.Persistent (records (F := F) m K) := by unfold records; infer_instance

theorem inv_at (K : Dev nD × Ck → ℕ) (c : Dev nD) (ck : Ck) {g : GSem nD τ sig} (h : kcell (c, ck) = g) :
    (records m K : sProp 𝕄) ⊢ cellInv ER (exRd m) (K (c, ck)) g := by
  subst h; unfold records
  exact sep_elim_left.trans (bigSep_elim (Φ := fun ck : Dev nD × Ck => (cellInv ER (exRd m) (K ck) (kcell ck) : sProp 𝕄)) (Finset.mem_univ (c, ck)))
theorem reached_at (K : Dev nD × Ck → ℕ) (c : Dev nD) (ck : Ck) {g : GSem nD τ sig} (h : kcell (c, ck) = g) :
    (records m K : sProp 𝕄) ⊢ reached ER g 0 := by
  subst h; unfold records
  exact sep_elim_right.trans (bigSep_elim (Φ := fun ck : Dev nD × Ck => (reached ER (kcell ck) 0 : sProp 𝕄)) (Finset.mem_univ (c, ck)))

variable (K : Dev nD × Ck → ℕ)

/-! ## The barrier -/

theorem step_signal (c d : Dev nD) (n k : ℕ) (hk : 7 - n = k) (hd : d = pr c k) (hne : pr c k ≠ c) {a : ℕ} (ha : 1 = a)
    {α : Type} {Q : α → sProp 𝕄} {k' : PUnit → Prog (TpuEff nD τ sig (Elt F) Λ₀ .tc) α} :
    iprop(records m K ∗ Owes c (OB c (n + 1)) ∗ dutyTok ER (barCell (pr c k)) 0 c
        ∗ (∃ f, rsPt c (pr c k) f) ∗ (∃ f, agPt c (pr c k) fullShare f))
      ⊢ iprop((Owes c (OB c n) -∗ run c (k' ⟨⟩) Q) -∗ run c (.op (.semSignal (d : Thread nD τ) barS a) k') Q) := by
  subst hd; subst hk; subst ha
  unfold Owes
  iintro ⟨#HI, ⟨%W, HO⟩, Ht, Hrs, Hag⟩ Hk
  iapply (Rounds.wp_signal 𝒱₀ ER (exRd m) (c : Thread nD τ) none (dst := (pr c (7 - n) : Thread nD τ)) (κ := K (pr c (7 - n), Ck.bar))
      (d := c) (by rw [duties_bar]; exact Finset.mem_erase.mpr ⟨hne.symm, Finset.mem_univ _⟩) (amount_reg m (pr c (7 - n)) barS c) () (OB c n) rfl)
    $$ [HO Ht Hrs Hag]
  · isplitr; · iapply (inv_at m K (pr c (7 - n)) Ck.bar rfl); iexact HI
    isplitl [HO]; · iexact HO
    isplitl [Ht]; · iexact Ht
    isplitl [Hrs Hag]
    · rw [payload_bar]; unfold barPay
      isplitl [Hrs] <;> iassumption
    · iapply (reached_at m K (pr c (7 - n)) Ck.bar rfl); iexact HI
  iintro HO
  iapply Hk; iexists W; iexact HO

theorem step_barwait (c : Dev nD) {a : ℕ} (ha : 7 = a)
    {α : Type} {Q : α → sProp 𝕄} {k' : PUnit → Prog (TpuEff nD τ sig (Elt F) Λ₀ .tc) α} :
    iprop(records m K ∗ cred (tallyAt (barCell c) () 7) ∗ Owes c (OB c 0) ∗ levAts L lv ∗ atPos ER (barCell c) 0 ∅ 0)
      ⊢ iprop(((barPay c (pr c 1) ∗ barPay c (pr c 2) ∗ barPay c (pr c 3) ∗ barPay c (pr c 4) ∗ barPay c (pr c 5) ∗ barPay c (pr c 6) ∗ barPay c (pr c 7))
            ∗ semVal (barCell c) 0 ∗ Owes c (OB c 0) -∗ run c (k' ⟨⟩) Q)
          -∗ run c (.op (.semWait barS a) k') Q) := by
  subst ha
  unfold Owes
  iintro ⟨#HI, Hc, ⟨%W, HO⟩, #Hlev, Hat⟩ Hk
  iapply (Rounds.wp_wait_rest_token 𝒱₀ ER (exRd m) (c : Thread nD τ) none (κ := K (c, Ck.bar))
      (wpE_semWait_eq 𝒱₀ (c : Thread nD τ) none Set.univ) (Set.mem_univ _) () (O := OB c 0) (W := W) (R := 0) (m := 0) (T := ∅)
      (by rw [expect_bar])) $$ [Hc HO Hat]
  · isplitr; · iapply (inv_at m K c Ck.bar rfl); iexact HI
    isplitl [Hc]; · iexact Hc
    isplitl [HO]; · iexact HO
    isplitr; · iapply (mayWait_bar c); iexact Hlev
    iexact Hat
  iintro ⟨HO, Hat, -, Hpay⟩
  imod (Rounds.cell_close ER (exRd m) (Set.mem_univ (K (c, Ck.bar))) (fun h => h) (R := 0 + 1) (duties_later m (barCell c))) $$ [Hat] with Hz
  · isplitr; · iapply (inv_at m K c Ck.bar rfl); iexact HI
    iexact Hat
  ihave Hp := (Entails.of_eq (rest_bar m c)) $$ Hpay
  iapply Hk
  isplitl [Hp]; · iexact Hp
  isplitl [Hz]; · iexact Hz
  iexists _; iexact HO

/-! ## A wait on a transfer's cell -/

theorem step_wait (c : Dev nD) (ck : Ck) (q : DmaSem sig) (hq : csem ck = .dma q) {q' : DmaSem sig} (hq' : q' = q)
    (hD : (exRd (F := F) m).duties ((c : Thread nD τ), .dma q) 0 = {0})
    (O : CellTallies nD τ sig Unit) (hmw : (levAts L lv : sProp 𝕄) ⊢ MayWait (c : Thread nD τ) (.dma q) () O) (P : sProp 𝕄)
    (hP : (exRd (F := F) m).payload ((c : Thread nD τ), .dma q) 0 0 = P)
    {sp sp' : Space} {s s' : Shape} {src : Memref sig .tc sp s .f32} {dst : Memref sig .tc sp' s' .f32}
    {hsrc : src.view.WordExact} {hdst : dst.view.WordExact} (hN : dst.view.dmaCredit = N)
    {α : Type} {Q : α → sProp 𝕄} {k' : PUnit → Prog (TpuEff nD τ sig (Elt F) Λ₀ .tc) α} :
    iprop(records m K ∗ cred (tallyAt ((c : Thread nD τ), .dma q) () N) ∗ Owes c O ∗ levAts L lv ∗ atPos ER ((c : Thread nD τ), .dma q) 0 ∅ 0)
      ⊢ iprop((P ∗ semVal ((c : Thread nD τ), .dma q) 0 ∗ Owes c O -∗ run c (k' ⟨⟩) Q)
          -∗ run c (.op (.waitDma2 q' src dst hsrc hdst) k') Q) := by
  subst hq'; subst hP
  unfold Owes
  iintro ⟨#HI, Hc, ⟨%W, HO⟩, #Hlev, Hat⟩ Hk
  have hcell : kcell (c, ck) = ((c : Thread nD τ), SemLoc.dma q') := congrArg (Prod.mk _) hq
  iapply (Rounds.wp_wait_rest_token 𝒱₀ ER (exRd m) (c : Thread nD τ) none (κ := K (c, ck))
      (wpE_waitDma2_eq 𝒱₀ (c : Thread nD τ) none Set.univ) (Set.mem_univ _) () (O := O) (W := W) (R := 0) (m := 0) (T := ∅)
      (by rw [Nat.zero_add, expect_dma m c q' hD]; exact hN)) $$ [Hc HO Hat]
  · isplitr; · iapply (inv_at m K c ck hcell); iexact HI
    isplitl [Hc]; · rw [hN]; iexact Hc
    isplitl [HO]; · iexact HO
    isplitr; · iapply hmw; iexact Hlev
    iexact Hat
  iintro ⟨HO, Hat, -, Hpay⟩
  imod (Rounds.cell_close ER (exRd m) (Set.mem_univ (K (c, ck))) (fun h => h) (R := 0 + 1) (duties_later m ((c : Thread nD τ), .dma q'))) $$ [Hat] with Hz
  · isplitr; · iapply (inv_at m K c ck hcell); iexact HI
    iexact Hat
  ihave Hp := (Entails.of_eq (rest_one m c q' hD)) $$ Hpay
  iapply Hk
  isplitl [Hp]; · iexact Hp
  isplitl [Hz]; · iexact Hz
  iexists _; iexact HO

/-! ## The transfers between devices -/

theorem rs_lands (c p : Dev nD) (fd : Buf (Elt F) ((slotOf rsM c).view.loc (p : Thread nD τ))) :
    ((slotOf rsM c).view.loc (p : Thread nD τ) ↦[(slotOf rsM c).view.set]{fullShare}
        (slotOf rsM c).view.write (Elt F) fd ((chunkOf accM p).view.read (Elt F) (accB m c)) Finset.univ : sProp 𝕄)
      = rsPt p c (rsB m p) := by
  unfold rsPt
  refine pointsTo_congr (copy_at (src := chunkOf accM p) (dst := slotOf rsM c) (accB m c) fd (rsB m p) fun j => ?_)
  obtain ⟨x, y, rfl⟩ := ex_ix2 j
  rw [View.read_apply, View.read_apply, slot_emb, chunk_emb]
  rfl

set_option maxHeartbeats 1000000 in
theorem step_rs_send (c d : Dev nD) (n k : ℕ) (hk : 7 - n = k) (hd : d = pr c k) (hne : pr c k ≠ c) (j : Fin 14) (hj : j.val + 1 = k) (hk7 : k ≤ 7)
    {snd rcv : DmaSem sig} (hs : snd = sndS j) (hr : rcv = rsS c)
    {o₁ : Fin 2 → ℕ} (h₁ : o₁ = ![0, 128 * (pr c k).val]) {i₁ : ∀ a, o₁ a + S256x128.size a ≤ S256x1024.size a}
    {o₂ : Fin 3 → ℕ} (h₂ : o₂ = ![c.val, 0, 0]) {i₂ : ∀ a, o₂ a + S1x256x128.size a ≤ S8x256x128.size a}
    {hsc : ((rsM.slice (Rect.unit (s := S8x256x128) o₂ S1x256x128.size i₂) (fun _ => rfl)).squeeze S256x128 squeezes_S1x256x128_S256x128 :
      Memref sig (Dev.tc d : Thread nD τ).2.kind .vmem S256x128 .f32).view.ref.isScScratch = false}
    {hsrc : (accM.slice (Rect.unit (s := S256x1024) o₁ S256x128.size i₁) (fun _ => rfl)).view.WordExact}
    {hdst : ((rsM.slice (Rect.unit (s := S8x256x128) o₂ S1x256x128.size i₂) (fun _ => rfl)).squeeze S256x128 squeezes_S1x256x128_S256x128).view.WordExact}
    {hsem : DmaTarget.Typed .vmem (.dma rcv) (.remote (Dev.tc d : Thread nD τ)
      ((rsM.slice (Rect.unit (s := S8x256x128) o₂ S1x256x128.size i₂) (fun _ => rfl)).squeeze S256x128 squeezes_S1x256x128_S256x128) (.dma snd) hsc)}
    {α : Type} {Q : α → sProp 𝕄} {k' : PUnit → Prog (TpuEff nD τ sig (Elt F) Λ₀ .tc) α} :
    iprop(records m K ∗ accPt c (pr c k) (accB m c) ∗ (∃ f, rsPt (pr c k) c f) ∗ Owes c (OR c (n + 1))
        ∗ dutyTok ER (sndCell c j) 0 0 ∗ dutyTok ER (rsCell (pr c k) c) 0 0)
      ⊢ iprop((cred (tallyAt (sndCell c j) () N) ∗ Owes c (OR c n) -∗ run c (k' ⟨⟩) Q)
          -∗ run c (.op (.enqueueDma (accM.slice (Rect.unit (s := S256x1024) o₁ S256x128.size i₁) (fun _ => rfl))
              (.remote (Dev.tc d : Thread nD τ) ((rsM.slice (Rect.unit (s := S8x256x128) o₂ S1x256x128.size i₂) (fun _ => rfl)).squeeze S256x128 squeezes_S1x256x128_S256x128)
                (.dma snd) hsc) (.dma rcv) hsrc hdst hsem) k') Q) := by
  subst hd; subst hs; subst hr; subst h₁; subst h₂; subst hk
  unfold Owes accPt
  iintro ⟨#HI, Ha, ⟨%fd, Hd⟩, ⟨%W, HO⟩, Hts, Htr⟩ Hk
  iapply (Rounds.wp_send_pointsTo 𝒱₀ ER (exRd m) (c : Thread nD τ) none (κ₁ := K (c, Ck.snd j)) (κ₂ := K (pr c (7 - n), Ck.rs c))
    (c' := (pr c (7 - n) : Thread nD τ)) (src := chunkOf accM (pr c (7 - n)))
    (dst := (slotOf rsM c : Memref sig (Dev.tc (pr c (7 - n)) : Thread nD τ).2.kind .vmem S256x128 .f32))
    (r₁ := 0) (r₂ := 0) (d₁ := 0) (d₂ := 0) (q := fullShare) (fs := accB m c) (fd := fd)
    (by rw [duties_snd]; exact Finset.mem_singleton_self _) (by rw [duties_rs m _ _ hne.symm]; exact Finset.mem_singleton_self _)
    () () N rfl (amount_dma m c (sndS j) 0) (amount_dma m (pr c (7 - n)) (rsS c) 0) (OR c n) rfl (W := W)
    (by rw [payload_snd1 m c j j.val rfl (by omega), show j.val + 1 = 7 - n from hj]; exact BI.Entails.refl _)
    (by rw [payload_rs]; exact Entails.of_eq (rs_lands m c (pr c (7 - n)) fd))) $$ [Ha Hd HO Hts Htr]
  · isplitr; · iapply (inv_at m K c (Ck.snd j) rfl); iexact HI
    isplitr; · iapply (inv_at m K (pr c (7 - n)) (Ck.rs c) rfl); iexact HI
    isplitl [Ha]; · iexact Ha
    isplitl [Hd]; · unfold rsPt; iexact Hd
    isplitl [HO]; · iexact HO
    isplitl [Hts]; · iexact Hts
    isplitr; · iapply (reached_at m K c (Ck.snd j) rfl); iexact HI
    isplitl [Htr]; · iexact Htr
    iapply (reached_at m K (pr c (7 - n)) (Ck.rs c) rfl); iexact HI
  iintro ⟨Hc, HO⟩
  iapply Hk
  isplitl [Hc]; · iexact Hc
  iexists W; iexact HO

theorem ag_lands (c p : Dev nD) (fd : Buf (Elt F) ((chunkOf agM c).view.loc (p : Thread nD τ))) :
    ((chunkOf agM c).view.loc (p : Thread nD τ) ↦[(chunkOf agM c).view.set]{fullShare}
        (chunkOf agM c).view.write (Elt F) fd ((chunkOf agM c).view.read (Elt F) (agB m)) Finset.univ : sProp 𝕄)
      = agPt p c fullShare (agB m) := by
  unfold agPt
  exact pointsTo_congr (copy_at (src := chunkOf agM c) (dst := chunkOf agM c) (agB m) fd (agB m) fun j => rfl)

set_option maxHeartbeats 1000000 in
theorem step_ag_send (c d : Dev nD) (n k : ℕ) (hk : 7 - n = k) (hd : d = pr c k) (hne : pr c k ≠ c) (j : Fin 14) (i : ℕ) (hj : j.val = 7 + i)
    {snd rcv : DmaSem sig} (hs : snd = sndS j) (hr : rcv = agS c)
    {o₁ o₂ : Fin 2 → ℕ} (h₁ : o₁ = ![0, 128 * c.val]) {i₁ : ∀ a, o₁ a + S256x128.size a ≤ S256x1024.size a}
    (h₂ : o₂ = ![0, 128 * c.val]) {i₂ : ∀ a, o₂ a + S256x128.size a ≤ S256x1024.size a}
    {hsc : (agM.slice (Rect.unit (s := S256x1024) o₂ S256x128.size i₂) (fun _ => rfl) :
      Memref sig (Dev.tc d : Thread nD τ).2.kind .vmem S256x128 .f32).view.ref.isScScratch = false}
    {hsrc : (agM.slice (Rect.unit (s := S256x1024) o₁ S256x128.size i₁) (fun _ => rfl)).view.WordExact}
    {hdst : (agM.slice (Rect.unit (s := S256x1024) o₂ S256x128.size i₂) (fun _ => rfl)).view.WordExact}
    {hsem : DmaTarget.Typed .vmem (.dma rcv) (.remote (Dev.tc d : Thread nD τ)
      (agM.slice (Rect.unit (s := S256x1024) o₂ S256x128.size i₂) (fun _ => rfl)) (.dma snd) hsc)}
    {α : Type} {Q : α → sProp 𝕄} {k' : PUnit → Prog (TpuEff nD τ sig (Elt F) Λ₀ .tc) α} :
    iprop(records m K ∗ agPt c c (Transfers.shareTokN fullShare i) (agB m) ∗ (∃ f, agPt (pr c k) c fullShare f) ∗ Owes c (OA c (n + 1))
        ∗ dutyTok ER (sndCell c j) 0 0 ∗ dutyTok ER (agCell (pr c k) c) 0 0)
      ⊢ iprop((cred (tallyAt (sndCell c j) () N) ∗ Owes c (OA c n) -∗ run c (k' ⟨⟩) Q)
          -∗ run c (.op (.enqueueDma (agM.slice (Rect.unit (s := S256x1024) o₁ S256x128.size i₁) (fun _ => rfl))
              (.remote (Dev.tc d : Thread nD τ) (agM.slice (Rect.unit (s := S256x1024) o₂ S256x128.size i₂) (fun _ => rfl))
                (.dma snd) hsc) (.dma rcv) hsrc hdst hsem) k') Q) := by
  subst hd; subst hs; subst hr; subst h₁; subst h₂; subst hk
  unfold Owes
  iintro ⟨#HI, Ha, ⟨%fd, Hd⟩, ⟨%W, HO⟩, Hts, Htr⟩ Hk
  iapply (Rounds.wp_send_pointsTo 𝒱₀ ER (exRd m) (c : Thread nD τ) none (κ₁ := K (c, Ck.snd j)) (κ₂ := K (pr c (7 - n), Ck.ag c))
    (c' := (pr c (7 - n) : Thread nD τ)) (src := chunkOf agM c)
    (dst := (chunkOf agM c : Memref sig (Dev.tc (pr c (7 - n)) : Thread nD τ).2.kind .vmem S256x128 .f32))
    (r₁ := 0) (r₂ := 0) (d₁ := 0) (d₂ := 0) (q := Transfers.shareTokN fullShare i) (fs := agB m) (fd := fd)
    (by rw [duties_snd]; exact Finset.mem_singleton_self _) (by rw [duties_ag m _ _ hne.symm]; exact Finset.mem_singleton_self _)
    () () N rfl (amount_dma m c (sndS j) 0) (amount_dma m (pr c (7 - n)) (agS c) 0) (OA c n) rfl (W := W)
    (by rw [payload_snd2 m c j i hj]; exact BI.Entails.refl _)
    (by rw [payload_ag]; exact Entails.of_eq (ag_lands m c (pr c (7 - n)) fd))) $$ [Ha Hd HO Hts Htr]
  · isplitr; · iapply (inv_at m K c (Ck.snd j) rfl); iexact HI
    isplitr; · iapply (inv_at m K (pr c (7 - n)) (Ck.ag c) rfl); iexact HI
    isplitl [Ha]; · unfold agPt; iexact Ha
    isplitl [Hd]; · unfold agPt; iexact Hd
    isplitl [HO]; · iexact HO
    isplitl [Hts]; · iexact Hts
    isplitr; · iapply (reached_at m K c (Ck.snd j) rfl); iexact HI
    isplitl [Htr]; · iexact Htr
    iapply (reached_at m K (pr c (7 - n)) (Ck.ag c) rfl); iexact HI
  iintro ⟨Hc, HO⟩
  iapply Hk
  isplitl [Hc]; · iexact Hc
  iexists W; iexact HO

/-! ## The local copies -/

abbrev EC : UEmb Counters (MT nD τ sig Unit (Elt F) ℕ UU ℕ) := countersEmb

/-- The credit one head's copy brings. -/
abbrev NL : ℕ := (halfOf kM 0).view.dmaCredit
theorem NL_pos : 0 < NL := View.dmaCredit_pos _ (by decide)

/-- A copy in flight on semaphore `q`: it will deliver the destination at `G` and the source's block back; the rest of
    the source stays at hand. -/
def Fly (c : Dev nD) (q : DmaSem sig) (src : Memref sig .tc .hbm S4096x128 .f32) (dst : Memref sig .tc .vmem S4096x128 .f32) (sh : PosShare TreeShare)
    (fs : Buf (Elt F) (src.view.loc (c : Thread nD τ))) (G : Buf (Elt F) (dst.view.loc (c : Thread nD τ))) : sProp 𝕄 :=
  iprop(Transfers.Flight EC (c : Thread nD τ) (.dma q) () NL
      iprop((dst.view.loc (c : Thread nD τ) ↦[dst.view.set]{fullShare} G) ∗ (src.view.loc (c : Thread nD τ) ↦[src.view.set]{sh} fs))
    ∗ (src.view.loc (c : Thread nD τ) ↦[Finset.univ \ src.view.set]{sh} fs))

theorem step_start (c : Dev nD) (q : DmaSem sig) {q' : DmaSem sig} (hq : q' = q) {src : Memref sig .tc .hbm S4096x128 .f32} {dst : Memref sig .tc .vmem S4096x128 .f32}
    (sh : PosShare TreeShare) (fs : Buf (Elt F) (src.view.loc (c : Thread nD τ))) (fd G : Buf (Elt F) (dst.view.loc (c : Thread nD τ)))
    (hw : ∀ i ∈ dst.view.set, dst.view.write (Elt F) fd (src.view.read (Elt F) fs) Finset.univ i = G i)
    (hN : dst.view.dmaCredit = NL)
    {hsrc : src.view.WordExact} {hdst : dst.view.WordExact} {hsem : DmaTarget.Typed .hbm (.dma q') (.here dst : DmaTarget nD τ sig (c : Thread nD τ).2 .vmem S4096x128 .f32)}
    {α : Type} {Q : α → sProp 𝕄} {k' : PUnit → Prog (TpuEff nD τ sig (Elt F) Λ₀ .tc) α} :
    iprop((src.view.loc (c : Thread nD τ) ↦[Finset.univ]{sh} fs) ∗ (dst.view.loc (c : Thread nD τ) ↦[dst.view.set]{fullShare} fd) ∗ semVal ((c : Thread nD τ), .dma q) 0)
      ⊢ iprop((Fly c q src dst sh fs G -∗ run c (k' ⟨⟩) Q)
          -∗ run c (.op (.enqueueDma src (.here dst) (.dma q') hsrc hdst hsem) k') Q) := by
  subst hq
  unfold Fly
  iintro ⟨Hs, Hd, Hz⟩ Hk
  ihave Hs' := (pointsTo_split_subset (Finset.subset_univ src.view.set)) $$ Hs
  icases Hs' with ⟨Hs, Hrest⟩
  iapply (Transfers.wp_dmaLocal EC 𝒱₀ (c : Thread nD τ) none (src := src) (dst := dst) (via := .same) (sm := .dma q') (q := sh) (fs := fs) (fd := fd) () NL hN NL_pos (Finset.Subset.refl _))
    $$ [Hs Hd Hz]
  · isplitl [Hs]; · iexact Hs
    isplitl [Hd] <;> iassumption
  iintro HF
  iapply Hk
  isplitl [HF]
  · rw [show (dst.view.loc (c : Thread nD τ) ↦[dst.view.set]{fullShare} G : sProp 𝕄) = _ from (pointsTo_congr hw).symm]
    iexact HF
  · iexact Hrest

theorem step_land (c : Dev nD) (q : DmaSem sig) {q' : DmaSem sig} (hq : q' = q) (src : Memref sig .tc .hbm S4096x128 .f32) (dst : Memref sig .tc .vmem S4096x128 .f32)
    (sh : PosShare TreeShare) (fs : Buf (Elt F) (src.view.loc (c : Thread nD τ))) (G : Buf (Elt F) (dst.view.loc (c : Thread nD τ)))
    (O : CellTallies nD τ sig Unit) (hmw : (levAts L lv : sProp 𝕄) ⊢ MayWait (c : Thread nD τ) (.dma q) () O)
    {src' : Memref sig .tc .hbm S4096x128 .f32} {dst' : Memref sig .tc .vmem S4096x128 .f32} (hN : dst'.view.dmaCredit = NL)
    {hsrc : src'.view.WordExact} {hdst : dst'.view.WordExact}
    {α : Type} {Q : α → sProp 𝕄} {k' : PUnit → Prog (TpuEff nD τ sig (Elt F) Λ₀ .tc) α} :
    iprop(Fly c q src dst sh fs G ∗ Owes c O ∗ levAts L lv)
      ⊢ iprop(((src.view.loc (c : Thread nD τ) ↦[Finset.univ]{sh} fs) ∗ (dst.view.loc (c : Thread nD τ) ↦[dst.view.set]{fullShare} G)
            ∗ semVal ((c : Thread nD τ), .dma q) 0 ∗ Owes c O -∗ run c (k' ⟨⟩) Q)
          -∗ run c (.op (.waitDma2 q' src' dst' hsrc hdst) k') Q) := by
  subst hq
  unfold Fly Owes
  iintro ⟨⟨HF, Hrest⟩, ⟨%W, HO⟩, #Hlev⟩ Hk
  iapply (Transfers.wp_waitLocalO EC 𝒱₀ (c : Thread nD τ) none () hN (O := O) (W := W)) $$ [HF HO]
  · isplitl [HF]; · iexact HF
    isplitl [HO]; · iexact HO
    iapply hmw; iexact Hlev
  iintro ⟨⟨Hd, Hs⟩, Hz, HO⟩
  iapply Hk
  isplitl [Hs Hrest]
  · iapply (pointsTo_split_subset (Finset.subset_univ src.view.set)).2
    isplitl [Hs] <;> iassumption
  isplitl [Hd]; · iexact Hd
  isplitl [Hz]; · iexact Hz
  iexists _; iexact HO

end Cert.KernelIdeal.Pf

end
-- ==== Proof.Heads.lean ====
/-
# The local copies, head by head

Each of the eight heads' keys and values is copied into one half of a double buffer, loaded from there, and the half
used again two heads later. A half is idle, or a head's copy into it is in flight, or it holds a head.
-/
module

public import proofs.«01_k».proof.Proof.Steps

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The two halves' copies read disjoint shares of the arrays. -/
def hsh (b : Fin 2) : PosShare TreeShare := if b = 0 then fullShare.left else fullShare.right

/-! ## Head by head: the keys -/

/-- Half `b` of the keys' double buffer on device `c`, at contents `f`. -/
def kPt (c : Dev nD) (b : Fin 2) (f : Buf (Elt F) ((c : Thread nD τ).loc cc0_scratch0)) : sProp 𝕄 :=
  ((c : Thread nD τ).loc cc0_scratch0) ↦[halfS b]{fullShare} f
/-- The share of the array of keys that copies into half `b` read. -/
def kSrc (c : Dev nD) (b : Fin 2) : sProp 𝕄 :=
  ((c : Thread nD τ).loc main_arg3) ↦[Finset.univ]{hsh b} (m ((c : Thread nD τ).loc main_arg3))
def kSem (b : Fin 2) : Fin 4 := ⟨b.val, by omega⟩

/-- Half `b` free: nothing in flight, contents unknown. -/
def kIdle (c : Dev nD) (b : Fin 2) : sProp 𝕄 :=
  iprop(kSrc m c b ∗ (∃ f, kPt c b f) ∗ semVal (copCell c (kSem b)) 0)
/-- Head `h`'s copy into half `b` in flight. -/
def kFly (c : Dev nD) (b : Fin 2) (h : Fin 8) : sProp 𝕄 :=
  Fly c (copS (kSem b)) (headOf KM c h) (halfOf kM b) (hsh b) (m ((c : Thread nD τ).loc main_arg3)) (kbuf m c h)
/-- Half `b` holding head `h`. -/
def kFull (c : Dev nD) (b : Fin 2) (h : Fin 8) : sProp 𝕄 :=
  iprop(kSrc m c b ∗ kPt c b (kbuf m c h) ∗ semVal (copCell c (kSem b)) 0)

theorem kFull_idle (c : Dev nD) (b : Fin 2) (h : Fin 8) : (kFull m c b h : sProp 𝕄) ⊢ kIdle m c b := by
  unfold kFull kIdle
  iintro ⟨H1, H2, H3⟩
  isplitl [H1]; · iexact H1
  isplitl [H2]; · iexists _; iexact H2
  iexact H3

theorem kCopy (c : Dev nD) (b : Fin 2) (h : Fin 8) (fd : Buf (Elt F) ((halfOf kM b).view.loc (c : Thread nD τ))) :
    ∀ i ∈ (halfOf kM b).view.set, (halfOf kM b).view.write (Elt F) fd ((headOf KM c h).view.read (Elt F) (m ((c : Thread nD τ).loc main_arg3))) Finset.univ i
      = kbuf m c h i :=
  copy_at (src := headOf KM c h) (dst := halfOf kM b) (m ((c : Thread nD τ).loc main_arg3)) fd (kbuf m c h) fun j => by
    obtain ⟨x, y, rfl⟩ := ex_ix2 j
    rw [View.read_apply, View.read_apply, show (halfOf kM b).view.emb (ix2 x y) = (ix3 b x y : S2x4096x128.Idx) from half_emb b x y,
      show (headOf KM c h).view.emb (ix2 x y) = (ix4 (0 : Fin 1) x (hd c h) y : S1x4096x64x128.Idx) from head_emb c h x y]
    rfl

theorem step_kStart (c : Dev nD) (b : Fin 2) (h : Fin 8) {q : DmaSem sig} (hq : q = copS (kSem b))
    {hsrc : (headOf KM c h).view.WordExact} {hdst : (halfOf kM b).view.WordExact}
    {hsem : DmaTarget.Typed .hbm (.dma q) (.here (halfOf kM b) : DmaTarget nD τ sig (c : Thread nD τ).2 .vmem S4096x128 .f32)}
    {α : Type} {Q : α → sProp 𝕄} {k' : PUnit → Prog (TpuEff nD τ sig (Elt F) Λ₀ .tc) α} :
    (kIdle m c b : sProp 𝕄)
      ⊢ iprop((kFly m c b h -∗ run c (k' ⟨⟩) Q)
          -∗ run c (.op (.enqueueDma (headOf KM c h) (.here (halfOf kM b)) (.dma q) hsrc hdst hsem) k') Q) := by
  unfold kIdle kFly kPt kSrc
  iintro ⟨Hs, ⟨%fd, Hd⟩, Hz⟩
  iapply (step_start c (copS (kSem b)) hq (src := headOf KM c h) (dst := halfOf kM b) (hsh b) (m ((c : Thread nD τ).loc main_arg3)) fd (kbuf m c h)
    (kCopy m c b h fd) rfl)
  isplitl [Hs]; · iexact Hs
  isplitl [Hd]; · iexact Hd
  iexact Hz

theorem step_kLand (c : Dev nD) (b : Fin 2) (h : Fin 8) {q : DmaSem sig} (hq : q = copS (kSem b)) (n : ℕ)
    {src' : Memref sig .tc .hbm S4096x128 .f32}
    {hsrc : src'.view.WordExact} {hdst : (halfOf kM b).view.WordExact}
    {α : Type} {Q : α → sProp 𝕄} {k' : PUnit → Prog (TpuEff nD τ sig (Elt F) Λ₀ .tc) α} :
    iprop(kFly m c b h ∗ Owes c (OB c n) ∗ levAts L lv)
      ⊢ iprop((kFull m c b h ∗ Owes c (OB c n) -∗ run c (k' ⟨⟩) Q)
          -∗ run c (.op (.waitDma2 q src' (halfOf kM b) hsrc hdst) k') Q) := by
  unfold kFull kFly kPt kSrc
  iintro H Hk
  iapply (step_land c (copS (kSem b)) hq (headOf KM c h) (halfOf kM b) (hsh b) (m ((c : Thread nD τ).loc main_arg3)) (kbuf m c h) (OB c n)
    (mayWait_low c _ (by show 4 + (kSem b).val < 22; have := (kSem b).isLt; omega) n) (dst' := halfOf kM b) rfl) $$ H
  iintro ⟨Hs, Hd, Hz, HO⟩
  iapply Hk
  isplitr [HO]
  · isplitl [Hs]; · iexact Hs
    isplitl [Hd]; · iexact Hd
    iexact Hz
  iexact HO

theorem k_setOn (b : Fin 2) {o : Fin 3 → ℕ} (ho : o = ![b.val, 0, 0]) (inb : ∀ a, o a + S1x4096x128.size a ≤ S2x4096x128.size a) :
    (kM : Memref sig .tc .vmem S2x4096x128 .f32).view.setOn (Rect.unit (s := S2x4096x128) o S1x4096x128.size inb).toLoadRect.set = halfS b := by
  subst ho
  exact (((View.set_reshape _ _).trans (View.set_slice (kM : Memref sig .tc .vmem S2x4096x128 .f32).view _)) : (halfOf kM b).view.set = _).symm

theorem k_read (c : Dev nD) (b : Fin 2) (h : Fin 8) (inb : ∀ a, (![b.val, 0, 0] : Fin 3 → ℕ) a + S1x4096x128.size a ≤ S2x4096x128.size a) :
    (kM : Memref sig .tc .vmem S2x4096x128 .f32).view.readAt (Elt F) (Rect.unit (s := S2x4096x128) ![b.val, 0, 0] S1x4096x128.size inb).toLoadRect (kbuf m c h)
      = khead m c h := by
  funext i
  have e (a : Fin 3) : ((Rect.unit (s := S2x4096x128) ![b.val, 0, 0] S1x4096x128.size inb).emb i a).val = (![b.val, 0, 0] : Fin 3 → ℕ) a + (i a).val :=
    ValueKit.rect_emb_unit_val _ _ _ _ _
  show kbuf m c h ((Rect.unit (s := S2x4096x128) ![b.val, 0, 0] S1x4096x128.size inb).emb i) = _
  unfold kbuf khead
  refine congrArg _ ?_
  rw [show (Rect.unit (s := S2x4096x128) ![b.val, 0, 0] S1x4096x128.size inb).emb i 1 = i 1 from Fin.ext ((e 1).trans (by simp)),
    show (Rect.unit (s := S2x4096x128) ![b.val, 0, 0] S1x4096x128.size inb).emb i 2 = i 2 from Fin.ext ((e 2).trans (by simp))]

theorem step_kLoad (c : Dev nD) (b : Fin 2) (h : Fin 8) {o : Fin 3 → ℕ} (ho : o = ![b.val, 0, 0]) {inb : ∀ a, o a + S1x4096x128.size a ≤ S2x4096x128.size a}
    {hl : (kM : Memref sig .tc .vmem S2x4096x128 .f32).view.LoadsAt (Rect.unit (s := S2x4096x128) o S1x4096x128.size inb).toLoadRect}
    {α : Type} {Q : α → sProp 𝕄} {k' : Vec F S1x4096x128 .f32 → Prog (TpuEff nD τ sig (Elt F) Λ₀ .tc) α} :
    (kFull m c b h : sProp 𝕄)
      ⊢ iprop((kFull m c b h -∗ run c (k' (khead m c h)) Q)
          -∗ run c (.op (.load kM (Rect.unit (s := S2x4096x128) o S1x4096x128.size inb).toLoadRect hl) k') Q) := by
  subst ho
  unfold kFull kPt
  iintro ⟨Hs, Hd, Hz⟩ Hk
  iapply (wp_load 𝒱₀ (c : Thread nD τ) none Set.univ (m := kM) (S := halfS b) (f := kbuf m c h) (subset_of_eq (k_setOn b rfl inb))) $$ Hd
  iintro Hd
  rw [show (kM : Memref sig .tc .vmem S2x4096x128 .f32).view.readAt (Elt F) (Rect.unit (s := S2x4096x128) ![b.val, 0, 0] S1x4096x128.size inb).toLoadRect (kbuf m c h)
    = khead m c h from k_read m c b h inb]
  iapply Hk
  isplitl [Hs]; · iexact Hs
  isplitl [Hd] <;> iassumption

/-! ## Head by head: the values -/

/-- Half `b` of the values' double buffer on device `c`, at contents `f`. -/
def vPt (c : Dev nD) (b : Fin 2) (f : Buf (Elt F) ((c : Thread nD τ).loc cc0_scratch1)) : sProp 𝕄 :=
  ((c : Thread nD τ).loc cc0_scratch1) ↦[halfS b]{fullShare} f
/-- The share of the array of values that copies into half `b` read. -/
def vSrc (c : Dev nD) (b : Fin 2) : sProp 𝕄 :=
  ((c : Thread nD τ).loc main_arg4) ↦[Finset.univ]{hsh b} (m ((c : Thread nD τ).loc main_arg4))
def vSem (b : Fin 2) : Fin 4 := ⟨2 + b.val, by omega⟩

/-- Half `b` free: nothing in flight, contents unknown. -/
def vIdle (c : Dev nD) (b : Fin 2) : sProp 𝕄 :=
  iprop(vSrc m c b ∗ (∃ f, vPt c b f) ∗ semVal (copCell c (vSem b)) 0)
/-- Head `h`'s copy into half `b` in flight. -/
def vFly (c : Dev nD) (b : Fin 2) (h : Fin 8) : sProp 𝕄 :=
  Fly c (copS (vSem b)) (headOf VM c h) (halfOf vM b) (hsh b) (m ((c : Thread nD τ).loc main_arg4)) (vbuf m c h)
/-- Half `b` holding head `h`. -/
def vFull (c : Dev nD) (b : Fin 2) (h : Fin 8) : sProp 𝕄 :=
  iprop(vSrc m c b ∗ vPt c b (vbuf m c h) ∗ semVal (copCell c (vSem b)) 0)

theorem vFull_idle (c : Dev nD) (b : Fin 2) (h : Fin 8) : (vFull m c b h : sProp 𝕄) ⊢ vIdle m c b := by
  unfold vFull vIdle
  iintro ⟨H1, H2, H3⟩
  isplitl [H1]; · iexact H1
  isplitl [H2]; · iexists _; iexact H2
  iexact H3

theorem vCopy (c : Dev nD) (b : Fin 2) (h : Fin 8) (fd : Buf (Elt F) ((halfOf vM b).view.loc (c : Thread nD τ))) :
    ∀ i ∈ (halfOf vM b).view.set, (halfOf vM b).view.write (Elt F) fd ((headOf VM c h).view.read (Elt F) (m ((c : Thread nD τ).loc main_arg4))) Finset.univ i
      = vbuf m c h i :=
  copy_at (src := headOf VM c h) (dst := halfOf vM b) (m ((c : Thread nD τ).loc main_arg4)) fd (vbuf m c h) fun j => by
    obtain ⟨x, y, rfl⟩ := ex_ix2 j
    rw [View.read_apply, View.read_apply, show (halfOf vM b).view.emb (ix2 x y) = (ix3 b x y : S2x4096x128.Idx) from half_emb b x y,
      show (headOf VM c h).view.emb (ix2 x y) = (ix4 (0 : Fin 1) x (hd c h) y : S1x4096x64x128.Idx) from head_emb c h x y]
    rfl

theorem step_vStart (c : Dev nD) (b : Fin 2) (h : Fin 8) {q : DmaSem sig} (hq : q = copS (vSem b))
    {hsrc : (headOf VM c h).view.WordExact} {hdst : (halfOf vM b).view.WordExact}
    {hsem : DmaTarget.Typed .hbm (.dma q) (.here (halfOf vM b) : DmaTarget nD τ sig (c : Thread nD τ).2 .vmem S4096x128 .f32)}
    {α : Type} {Q : α → sProp 𝕄} {k' : PUnit → Prog (TpuEff nD τ sig (Elt F) Λ₀ .tc) α} :
    (vIdle m c b : sProp 𝕄)
      ⊢ iprop((vFly m c b h -∗ run c (k' ⟨⟩) Q)
          -∗ run c (.op (.enqueueDma (headOf VM c h) (.here (halfOf vM b)) (.dma q) hsrc hdst hsem) k') Q) := by
  unfold vIdle vFly vPt vSrc
  iintro ⟨Hs, ⟨%fd, Hd⟩, Hz⟩
  iapply (step_start c (copS (vSem b)) hq (src := headOf VM c h) (dst := halfOf vM b) (hsh b) (m ((c : Thread nD τ).loc main_arg4)) fd (vbuf m c h)
    (vCopy m c b h fd) rfl)
  isplitl [Hs]; · iexact Hs
  isplitl [Hd]; · iexact Hd
  iexact Hz

theorem step_vLand (c : Dev nD) (b : Fin 2) (h : Fin 8) {q : DmaSem sig} (hq : q = copS (vSem b)) (n : ℕ)
    {src' : Memref sig .tc .hbm S4096x128 .f32}
    {hsrc : src'.view.WordExact} {hdst : (halfOf vM b).view.WordExact}
    {α : Type} {Q : α → sProp 𝕄} {k' : PUnit → Prog (TpuEff nD τ sig (Elt F) Λ₀ .tc) α} :
    iprop(vFly m c b h ∗ Owes c (OB c n) ∗ levAts L lv)
      ⊢ iprop((vFull m c b h ∗ Owes c (OB c n) -∗ run c (k' ⟨⟩) Q)
          -∗ run c (.op (.waitDma2 q src' (halfOf vM b) hsrc hdst) k') Q) := by
  unfold vFull vFly vPt vSrc
  iintro H Hk
  iapply (step_land c (copS (vSem b)) hq (headOf VM c h) (halfOf vM b) (hsh b) (m ((c : Thread nD τ).loc main_arg4)) (vbuf m c h) (OB c n)
    (mayWait_low c _ (by show 4 + (vSem b).val < 22; have := (vSem b).isLt; omega) n) (dst' := halfOf vM b) rfl) $$ H
  iintro ⟨Hs, Hd, Hz, HO⟩
  iapply Hk
  isplitr [HO]
  · isplitl [Hs]; · iexact Hs
    isplitl [Hd]; · iexact Hd
    iexact Hz
  iexact HO

theorem v_setOn (b : Fin 2) {o : Fin 3 → ℕ} (ho : o = ![b.val, 0, 0]) (inb : ∀ a, o a + S1x4096x128.size a ≤ S2x4096x128.size a) :
    (vM : Memref sig .tc .vmem S2x4096x128 .f32).view.setOn (Rect.unit (s := S2x4096x128) o S1x4096x128.size inb).toLoadRect.set = halfS b := by
  subst ho
  exact (((View.set_reshape _ _).trans (View.set_slice (vM : Memref sig .tc .vmem S2x4096x128 .f32).view _)) : (halfOf vM b).view.set = _).symm

theorem v_read (c : Dev nD) (b : Fin 2) (h : Fin 8) (inb : ∀ a, (![b.val, 0, 0] : Fin 3 → ℕ) a + S1x4096x128.size a ≤ S2x4096x128.size a) :
    (vM : Memref sig .tc .vmem S2x4096x128 .f32).view.readAt (Elt F) (Rect.unit (s := S2x4096x128) ![b.val, 0, 0] S1x4096x128.size inb).toLoadRect (vbuf m c h)
      = vhead m c h := by
  funext i
  have e (a : Fin 3) : ((Rect.unit (s := S2x4096x128) ![b.val, 0, 0] S1x4096x128.size inb).emb i a).val = (![b.val, 0, 0] : Fin 3 → ℕ) a + (i a).val :=
    ValueKit.rect_emb_unit_val _ _ _ _ _
  show vbuf m c h ((Rect.unit (s := S2x4096x128) ![b.val, 0, 0] S1x4096x128.size inb).emb i) = _
  unfold vbuf vhead
  refine congrArg _ ?_
  rw [show (Rect.unit (s := S2x4096x128) ![b.val, 0, 0] S1x4096x128.size inb).emb i 1 = i 1 from Fin.ext ((e 1).trans (by simp)),
    show (Rect.unit (s := S2x4096x128) ![b.val, 0, 0] S1x4096x128.size inb).emb i 2 = i 2 from Fin.ext ((e 2).trans (by simp))]

theorem step_vLoad (c : Dev nD) (b : Fin 2) (h : Fin 8) {o : Fin 3 → ℕ} (ho : o = ![b.val, 0, 0]) {inb : ∀ a, o a + S1x4096x128.size a ≤ S2x4096x128.size a}
    {hl : (vM : Memref sig .tc .vmem S2x4096x128 .f32).view.LoadsAt (Rect.unit (s := S2x4096x128) o S1x4096x128.size inb).toLoadRect}
    {α : Type} {Q : α → sProp 𝕄} {k' : Vec F S1x4096x128 .f32 → Prog (TpuEff nD τ sig (Elt F) Λ₀ .tc) α} :
    (vFull m c b h : sProp 𝕄)
      ⊢ iprop((vFull m c b h -∗ run c (k' (vhead m c h)) Q)
          -∗ run c (.op (.load vM (Rect.unit (s := S2x4096x128) o S1x4096x128.size inb).toLoadRect hl) k') Q) := by
  subst ho
  unfold vFull vPt
  iintro ⟨Hs, Hd, Hz⟩ Hk
  iapply (wp_load 𝒱₀ (c : Thread nD τ) none Set.univ (m := vM) (S := halfS b) (f := vbuf m c h) (subset_of_eq (v_setOn b rfl inb))) $$ Hd
  iintro Hd
  rw [show (vM : Memref sig .tc .vmem S2x4096x128 .f32).view.readAt (Elt F) (Rect.unit (s := S2x4096x128) ![b.val, 0, 0] S1x4096x128.size inb).toLoadRect (vbuf m c h)
    = vhead m c h from v_read m c b h inb]
  iapply Hk
  isplitl [Hs]; · iexact Hs
  isplitl [Hd] <;> iassumption

end Cert.KernelIdeal.Pf

end
-- ==== Proof.Attn.lean ====
/-
# The body, part by part: the eight heads

The kernel's body is printed as a chain of parts. Each theorem here gives one part of its first half its resources and says
what it hands on: the copies started and landed, the heads loaded, and the payload the part returns as a function of them.
-/
module

public import proofs.«01_k».proof.Proof.Heads
public import proofs.«01_k».proof.Proof.Gen.KernelIdeal.Skeleton

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Ck → ℕ)

/-! ## Which semaphore is which -/

theorem cs0 : ((cc0_scratch5.slice (Rect.unit (s := S4) ![0] S1.size inb_S4_S1_0)).squeeze S_ squeezes_S1_S_).sem = copS (kSem 0) := by decide +kernel
theorem cs1 : ((cc0_scratch5.slice (Rect.unit (s := S4) ![1] S1.size inb_S4_S1_1)).squeeze S_ squeezes_S1_S_).sem = copS (kSem 1) := by decide +kernel
theorem cs2 : ((cc0_scratch5.slice (Rect.unit (s := S4) ![2] S1.size inb_S4_S1_2)).squeeze S_ squeezes_S1_S_).sem = copS (vSem 0) := by decide +kernel
theorem cs3 : ((cc0_scratch5.slice (Rect.unit (s := S4) ![3] S1.size inb_S4_S1_3)).squeeze S_ squeezes_S1_S_).sem = copS (vSem 1) := by decide +kernel

theorem run_ret (c : Dev nD) {α : Type} {a : α} {Q : α → sProp 𝕄} : Q a ⊢ run c (.ret a) Q := by
  unfold run
  rw [wp_ret]
  exact fupd_intro

theorem run_bind (c : Dev nD) {α β : Type} {p : Prog (TpuEff nD τ sig (Elt F) Λ₀ .tc) α} {k : α → Prog (TpuEff nD τ sig (Elt F) Λ₀ .tc) β} {Q : β → sProp 𝕄} :
    run c p (fun a => run c (k a) Q) ⊢ run c (p >>= k) Q := by
  unfold run
  rw [wp_bind]

/-! ## The staged inputs -/

abbrev xPt (c : Dev nD) : sProp 𝕄 := iprop((c : Thread nD τ).loc cc0_stg0_0 ↦[Finset.univ]{fullShare} xstg m c)
abbrev wqPt (c : Dev nD) : sProp 𝕄 := iprop((c : Thread nD τ).loc cc0_stg1_0 ↦[Finset.univ]{fullShare} wqstg m c)
abbrev woPt (c : Dev nD) : sProp 𝕄 := iprop((c : Thread nD τ).loc cc0_stg2_0 ↦[Finset.univ]{fullShare} wostg m c)

theorem z2 : (![0, 0] : Fin 2 → ℕ) = fun _ => 0 := by decide
theorem z3 : (![0, 0, 0] : Fin 3 → ℕ) = fun _ => 0 := by decide

theorem readw_stg0 (inb) (f : Vec F S1x256x1024 .f32) : (Memref.whole cc0_stg0_0).view.readAt (Elt F) (Rect.unit (s := S1x256x1024) ![0, 0, 0] S1x256x1024.size inb).toLoadRect f = f :=
  Memref.readAt_unit_zero (Elt F) cc0_stg0_0 z3 inb f
theorem readw_stg1 (inb) (f : Vec F S1024x1024 .f32) : (Memref.whole cc0_stg1_0).view.readAt (Elt F) (Rect.unit (s := S1024x1024) ![0, 0] S1024x1024.size inb).toLoadRect f = f :=
  Memref.readAt_unit_zero (Elt F) cc0_stg1_0 z2 inb f
theorem readw_stg2 (inb) (f : Vec F S1024x1024 .f32) : (Memref.whole cc0_stg2_0).view.readAt (Elt F) (Rect.unit (s := S1024x1024) ![0, 0] S1024x1024.size inb).toLoadRect f = f :=
  Memref.readAt_unit_zero (Elt F) cc0_stg2_0 z2 inb f

/-- What a device hands its `k`-th peer with its entry signal. -/
def sigRes (c : Dev nD) (k : ℕ) : sProp 𝕄 :=
  iprop(dutyTok ER (barCell (pr c k)) 0 c ∗ (∃ f, rsPt (F := F) c (pr c k) f) ∗ (∃ f, agPt (F := F) c (pr c k) fullShare f))

/-- What a device has from its seven peers after the entry barrier. -/
abbrev peers (c : Dev nD) : sProp 𝕄 :=
  iprop(barPay (F := F) c (pr c 1) ∗ barPay (F := F) c (pr c 2) ∗ barPay (F := F) c (pr c 3) ∗ barPay (F := F) c (pr c 4)
    ∗ barPay (F := F) c (pr c 5) ∗ barPay (F := F) c (pr c 6) ∗ barPay (F := F) c (pr c 7))

set_option maxHeartbeats 2000000 in
theorem part1 (c : Dev nD) (Kt : _ → sProp 𝕄) :
    iprop(kIdle m c 0 ∗ vIdle m c 0
        ∗ (∀ a b e, kFly m c 0 0 ∗ vFly m c 0 0 -∗ Kt ⟨c, a, b, (SemArray.scalar (sig.barrier 0 rfl)), e⟩))
      ⊢ run c (k0_part1 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 ) Kt := by
  rw [k0_part1_eq_skeleton]; unfold k0_part1_skel
  simp only [semSignalWord, semWaitWord, Prog.lift, Prog.bind_op, Prog.bind_ret, Prog.pure_eq_ret, wp_deviceId]
  iintro ⟨Hk0, Hv0, HK⟩
  iapply (step_kStart m c 0 0 cs0) $$ Hk0
  iintro Hk0
  iapply (step_vStart m c 0 0 cs2) $$ Hv0
  iintro Hv0
  iapply (run_ret c)
  iapply HK
  isplitl [Hk0]; · iexact Hk0
  iexact Hv0

set_option maxHeartbeats 2000000 in
theorem part2 (c : Dev nD) (v2 v29 : BitVec 32) (Kt : _ → sProp 𝕄) :
    iprop(records m K ∗ Owes c (OB c 7) ∗ sigRes c 1 ∗ sigRes c 2 ∗ sigRes c 3
        ∗ (∀ a b, Owes c (OB c 4) -∗ Kt ⟨a, b⟩))
      ⊢ run c (k0_part2 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 (SemArray.scalar (sig.barrier 0 rfl)) v29) Kt := by
  rw [k0_part2_eq_skeleton]; unfold k0_part2_skel
  simp only [semSignalWord, semWaitWord, Prog.lift, Prog.bind_op, Prog.bind_ret, Prog.pure_eq_ret, wp_deviceId]
  iintro ⟨#HI, HO, Hs1, Hs2, Hs3, HK⟩
  iapply (step_signal m K c _ 6 1 rfl (sdev1 c) (pr_ne c 0) rfl) $$ [HO Hs1]
  · isplitr; · iexact HI
    isplitl [HO]; · iexact HO
    unfold sigRes; iexact Hs1
  iintro HO
  iapply (step_signal m K c _ 5 2 rfl (sdev2 c) (pr_ne c 1) rfl) $$ [HO Hs2]
  · isplitr; · iexact HI
    isplitl [HO]; · iexact HO
    unfold sigRes; iexact Hs2
  iintro HO
  iapply (step_signal m K c _ 4 3 rfl (sdev3 c) (pr_ne c 2) rfl) $$ [HO Hs3]
  · isplitr; · iexact HI
    isplitl [HO]; · iexact HO
    unfold sigRes; iexact Hs3
  iintro HO
  iapply (run_ret c)
  iapply HK
  iexact HO

set_option maxHeartbeats 2000000 in
theorem part3 (c : Dev nD) (v2 v58 v60 : BitVec 32) (Kt : _ → sProp 𝕄) :
    iprop(records m K ∗ Owes c (OB c 4) ∗ sigRes c 4 ∗ sigRes c 5
        ∗ (∀ a, Owes c (OB c 2) -∗ Kt a))
      ⊢ run c (k0_part3 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 (SemArray.scalar (sig.barrier 0 rfl)) v58 v60) Kt := by
  rw [k0_part3_eq_skeleton]; unfold k0_part3_skel
  simp only [semSignalWord, semWaitWord, Prog.lift, Prog.bind_op, Prog.bind_ret, Prog.pure_eq_ret, wp_deviceId]
  iintro ⟨#HI, HO, Hs4, Hs5, HK⟩
  iapply (step_signal m K c _ 3 4 rfl (sdev4 c) (pr_ne c 3) rfl) $$ [HO Hs4]
  · isplitr; · iexact HI
    isplitl [HO]; · iexact HO
    unfold sigRes; iexact Hs4
  iintro HO
  iapply (step_signal m K c _ 2 5 rfl (sdev5 c) (pr_ne c 4) rfl) $$ [HO Hs5]
  · isplitr; · iexact HI
    isplitl [HO]; · iexact HO
    unfold sigRes; iexact Hs5
  iintro HO
  iapply (run_ret c)
  iapply HK
  iexact HO

set_option maxHeartbeats 2000000 in
theorem part4 (c : Dev nD) (v2 v3 v94 : BitVec 32) (Kt : _ → sProp 𝕄) :
    iprop(records m K ∗ levAts L lv ∗ Owes c (OB c 2) ∗ sigRes c 6 ∗ sigRes c 7 ∗ cred (tallyAt (barCell c) () 7) ∗ atPos ER (barCell c) 0 ∅ 0 ∗ xPt m c ∗ wqPt m c
        ∗ (Owes c (OB c 0) ∗ xPt m c ∗ wqPt m c ∗ peers (F := F) c ∗ semVal (barCell c) 0 -∗ Kt (k0_pay1 (xstg m c) (wqstg m c))))
      ⊢ run c (k0_part4 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v3 (SemArray.scalar (sig.barrier 0 rfl)) v94) Kt := by
  rw [k0_part4_eq_skeleton]; unfold k0_part4_skel
  simp only [semSignalWord, semWaitWord, Prog.lift, Prog.bind_op, Prog.bind_ret, Prog.pure_eq_ret, wp_deviceId]
  iintro ⟨#HI, #Hlev, HO, Hs6, Hs7, Hc, Hat, Hx, Hw, HK⟩
  iapply (step_signal m K c _ 1 6 rfl (sdev6 c) (pr_ne c 5) rfl) $$ [HO Hs6]
  · isplitr; · iexact HI
    isplitl [HO]; · iexact HO
    unfold sigRes; iexact Hs6
  iintro HO
  iapply (step_signal m K c _ 0 7 rfl (sdev7 c) (pr_ne c 6) rfl) $$ [HO Hs7]
  · isplitr; · iexact HI
    isplitl [HO]; · iexact HO
    unfold sigRes; iexact Hs7
  iintro HO
  iapply (step_barwait m K c rfl) $$ [Hc HO Hat]
  · isplitr; · iexact HI
    isplitl [Hc]; · iexact Hc
    isplitl [HO]; · iexact HO
    isplitr; · iexact Hlev
    iexact Hat
  iintro ⟨Hp, Hz, HO⟩
  iapply (wp_load 𝒱₀ (c : Thread nD τ) none Set.univ (m := Memref.whole cc0_stg0_0) (S := Finset.univ) (f := xstg m c) (Finset.subset_univ _)) $$ Hx
  iintro Hx
  rw [readw_stg0]
  iapply (wp_load 𝒱₀ (c : Thread nD τ) none Set.univ (m := Memref.whole cc0_stg1_0) (S := Finset.univ) (f := wqstg m c) (Finset.subset_univ _)) $$ Hw
  iintro Hw
  rw [readw_stg1]
  iapply (run_ret c)
  iapply HK
  isplitl [HO]; · iexact HO
  isplitl [Hx]; · iexact Hx
  isplitl [Hw]; · iexact Hw
  isplitl [Hp]; · iexact Hp
  iexact Hz

set_option maxHeartbeats 2000000 in
theorem part5 (c : Dev nD) (v114 : FVec F S256x1024 .f32) (Kt : _ → sProp 𝕄) :
    iprop(levAts L lv ∗ Owes c (OB c 0) ∗ kIdle m c 1 ∗ vIdle m c 1 ∗ kFly m c 0 0 ∗ vFly m c 0 0
        ∗ (Owes c (OB c 0) ∗ kFly m c 1 1 ∗ vFly m c 1 1 ∗ kFull m c 0 0 ∗ vFull m c 0 0 -∗ Kt (k0_pay2 v114 (khead m c 0))))
      ⊢ run c (k0_part5 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v114) Kt := by
  rw [k0_part5_eq_skeleton]; unfold k0_part5_skel
  simp only [semSignalWord, semWaitWord, Prog.lift, Prog.bind_op, Prog.bind_ret, Prog.pure_eq_ret, wp_deviceId]
  iintro ⟨#Hlev, HO, Hk1, Hv1, Hk0, Hv0, HK⟩
  iapply (step_kStart m c 1 1 cs1) $$ Hk1
  iintro Hk1
  iapply (step_vStart m c 1 1 cs3) $$ Hv1
  iintro Hv1
  iapply (step_kLand m c 0 0 cs0 0) $$ [Hk0 HO]
  · isplitl [Hk0]; · iexact Hk0
    isplitl [HO]; · iexact HO
    iexact Hlev
  iintro ⟨Hk0, HO⟩
  iapply (step_vLand m c 0 0 cs2 0) $$ [Hv0 HO]
  · isplitl [Hv0]; · iexact Hv0
    isplitl [HO]; · iexact HO
    iexact Hlev
  iintro ⟨Hv0, HO⟩
  iapply (step_kLoad m c 0 0 rfl) $$ Hk0
  iintro Hk0
  iapply (run_ret c)
  iapply HK
  isplitl [HO]; · iexact HO
  isplitl [Hk1]; · iexact Hk1
  isplitl [Hv1]; · iexact Hv1
  isplitl [Hk0]; · iexact Hk0
  iexact Hv0

set_option maxHeartbeats 2000000 in
theorem part6 (c : Dev nD) (v3 : BitVec 32) (v151 : FVec F S256x4096 .f32) (Kt : _ → sProp 𝕄) :
    iprop(levAts L lv ∗ Owes c (OB c 0) ∗ kFull m c 0 0 ∗ vFull m c 0 0 ∗ kFly m c 1 1
        ∗ (Owes c (OB c 0) ∗ kFly m c 0 2 ∗ vFly m c 0 2 ∗ kFull m c 1 1 -∗ Kt (k0_pay3 v151 (vhead m c 0))))
      ⊢ run c (k0_part6 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v3 v151) Kt := by
  rw [k0_part6_eq_skeleton]; unfold k0_part6_skel
  simp only [semSignalWord, semWaitWord, Prog.lift, Prog.bind_op, Prog.bind_ret, Prog.pure_eq_ret, wp_deviceId]
  iintro ⟨#Hlev, HO, Hk0, Hv0, Hk1, HK⟩
  iapply (step_vLoad m c 0 0 rfl) $$ Hv0
  iintro Hv0
  ihave Hk0 := (kFull_idle m c 0 0) $$ Hk0
  iapply (step_kStart m c 0 2 cs0) $$ Hk0
  iintro Hk0
  ihave Hv0 := (vFull_idle m c 0 0) $$ Hv0
  iapply (step_vStart m c 0 2 cs2) $$ Hv0
  iintro Hv0
  iapply (step_kLand m c 1 1 cs1 0) $$ [Hk1 HO]
  · isplitl [Hk1]; · iexact Hk1
    isplitl [HO]; · iexact HO
    iexact Hlev
  iintro ⟨Hk1, HO⟩
  iapply (run_ret c)
  iapply HK
  isplitl [HO]; · iexact HO
  isplitl [Hk0]; · iexact Hk0
  isplitl [Hv0]; · iexact Hv0
  iexact Hk1

set_option maxHeartbeats 2000000 in
theorem part7 (c : Dev nD) (v3 : BitVec 32) (v114 : FVec F S256x1024 .f32) (Kt : _ → sProp 𝕄) :
    iprop(levAts L lv ∗ Owes c (OB c 0) ∗ kFull m c 1 1 ∗ vFly m c 1 1
        ∗ (Owes c (OB c 0) ∗ kFly m c 1 3 ∗ vFull m c 1 1 -∗ Kt (k0_pay4 v114 (khead m c 1) (vhead m c 1))))
      ⊢ run c (k0_part7 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v3 v114) Kt := by
  rw [k0_part7_eq_skeleton]; unfold k0_part7_skel
  simp only [semSignalWord, semWaitWord, Prog.lift, Prog.bind_op, Prog.bind_ret, Prog.pure_eq_ret, wp_deviceId]
  iintro ⟨#Hlev, HO, Hk1, Hv1, HK⟩
  iapply (step_vLand m c 1 1 cs3 0) $$ [Hv1 HO]
  · isplitl [Hv1]; · iexact Hv1
    isplitl [HO]; · iexact HO
    iexact Hlev
  iintro ⟨Hv1, HO⟩
  iapply (step_kLoad m c 1 1 rfl) $$ Hk1
  iintro Hk1
  iapply (step_vLoad m c 1 1 rfl) $$ Hv1
  iintro Hv1
  ihave Hk1 := (kFull_idle m c 1 1) $$ Hk1
  iapply (step_kStart m c 1 3 cs1) $$ Hk1
  iintro Hk1
  iapply (run_ret c)
  iapply HK
  isplitl [HO]; · iexact HO
  isplitl [Hk1]; · iexact Hk1
  iexact Hv1

set_option maxHeartbeats 2000000 in
theorem part8 (c : Dev nD) (v114 : FVec F S256x1024 .f32) (Kt : _ → sProp 𝕄) :
    iprop(levAts L lv ∗ Owes c (OB c 0) ∗ vFull m c 1 1 ∗ kFly m c 0 2 ∗ vFly m c 0 2
        ∗ (Owes c (OB c 0) ∗ vFly m c 1 3 ∗ kFull m c 0 2 ∗ vFull m c 0 2 -∗ Kt ⟨k0_pay5 v114 (khead m c 2), k0_pay6 v114 (khead m c 2)⟩))
      ⊢ run c (k0_part8 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v114) Kt := by
  rw [k0_part8_eq_skeleton]; unfold k0_part8_skel
  simp only [semSignalWord, semWaitWord, Prog.lift, Prog.bind_op, Prog.bind_ret, Prog.pure_eq_ret, wp_deviceId]
  iintro ⟨#Hlev, HO, Hv1, Hk0, Hv0, HK⟩
  ihave Hv1 := (vFull_idle m c 1 1) $$ Hv1
  iapply (step_vStart m c 1 3 cs3) $$ Hv1
  iintro Hv1
  iapply (step_kLand m c 0 2 cs0 0) $$ [Hk0 HO]
  · isplitl [Hk0]; · iexact Hk0
    isplitl [HO]; · iexact HO
    iexact Hlev
  iintro ⟨Hk0, HO⟩
  iapply (step_vLand m c 0 2 cs2 0) $$ [Hv0 HO]
  · isplitl [Hv0]; · iexact Hv0
    isplitl [HO]; · iexact HO
    iexact Hlev
  iintro ⟨Hv0, HO⟩
  iapply (step_kLoad m c 0 2 rfl) $$ Hk0
  iintro Hk0
  iapply (run_ret c)
  iapply HK
  isplitl [HO]; · iexact HO
  isplitl [Hv1]; · iexact Hv1
  isplitl [Hk0]; · iexact Hk0
  iexact Hv0

set_option maxHeartbeats 2000000 in
theorem part9 (c : Dev nD) (v3 : BitVec 32) (v239 : FVec F S256x4096 .f32) (v240 : FVec F S256 .f32) (Kt : _ → sProp 𝕄) :
    iprop(levAts L lv ∗ Owes c (OB c 0) ∗ kFull m c 0 2 ∗ vFull m c 0 2 ∗ kFly m c 1 3
        ∗ (Owes c (OB c 0) ∗ kFly m c 0 4 ∗ vFly m c 0 4 ∗ kFull m c 1 3 -∗ Kt (k0_pay7 v239 v240 (vhead m c 2))))
      ⊢ run c (k0_part9 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v3 v239 v240) Kt := by
  rw [k0_part9_eq_skeleton]; unfold k0_part9_skel
  simp only [semSignalWord, semWaitWord, Prog.lift, Prog.bind_op, Prog.bind_ret, Prog.pure_eq_ret, wp_deviceId]
  iintro ⟨#Hlev, HO, Hk0, Hv0, Hk1, HK⟩
  iapply (step_vLoad m c 0 2 rfl) $$ Hv0
  iintro Hv0
  ihave Hk0 := (kFull_idle m c 0 2) $$ Hk0
  iapply (step_kStart m c 0 4 cs0) $$ Hk0
  iintro Hk0
  ihave Hv0 := (vFull_idle m c 0 2) $$ Hv0
  iapply (step_vStart m c 0 4 cs2) $$ Hv0
  iintro Hv0
  iapply (step_kLand m c 1 3 cs1 0) $$ [Hk1 HO]
  · isplitl [Hk1]; · iexact Hk1
    isplitl [HO]; · iexact HO
    iexact Hlev
  iintro ⟨Hk1, HO⟩
  iapply (run_ret c)
  iapply HK
  isplitl [HO]; · iexact HO
  isplitl [Hk0]; · iexact Hk0
  isplitl [Hv0]; · iexact Hv0
  iexact Hk1

set_option maxHeartbeats 2000000 in
theorem part10 (c : Dev nD) (v3 : BitVec 32) (v114 : FVec F S256x1024 .f32) (Kt : _ → sProp 𝕄) :
    iprop(levAts L lv ∗ Owes c (OB c 0) ∗ kFull m c 1 3 ∗ vFly m c 1 3
        ∗ (Owes c (OB c 0) ∗ kFly m c 1 5 ∗ vFull m c 1 3 -∗ Kt (k0_pay8 v114 (khead m c 3) (vhead m c 3))))
      ⊢ run c (k0_part10 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v3 v114) Kt := by
  rw [k0_part10_eq_skeleton]; unfold k0_part10_skel
  simp only [semSignalWord, semWaitWord, Prog.lift, Prog.bind_op, Prog.bind_ret, Prog.pure_eq_ret, wp_deviceId]
  iintro ⟨#Hlev, HO, Hk1, Hv1, HK⟩
  iapply (step_vLand m c 1 3 cs3 0) $$ [Hv1 HO]
  · isplitl [Hv1]; · iexact Hv1
    isplitl [HO]; · iexact HO
    iexact Hlev
  iintro ⟨Hv1, HO⟩
  iapply (step_kLoad m c 1 3 rfl) $$ Hk1
  iintro Hk1
  iapply (step_vLoad m c 1 3 rfl) $$ Hv1
  iintro Hv1
  ihave Hk1 := (kFull_idle m c 1 3) $$ Hk1
  iapply (step_kStart m c 1 5 cs1) $$ Hk1
  iintro Hk1
  iapply (run_ret c)
  iapply HK
  isplitl [HO]; · iexact HO
  isplitl [Hk1]; · iexact Hk1
  iexact Hv1

set_option maxHeartbeats 2000000 in
theorem part11 (c : Dev nD) (v114 : FVec F S256x1024 .f32) (Kt : _ → sProp 𝕄) :
    iprop(levAts L lv ∗ Owes c (OB c 0) ∗ vFull m c 1 3 ∗ kFly m c 0 4 ∗ vFly m c 0 4
        ∗ (Owes c (OB c 0) ∗ vFly m c 1 5 ∗ kFull m c 0 4 ∗ vFull m c 0 4 -∗ Kt ⟨k0_pay9 v114 (khead m c 4), k0_pay10 v114 (khead m c 4)⟩))
      ⊢ run c (k0_part11 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v114) Kt := by
  rw [k0_part11_eq_skeleton]; unfold k0_part11_skel
  simp only [semSignalWord, semWaitWord, Prog.lift, Prog.bind_op, Prog.bind_ret, Prog.pure_eq_ret, wp_deviceId]
  iintro ⟨#Hlev, HO, Hv1, Hk0, Hv0, HK⟩
  ihave Hv1 := (vFull_idle m c 1 3) $$ Hv1
  iapply (step_vStart m c 1 5 cs3) $$ Hv1
  iintro Hv1
  iapply (step_kLand m c 0 4 cs0 0) $$ [Hk0 HO]
  · isplitl [Hk0]; · iexact Hk0
    isplitl [HO]; · iexact HO
    iexact Hlev
  iintro ⟨Hk0, HO⟩
  iapply (step_vLand m c 0 4 cs2 0) $$ [Hv0 HO]
  · isplitl [Hv0]; · iexact Hv0
    isplitl [HO]; · iexact HO
    iexact Hlev
  iintro ⟨Hv0, HO⟩
  iapply (step_kLoad m c 0 4 rfl) $$ Hk0
  iintro Hk0
  iapply (run_ret c)
  iapply HK
  isplitl [HO]; · iexact HO
  isplitl [Hv1]; · iexact Hv1
  isplitl [Hk0]; · iexact Hk0
  iexact Hv0

set_option maxHeartbeats 2000000 in
theorem part12 (c : Dev nD) (v3 : BitVec 32) (v327 : FVec F S256x4096 .f32) (v329 : FVec F S256x1 .f32) (Kt : _ → sProp 𝕄) :
    iprop(levAts L lv ∗ Owes c (OB c 0) ∗ kFull m c 0 4 ∗ vFull m c 0 4 ∗ kFly m c 1 5
        ∗ (Owes c (OB c 0) ∗ kFly m c 0 6 ∗ vFly m c 0 6 ∗ kFull m c 1 5 -∗ Kt (k0_pay11 v327 v329 (vhead m c 4))))
      ⊢ run c (k0_part12 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v3 v327 v329) Kt := by
  rw [k0_part12_eq_skeleton]; unfold k0_part12_skel
  simp only [semSignalWord, semWaitWord, Prog.lift, Prog.bind_op, Prog.bind_ret, Prog.pure_eq_ret, wp_deviceId]
  iintro ⟨#Hlev, HO, Hk0, Hv0, Hk1, HK⟩
  iapply (step_vLoad m c 0 4 rfl) $$ Hv0
  iintro Hv0
  ihave Hk0 := (kFull_idle m c 0 4) $$ Hk0
  iapply (step_kStart m c 0 6 cs0) $$ Hk0
  iintro Hk0
  ihave Hv0 := (vFull_idle m c 0 4) $$ Hv0
  iapply (step_vStart m c 0 6 cs2) $$ Hv0
  iintro Hv0
  iapply (step_kLand m c 1 5 cs1 0) $$ [Hk1 HO]
  · isplitl [Hk1]; · iexact Hk1
    isplitl [HO]; · iexact HO
    iexact Hlev
  iintro ⟨Hk1, HO⟩
  iapply (run_ret c)
  iapply HK
  isplitl [HO]; · iexact HO
  isplitl [Hk0]; · iexact Hk0
  isplitl [Hv0]; · iexact Hv0
  iexact Hk1

set_option maxHeartbeats 2000000 in
theorem part13 (c : Dev nD) (v3 : BitVec 32) (v114 : FVec F S256x1024 .f32) (Kt : _ → sProp 𝕄) :
    iprop(levAts L lv ∗ Owes c (OB c 0) ∗ kFull m c 1 5 ∗ vFly m c 1 5
        ∗ (Owes c (OB c 0) ∗ kFly m c 1 7 ∗ vFull m c 1 5 -∗ Kt (k0_pay12 v114 (khead m c 5) (vhead m c 5))))
      ⊢ run c (k0_part13 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v3 v114) Kt := by
  rw [k0_part13_eq_skeleton]; unfold k0_part13_skel
  simp only [semSignalWord, semWaitWord, Prog.lift, Prog.bind_op, Prog.bind_ret, Prog.pure_eq_ret, wp_deviceId]
  iintro ⟨#Hlev, HO, Hk1, Hv1, HK⟩
  iapply (step_vLand m c 1 5 cs3 0) $$ [Hv1 HO]
  · isplitl [Hv1]; · iexact Hv1
    isplitl [HO]; · iexact HO
    iexact Hlev
  iintro ⟨Hv1, HO⟩
  iapply (step_kLoad m c 1 5 rfl) $$ Hk1
  iintro Hk1
  iapply (step_vLoad m c 1 5 rfl) $$ Hv1
  iintro Hv1
  ihave Hk1 := (kFull_idle m c 1 5) $$ Hk1
  iapply (step_kStart m c 1 7 cs1) $$ Hk1
  iintro Hk1
  iapply (run_ret c)
  iapply HK
  isplitl [HO]; · iexact HO
  isplitl [Hk1]; · iexact Hk1
  iexact Hv1

set_option maxHeartbeats 2000000 in
theorem part14 (c : Dev nD) (v114 : FVec F S256x1024 .f32) (Kt : _ → sProp 𝕄) :
    iprop(levAts L lv ∗ Owes c (OB c 0) ∗ vFull m c 1 5 ∗ kFly m c 0 6 ∗ vFly m c 0 6
        ∗ (Owes c (OB c 0) ∗ vFly m c 1 7 ∗ kFull m c 0 6 ∗ vFull m c 0 6 -∗ Kt ⟨k0_pay13 v114 (khead m c 6), k0_pay14 v114 (khead m c 6)⟩))
      ⊢ run c (k0_part14 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v114) Kt := by
  rw [k0_part14_eq_skeleton]; unfold k0_part14_skel
  simp only [semSignalWord, semWaitWord, Prog.lift, Prog.bind_op, Prog.bind_ret, Prog.pure_eq_ret, wp_deviceId]
  iintro ⟨#Hlev, HO, Hv1, Hk0, Hv0, HK⟩
  ihave Hv1 := (vFull_idle m c 1 5) $$ Hv1
  iapply (step_vStart m c 1 7 cs3) $$ Hv1
  iintro Hv1
  iapply (step_kLand m c 0 6 cs0 0) $$ [Hk0 HO]
  · isplitl [Hk0]; · iexact Hk0
    isplitl [HO]; · iexact HO
    iexact Hlev
  iintro ⟨Hk0, HO⟩
  iapply (step_vLand m c 0 6 cs2 0) $$ [Hv0 HO]
  · isplitl [Hv0]; · iexact Hv0
    isplitl [HO]; · iexact HO
    iexact Hlev
  iintro ⟨Hv0, HO⟩
  iapply (step_kLoad m c 0 6 rfl) $$ Hk0
  iintro Hk0
  iapply (run_ret c)
  iapply HK
  isplitl [HO]; · iexact HO
  isplitl [Hv1]; · iexact Hv1
  isplitl [Hk0]; · iexact Hk0
  iexact Hv0

set_option maxHeartbeats 2000000 in
theorem part15 (c : Dev nD) (v114 : FVec F S256x1024 .f32) (v415 : FVec F S256x4096 .f32) (v417 : FVec F S256x1 .f32) (Kt : _ → sProp 𝕄) :
    iprop(levAts L lv ∗ Owes c (OB c 0) ∗ kFull m c 0 6 ∗ vFull m c 0 6 ∗ kFly m c 1 7 ∗ vFly m c 1 7
        ∗ (Owes c (OB c 0) ∗ kFull m c 0 6 ∗ vFull m c 0 6 ∗ kFull m c 1 7 ∗ vFull m c 1 7 -∗ Kt ⟨k0_pay15 v415 v417 (vhead m c 6), k0_pay16 v114 (khead m c 7), k0_pay17 v114 (khead m c 7), k0_pay18 (vhead m c 7), constant S256x128 .f32 0x00000000#32⟩))
      ⊢ run c (k0_part15 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v114 v415 v417) Kt := by
  rw [k0_part15_eq_skeleton]; unfold k0_part15_skel
  simp only [semSignalWord, semWaitWord, Prog.lift, Prog.bind_op, Prog.bind_ret, Prog.pure_eq_ret, wp_deviceId]
  iintro ⟨#Hlev, HO, Hk0, Hv0, Hk1, Hv1, HK⟩
  iapply (step_vLoad m c 0 6 rfl) $$ Hv0
  iintro Hv0
  iapply (step_kLand m c 1 7 cs1 0) $$ [Hk1 HO]
  · isplitl [Hk1]; · iexact Hk1
    isplitl [HO]; · iexact HO
    iexact Hlev
  iintro ⟨Hk1, HO⟩
  iapply (step_vLand m c 1 7 cs3 0) $$ [Hv1 HO]
  · isplitl [Hv1]; · iexact Hv1
    isplitl [HO]; · iexact HO
    iexact Hlev
  iintro ⟨Hv1, HO⟩
  iapply (step_kLoad m c 1 7 rfl) $$ Hk1
  iintro Hk1
  iapply (step_vLoad m c 1 7 rfl) $$ Hv1
  iintro Hv1
  iapply (run_ret c)
  iapply HK
  isplitl [HO]; · iexact HO
  isplitl [Hk0]; · iexact Hk0
  isplitl [Hv0]; · iexact Hv0
  isplitl [Hk1]; · iexact Hk1
  iexact Hv1

end Cert.KernelIdeal.Pf

end
-- ==== Proof.Comm.lean ====
/-
# The two exchanges: pieces, stores and waits

The offsets and semaphores the body computes, the eight pieces of each exchange buffer dealt out around a device, what the
device's own stores leave, and the waits on the transfers.
-/
module

public import proofs.«01_k».proof.Proof.Attn

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Ck → ℕ)

/-! ## Offsets and semaphores -/

theorem off2_eq (c : Dev nD) : k0_off2 c = ![c.val] := by revert c; decide +kernel
theorem off3_eq (c : Dev nD) : k0_off3 c = ![c.val, 0, 0] := by revert c; decide +kernel
theorem off5_eq (c : Dev nD) : k0_off5 c = ![0, 128 * c.val] := by revert c; decide +kernel
theorem off6_eq (c : Dev nD) : k0_off6 c = ![c.val, 0, 0] := by revert c; decide +kernel
theorem off9_eq (c : Dev nD) : k0_off9 c = ![0, 128 * c.val] := by revert c; decide +kernel

theorem ss0 : ((cc0_scratch6.slice (Rect.unit (s := S14) ![0] S1.size inb_S14_S1_0)).squeeze S_ squeezes_S1_S_).sem = sndS 0 := by decide +kernel
theorem ss1 : ((cc0_scratch6.slice (Rect.unit (s := S14) ![1] S1.size inb_S14_S1_1)).squeeze S_ squeezes_S1_S_).sem = sndS 1 := by decide +kernel
theorem ss2 : ((cc0_scratch6.slice (Rect.unit (s := S14) ![2] S1.size inb_S14_S1_2)).squeeze S_ squeezes_S1_S_).sem = sndS 2 := by decide +kernel
theorem ss3 : ((cc0_scratch6.slice (Rect.unit (s := S14) ![3] S1.size inb_S14_S1_3)).squeeze S_ squeezes_S1_S_).sem = sndS 3 := by decide +kernel
theorem ss4 : ((cc0_scratch6.slice (Rect.unit (s := S14) ![4] S1.size inb_S14_S1_4)).squeeze S_ squeezes_S1_S_).sem = sndS 4 := by decide +kernel
theorem ss5 : ((cc0_scratch6.slice (Rect.unit (s := S14) ![5] S1.size inb_S14_S1_5)).squeeze S_ squeezes_S1_S_).sem = sndS 5 := by decide +kernel
theorem ss6 : ((cc0_scratch6.slice (Rect.unit (s := S14) ![6] S1.size inb_S14_S1_6)).squeeze S_ squeezes_S1_S_).sem = sndS 6 := by decide +kernel
theorem ss7 : ((cc0_scratch6.slice (Rect.unit (s := S14) ![7] S1.size inb_S14_S1_7)).squeeze S_ squeezes_S1_S_).sem = sndS 7 := by decide +kernel
theorem ss8 : ((cc0_scratch6.slice (Rect.unit (s := S14) ![8] S1.size inb_S14_S1_8)).squeeze S_ squeezes_S1_S_).sem = sndS 8 := by decide +kernel
theorem ss9 : ((cc0_scratch6.slice (Rect.unit (s := S14) ![9] S1.size inb_S14_S1_9)).squeeze S_ squeezes_S1_S_).sem = sndS 9 := by decide +kernel
theorem ss10 : ((cc0_scratch6.slice (Rect.unit (s := S14) ![10] S1.size inb_S14_S1_10)).squeeze S_ squeezes_S1_S_).sem = sndS 10 := by decide +kernel
theorem ss11 : ((cc0_scratch6.slice (Rect.unit (s := S14) ![11] S1.size inb_S14_S1_11)).squeeze S_ squeezes_S1_S_).sem = sndS 11 := by decide +kernel
theorem ss12 : ((cc0_scratch6.slice (Rect.unit (s := S14) ![12] S1.size inb_S14_S1_12)).squeeze S_ squeezes_S1_S_).sem = sndS 12 := by decide +kernel
theorem ss13 : ((cc0_scratch6.slice (Rect.unit (s := S14) ![13] S1.size inb_S14_S1_13)).squeeze S_ squeezes_S1_S_).sem = sndS 13 := by decide +kernel
theorem rsown (c : Dev nD) : ((cc0_scratch7.slice (Rect.unit (s := S8) (k0_off2 c) S1.size (k0_off2_inb c))).squeeze S_ squeezes_S1_S_).sem = rsS c := by revert c; decide +kernel
theorem agown (c : Dev nD) : ((cc0_scratch8.slice (Rect.unit (s := S8) (k0_off2 c) S1.size (k0_off2_inb c))).squeeze S_ squeezes_S1_S_).sem = agS c := by revert c; decide +kernel
theorem rsw1 (c : Dev nD) : ((cc0_scratch7.slice (Rect.unit (s := S8) (k0_off7 c 1#32) S1.size (k0_off7_inb c 0))).squeeze S_ squeezes_S1_S_).sem = rsS (pr c 1) := by revert c; decide +kernel
theorem rsw2 (c : Dev nD) : ((cc0_scratch7.slice (Rect.unit (s := S8) (k0_off7 c 2#32) S1.size (k0_off7_inb c 1))).squeeze S_ squeezes_S1_S_).sem = rsS (pr c 2) := by revert c; decide +kernel
theorem rsw3 (c : Dev nD) : ((cc0_scratch7.slice (Rect.unit (s := S8) (k0_off7 c 3#32) S1.size (k0_off7_inb c 2))).squeeze S_ squeezes_S1_S_).sem = rsS (pr c 3) := by revert c; decide +kernel
theorem rsw4 (c : Dev nD) : ((cc0_scratch7.slice (Rect.unit (s := S8) (k0_off7 c 4#32) S1.size (k0_off7_inb c 3))).squeeze S_ squeezes_S1_S_).sem = rsS (pr c 4) := by revert c; decide +kernel
theorem rsw5 (c : Dev nD) : ((cc0_scratch7.slice (Rect.unit (s := S8) (k0_off7 c 5#32) S1.size (k0_off7_inb c 4))).squeeze S_ squeezes_S1_S_).sem = rsS (pr c 5) := by revert c; decide +kernel
theorem rsw6 (c : Dev nD) : ((cc0_scratch7.slice (Rect.unit (s := S8) (k0_off7 c 6#32) S1.size (k0_off7_inb c 5))).squeeze S_ squeezes_S1_S_).sem = rsS (pr c 6) := by revert c; decide +kernel
theorem rsw7 (c : Dev nD) : ((cc0_scratch7.slice (Rect.unit (s := S8) (k0_off7 c 7#32) S1.size (k0_off7_inb c 6))).squeeze S_ squeezes_S1_S_).sem = rsS (pr c 7) := by revert c; decide +kernel
theorem agw1 (c : Dev nD) : ((cc0_scratch8.slice (Rect.unit (s := S8) (k0_off7 c 1#32) S1.size (k0_off7_inb c 0))).squeeze S_ squeezes_S1_S_).sem = agS (pr c 1) := by revert c; decide +kernel
theorem agw2 (c : Dev nD) : ((cc0_scratch8.slice (Rect.unit (s := S8) (k0_off7 c 2#32) S1.size (k0_off7_inb c 1))).squeeze S_ squeezes_S1_S_).sem = agS (pr c 2) := by revert c; decide +kernel
theorem agw3 (c : Dev nD) : ((cc0_scratch8.slice (Rect.unit (s := S8) (k0_off7 c 3#32) S1.size (k0_off7_inb c 2))).squeeze S_ squeezes_S1_S_).sem = agS (pr c 3) := by revert c; decide +kernel
theorem agw4 (c : Dev nD) : ((cc0_scratch8.slice (Rect.unit (s := S8) (k0_off7 c 4#32) S1.size (k0_off7_inb c 3))).squeeze S_ squeezes_S1_S_).sem = agS (pr c 4) := by revert c; decide +kernel
theorem agw5 (c : Dev nD) : ((cc0_scratch8.slice (Rect.unit (s := S8) (k0_off7 c 5#32) S1.size (k0_off7_inb c 4))).squeeze S_ squeezes_S1_S_).sem = agS (pr c 5) := by revert c; decide +kernel
theorem agw6 (c : Dev nD) : ((cc0_scratch8.slice (Rect.unit (s := S8) (k0_off7 c 6#32) S1.size (k0_off7_inb c 5))).squeeze S_ squeezes_S1_S_).sem = agS (pr c 6) := by revert c; decide +kernel
theorem agw7 (c : Dev nD) : ((cc0_scratch8.slice (Rect.unit (s := S8) (k0_off7 c 7#32) S1.size (k0_off7_inb c 6))).squeeze S_ squeezes_S1_S_).sem = agS (pr c 7) := by revert c; decide +kernel

/-! ## The eight devices around one of them -/

theorem around (c : Dev nD) (Φ : Fin 8 → sProp 𝕄) :
    bigSep Finset.univ Φ = iprop(Φ c ∗ Φ (pr c 1) ∗ Φ (pr c 2) ∗ Φ (pr c 3) ∗ Φ (pr c 4) ∗ Φ (pr c 5) ∗ Φ (pr c 6) ∗ Φ (pr c 7)) := by
  rw [bigSep_eq_bigSepL_of_eq [c, pr c 1, pr c 2, pr c 3, pr c 4, pr c 5, pr c 6, pr c 7] (by revert c; decide) (by revert c; decide)]
  rfl

theorem slots_univ : (Finset.univ : Finset (Fin 8)).biUnion slotS = Finset.univ := by
  ext i; simp only [Finset.mem_biUnion, Finset.mem_univ, true_and, iff_true]
  exact ⟨i 0, (mem_slotS _ _).2 rfl⟩
theorem chunks_univ : (Finset.univ : Finset (Fin 8)).biUnion chunkS = Finset.univ := by
  ext i; simp only [Finset.mem_biUnion, Finset.mem_univ, true_and, iff_true]
  have h : (i 1).val < 1024 := (i 1).isLt
  exact ⟨⟨(i 1).val / 128, by omega⟩, (mem_chunkS _ _).2 rfl⟩
theorem slots_disj : ∀ s ∈ (Finset.univ : Finset (Fin 8)), ∀ t ∈ (Finset.univ : Finset (Fin 8)), s ≠ t → Disjoint (slotS s) (slotS t) := by
  intro s _ t _ hst; rw [Finset.disjoint_left]; intro i hs ht
  exact hst (Fin.ext (((mem_slotS _ _).1 hs).symm.trans ((mem_slotS _ _).1 ht)))
theorem chunks_disj : ∀ s ∈ (Finset.univ : Finset (Fin 8)), ∀ t ∈ (Finset.univ : Finset (Fin 8)), s ≠ t → Disjoint (chunkS s) (chunkS t) := by
  intro s _ t _ hst; rw [Finset.disjoint_left]; intro i hs ht
  exact hst (Fin.ext (((mem_chunkS _ _).1 hs).symm.trans ((mem_chunkS _ _).1 ht)))

abbrev accAll (c : Dev nD) (f : Buf (Elt F) ((c : Thread nD τ).loc cc0_scratch2)) : sProp 𝕄 := (c : Thread nD τ).loc cc0_scratch2 ↦[Finset.univ]{fullShare} f
abbrev rsAll (c : Dev nD) (f : Buf (Elt F) ((c : Thread nD τ).loc cc0_scratch3)) : sProp 𝕄 := (c : Thread nD τ).loc cc0_scratch3 ↦[Finset.univ]{fullShare} f
abbrev agAll (c : Dev nD) (q : PosShare TreeShare) (f : Buf (Elt F) ((c : Thread nD τ).loc cc0_scratch4)) : sProp 𝕄 := (c : Thread nD τ).loc cc0_scratch4 ↦[Finset.univ]{q} f

theorem acc_deal (c : Dev nD) (f : Buf (Elt F) ((c : Thread nD τ).loc cc0_scratch2)) :
    accAll c f = iprop(accPt c c f ∗ accPt c (pr c 1) f ∗ accPt c (pr c 2) f ∗ accPt c (pr c 3) f ∗ accPt c (pr c 4) f ∗ accPt c (pr c 5) f
      ∗ accPt c (pr c 6) f ∗ accPt c (pr c 7) f) := by
  unfold accAll; rw [← chunks_univ]
  exact (pointsTo_biUnion (ℓ := (c : Thread nD τ).loc cc0_scratch2) (q := fullShare) (f := f) Finset.univ chunkS chunks_disj).trans (around c (fun s => accPt c s f))
theorem rs_deal (c : Dev nD) (f : Buf (Elt F) ((c : Thread nD τ).loc cc0_scratch3)) :
    rsAll c f = iprop(rsPt c c f ∗ rsPt c (pr c 1) f ∗ rsPt c (pr c 2) f ∗ rsPt c (pr c 3) f ∗ rsPt c (pr c 4) f ∗ rsPt c (pr c 5) f
      ∗ rsPt c (pr c 6) f ∗ rsPt c (pr c 7) f) := by
  unfold rsAll; rw [← slots_univ]
  exact (pointsTo_biUnion (ℓ := (c : Thread nD τ).loc cc0_scratch3) (q := fullShare) (f := f) Finset.univ slotS slots_disj).trans (around c (fun s => rsPt c s f))
theorem ag_deal (c : Dev nD) (q : PosShare TreeShare) (f : Buf (Elt F) ((c : Thread nD τ).loc cc0_scratch4)) :
    agAll c q f = iprop(agPt c c q f ∗ agPt c (pr c 1) q f ∗ agPt c (pr c 2) q f ∗ agPt c (pr c 3) q f ∗ agPt c (pr c 4) q f ∗ agPt c (pr c 5) q f
      ∗ agPt c (pr c 6) q f ∗ agPt c (pr c 7) q f) := by
  unfold agAll; rw [← chunks_univ]
  exact (pointsTo_biUnion (ℓ := (c : Thread nD τ).loc cc0_scratch4) (q := q) (f := f) Finset.univ chunkS chunks_disj).trans (around c (fun s => agPt c s q f))

/-- The seven shares of chunk `s` lent to the seven transfers. -/
def agT (c : Dev nD) (s : Fin 8) : sProp 𝕄 :=
  iprop(agPt c s (Transfers.shareTokN fullShare 0) (agB m) ∗ agPt c s (Transfers.shareTokN fullShare 1) (agB m) ∗ agPt c s (Transfers.shareTokN fullShare 2) (agB m)
    ∗ agPt c s (Transfers.shareTokN fullShare 3) (agB m) ∗ agPt c s (Transfers.shareTokN fullShare 4) (agB m) ∗ agPt c s (Transfers.shareTokN fullShare 5) (agB m)
    ∗ agPt c s (Transfers.shareTokN fullShare 6) (agB m))
abbrev agD (c : Dev nD) (s : Fin 8) : sProp 𝕄 := agPt c s (Transfers.shareDrop fullShare 7) (agB m)

theorem ag_toks (c : Dev nD) (s : Fin 8) : (agPt c s fullShare (agB m) : sProp 𝕄) ⊣⊢ iprop(agD m c s ∗ agT m c s) := by
  have h : bigSep (Finset.range 7) (fun i => agPt (F := F) c s (Transfers.shareTokN fullShare i) (agB m)) = agT m c s := by
    rw [bigSep_eq_bigSepL_of_eq [0, 1, 2, 3, 4, 5, 6] (by decide) (by decide)]; rfl
  rw [← h]
  exact Transfers.pointsTo_toks_range (ℓ := (c : Thread nD τ).loc cc0_scratch4) (S := chunkS s) (f := agB m) fullShare 7

/-! ## What a store leaves -/

theorem put_at {sp : Space} {s : Shape} {dst : Memref sig .tc sp s .f32} (fd G : dst.view.ty.Contents (Elt F)) (w : s.Idx → Elt F .f32)
    (h : ∀ j : s.Idx, dst.view.read (Elt F) G j = w j) : ∀ i ∈ dst.view.set, dst.view.write (Elt F) fd w Finset.univ i = G i := by
  intro i hi
  obtain ⟨j, -, rfl⟩ := Finset.mem_map.mp hi
  rw [View.write_emb_of_mem _ _ (Finset.mem_univ _), ← h, View.read_apply, cast_cast, cast_eq]

/-- One slot of the scatter buffer without the unit axis squeezed away. -/
abbrev slot3 (s : Fin 8) : Memref sig .tc .vmem S1x256x128 .f32 := rsM.slice (Rect.unit (s := S8x256x128) ![s.val, 0, 0] S1x256x128.size (slot_inb s)) (fun _ => rfl)

theorem slot3_emb (s : Fin 8) (u : Fin 1) (x : Fin 256) (y : Fin 128) : (slot3 s).view.emb (ix3 u x y) = (ix3 s x y : S8x256x128.Idx) := by
  show (Rect.unit (s := S8x256x128) ![s.val, 0, 0] S1x256x128.size (slot_inb s)).emb (ix3 u x y) = _
  funext a; fin_cases a <;> apply Fin.ext <;> rw [ValueKit.rect_emb_unit_val] <;> simp

theorem own_rs (c : Dev nD) (fd : Buf (Elt F) ((c : Thread nD τ).loc cc0_scratch3)) :
    ∀ i ∈ slotS c, (slot3 c).view.write (Elt F) fd (k0_pay20 ((chunkOf accM c).view.read (Elt F) (accB m c))) Finset.univ i = rsB m c i := by
  have hs : slotS c = (slot3 c).view.set := View.set_reshape _ _
  rw [hs]
  refine put_at (dst := slot3 c) fd (rsB m c) _ fun j => ?_
  obtain ⟨u, x, y, rfl⟩ : ∃ u x y, j = ix3 u x y := ⟨j 0, j 1, j 2, eq_ix3 j⟩
  rw [View.read_apply, slot3_emb]
  unfold k0_pay20
  refine Eq.trans ?_ (shapeCast_apply _ _ (ix3 u x y) (ix2 x y) ?_).symm
  · rw [View.read_apply, chunk_emb]; rfl
  · rw [Shape.rowMajor_val_three, Shape.rowMajor_val_two]
    show x.val * 128 + y.val = (u.val * 256 + x.val) * 128 + y.val
    omega

theorem own_ag (c : Dev nD) (fd : Buf (Elt F) ((c : Thread nD τ).loc cc0_scratch4)) :
    ∀ i ∈ chunkS c, (chunkOf agM c).view.write (Elt F) fd (red m c) Finset.univ i = agB m i := by
  refine put_at (dst := chunkOf agM c) fd (agB m) _ fun j => ?_
  obtain ⟨x, y, rfl⟩ := ex_ix2 j
  rw [View.read_apply, show (chunkOf agM c).view.emb (ix2 x y) = (ix2 x ⟨128 * c.val + y.val, by have := y.isLt; have : c.val < 8 := c.isLt; omega⟩ : S256x1024.Idx) from chunk_emb c x y]
  show red m ⟨(128 * c.val + y.val) / 128, _⟩ (ix2 x ⟨(128 * c.val + y.val) % 128, _⟩) = _
  have h1 : (⟨(128 * c.val + y.val) / 128, by have := y.isLt; have : c.val < 8 := c.isLt; show _ < 8; omega⟩ : Dev nD) = c := Fin.ext (by have := y.isLt; show (128 * c.val + y.val) / 128 = c.val; omega)
  have h2 : (⟨(128 * c.val + y.val) % 128, Nat.mod_lt _ (by decide)⟩ : Fin 128) = y := Fin.ext (by have := y.isLt; show (128 * c.val + y.val) % 128 = y.val; omega)
  rw [h1, h2]

/-! ## Waits -/

def waitTok (g : GSem nD τ sig) : sProp 𝕄 := iprop(cred (tallyAt g () N) ∗ atPos ER g 0 ∅ 0)

theorem step_rsWait (c : Dev nD) (k : ℕ) (hne : pr c k ≠ c) {q' : DmaSem sig} (hq' : q' = rsS (pr c k))
    {sp : Space} {s : Shape} {src : Memref sig .tc sp s .f32} {o : Fin 3 → ℕ} {i : ∀ a, o a + S1x256x128.size a ≤ S8x256x128.size a}
    {hsrc : src.view.WordExact}
    {hdst : ((rsM.slice (Rect.unit (s := S8x256x128) o S1x256x128.size i) (fun _ => rfl)).squeeze S256x128 squeezes_S1x256x128_S256x128).view.WordExact}
    {α : Type} {Q : α → sProp 𝕄} {k' : PUnit → Prog (TpuEff nD τ sig (Elt F) Λ₀ .tc) α} :
    iprop(records m K ∗ levAts L lv ∗ Owes c (OR c 0) ∗ waitTok (F := F) (rsCell c (pr c k)))
      ⊢ iprop((Owes c (OR c 0) ∗ rsPt c (pr c k) (rsB m c) ∗ semVal (rsCell c (pr c k)) 0 -∗ run c (k' ⟨⟩) Q)
          -∗ run c (.op (.waitDma2 q' src ((rsM.slice (Rect.unit (s := S8x256x128) o S1x256x128.size i) (fun _ => rfl)).squeeze S256x128 squeezes_S1x256x128_S256x128) hsrc hdst) k') Q) := by
  unfold waitTok
  iintro ⟨#HI, #Hlev, HO, Hc, Hat⟩ Hk
  iapply (step_wait m K c (Ck.rs (pr c k)) (rsS (pr c k)) rfl hq' (duties_rs m _ _ hne) (OR c 0) (mayWait_rs c (pr c k)) (rsPt c (pr c k) (rsB m c)) (payload_rs m c (pr c k) 0)
    (dst := (rsM.slice (Rect.unit (s := S8x256x128) o S1x256x128.size i) (fun _ => rfl)).squeeze S256x128 squeezes_S1x256x128_S256x128) rfl) $$ [Hc HO Hat]
  · isplitr; · iexact HI
    isplitl [Hc]; · iexact Hc
    isplitl [HO]; · iexact HO
    isplitr; · iexact Hlev
    iexact Hat
  iintro ⟨Hp, Hz, HO⟩
  iapply Hk
  isplitl [HO]; · iexact HO
  isplitl [Hp]; · iexact Hp
  iexact Hz

theorem step_agWait (c : Dev nD) (k : ℕ) (hne : pr c k ≠ c) {q' : DmaSem sig} (hq' : q' = agS (pr c k))
    {sp : Space} {s : Shape} {src : Memref sig .tc sp s .f32} {o : Fin 2 → ℕ} {i : ∀ a, o a + S256x128.size a ≤ S256x1024.size a}
    {hsrc : src.view.WordExact}
    {hdst : (agM.slice (Rect.unit (s := S256x1024) o S256x128.size i) (fun _ => rfl)).view.WordExact}
    {α : Type} {Q : α → sProp 𝕄} {k' : PUnit → Prog (TpuEff nD τ sig (Elt F) Λ₀ .tc) α} :
    iprop(records m K ∗ levAts L lv ∗ Owes c (OA c 0) ∗ waitTok (F := F) (agCell c (pr c k)))
      ⊢ iprop((Owes c (OA c 0) ∗ agPt c (pr c k) fullShare (agB m) ∗ semVal (agCell c (pr c k)) 0 -∗ run c (k' ⟨⟩) Q)
          -∗ run c (.op (.waitDma2 q' src (agM.slice (Rect.unit (s := S256x1024) o S256x128.size i) (fun _ => rfl)) hsrc hdst) k') Q) := by
  unfold waitTok
  iintro ⟨#HI, #Hlev, HO, Hc, Hat⟩ Hk
  iapply (step_wait m K c (Ck.ag (pr c k)) (agS (pr c k)) rfl hq' (duties_ag m _ _ hne) (OA c 0) (mayWait_none c _) (agPt c (pr c k) fullShare (agB m)) (payload_ag m c (pr c k) 0)
    (dst := agM.slice (Rect.unit (s := S256x1024) o S256x128.size i) (fun _ => rfl)) rfl) $$ [Hc HO Hat]
  · isplitr; · iexact HI
    isplitl [Hc]; · iexact Hc
    isplitl [HO]; · iexact HO
    isplitr; · iexact Hlev
    iexact Hat
  iintro ⟨Hp, Hz, HO⟩
  iapply Hk
  isplitl [HO]; · iexact HO
  isplitl [Hp]; · iexact Hp
  iexact Hz

/-- The wait for one of the scatter's transfers to have been read out. -/
theorem step_sndWait1 (c : Dev nD) (j : Fin 14) (k : ℕ) (hj : j.val + 1 = k) (hk : j.val < 7) {q' : DmaSem sig} (hq' : q' = sndS j)
    {sp : Space} {s : Shape} {src : Memref sig .tc sp s .f32} {o : Fin 2 → ℕ} {i : ∀ a, o a + S256x128.size a ≤ S256x1024.size a}
    {hsrc : src.view.WordExact}
    {hdst : (accM.slice (Rect.unit (s := S256x1024) o S256x128.size i) (fun _ => rfl)).view.WordExact}
    {α : Type} {Q : α → sProp 𝕄} {k' : PUnit → Prog (TpuEff nD τ sig (Elt F) Λ₀ .tc) α} :
    iprop(records m K ∗ levAts L lv ∗ Owes c (OA c 0) ∗ cred (tallyAt (sndCell c j) () N) ∗ atPos ER (sndCell c j) 0 ∅ 0)
      ⊢ iprop((Owes c (OA c 0) ∗ accPt c (pr c k) (accB m c) ∗ semVal (sndCell c j) 0 -∗ run c (k' ⟨⟩) Q)
          -∗ run c (.op (.waitDma2 q' src (accM.slice (Rect.unit (s := S256x1024) o S256x128.size i) (fun _ => rfl)) hsrc hdst) k') Q) := by
  subst hj
  iintro ⟨#HI, #Hlev, HO, Hc, Hat⟩ Hk
  iapply (step_wait m K c (Ck.snd j) (sndS j) rfl hq' (duties_snd m _ _) (OA c 0) (mayWait_none c _) (accPt c (pr c (j.val + 1)) (accB m c)) (payload_snd1 m c j j.val rfl hk 0)
    (dst := accM.slice (Rect.unit (s := S256x1024) o S256x128.size i) (fun _ => rfl)) rfl) $$ [Hc HO Hat]
  · isplitr; · iexact HI
    isplitl [Hc]; · iexact Hc
    isplitl [HO]; · iexact HO
    isplitr; · iexact Hlev
    iexact Hat
  iintro ⟨Hp, Hz, HO⟩
  iapply Hk
  isplitl [HO]; · iexact HO
  isplitl [Hp]; · iexact Hp
  iexact Hz

/-- The wait for one of the gather's transfers to have been read out. -/
theorem step_sndWait2 (c : Dev nD) (j : Fin 14) (n : ℕ) (hj : j.val = 7 + n) {q' : DmaSem sig} (hq' : q' = sndS j)
    {sp : Space} {s : Shape} {src : Memref sig .tc sp s .f32} {o : Fin 2 → ℕ} {i : ∀ a, o a + S256x128.size a ≤ S256x1024.size a}
    {hsrc : src.view.WordExact}
    {hdst : (agM.slice (Rect.unit (s := S256x1024) o S256x128.size i) (fun _ => rfl)).view.WordExact}
    {α : Type} {Q : α → sProp 𝕄} {k' : PUnit → Prog (TpuEff nD τ sig (Elt F) Λ₀ .tc) α} :
    iprop(records m K ∗ levAts L lv ∗ Owes c (OA c 0) ∗ cred (tallyAt (sndCell c j) () N) ∗ atPos ER (sndCell c j) 0 ∅ 0)
      ⊢ iprop((Owes c (OA c 0) ∗ agPt c c (Transfers.shareTokN fullShare n) (agB m) ∗ semVal (sndCell c j) 0 -∗ run c (k' ⟨⟩) Q)
          -∗ run c (.op (.waitDma2 q' src (agM.slice (Rect.unit (s := S256x1024) o S256x128.size i) (fun _ => rfl)) hsrc hdst) k') Q) := by
  iintro ⟨#HI, #Hlev, HO, Hc, Hat⟩ Hk
  iapply (step_wait m K c (Ck.snd j) (sndS j) rfl hq' (duties_snd m _ _) (OA c 0) (mayWait_none c _) (agPt c c (Transfers.shareTokN fullShare n) (agB m)) (payload_snd2 m c j n hj 0)
    (dst := agM.slice (Rect.unit (s := S256x1024) o S256x128.size i) (fun _ => rfl)) rfl) $$ [Hc HO Hat]
  · isplitr; · iexact HI
    isplitl [Hc]; · iexact Hc
    isplitl [HO]; · iexact HO
    isplitr; · iexact Hlev
    iexact Hat
  iintro ⟨Hp, Hz, HO⟩
  iapply Hk
  isplitl [HO]; · iexact HO
  isplitl [Hp]; · iexact Hp
  iexact Hz

/-! ## Loads and stores of the exchange buffers -/

abbrev outPt (c : Dev nD) (f : Buf (Elt F) ((c : Thread nD τ).loc cc0_stg3_0)) : sProp 𝕄 := (c : Thread nD τ).loc cc0_stg3_0 ↦[Finset.univ]{fullShare} f

theorem readw_rs (inb) (f : Vec F S8x256x128 .f32) : (rsM : Memref sig .tc .vmem S8x256x128 .f32).view.readAt (Elt F) (Rect.unit (s := S8x256x128) ![0, 0, 0] S8x256x128.size inb).toLoadRect f = f :=
  Memref.readAt_unit_zero (Elt F) cc0_scratch3 z3 inb f
theorem readw_ag (inb) (f : Vec F S256x1024 .f32) : (agM : Memref sig .tc .vmem S256x1024 .f32).view.readAt (Elt F) (Rect.unit (s := S256x1024) ![0, 0] S256x1024.size inb).toLoadRect f = f :=
  Memref.readAt_unit_zero (Elt F) cc0_scratch4 z2 inb f
theorem putw_acc (inb) (f w : Vec F S256x1024 .f32) : ((accM : Memref sig .tc .vmem S256x1024 .f32).access (Rect.unit (s := S256x1024) ![0, 0] S256x1024.size inb)).write (Elt F) f w Finset.univ = w :=
  Memref.write_access_unit_zero_univ (Elt F) cc0_scratch2 z2 inb f w
theorem putw_out (inb) (f w : Vec F S1x256x1024 .f32) : ((Memref.whole cc0_stg3_0 : Memref sig .tc .vmem S1x256x1024 .f32).access (Rect.unit (s := S1x256x1024) ![0, 0, 0] S1x256x1024.size inb)).write (Elt F) f w Finset.univ = w :=
  Memref.write_access_unit_zero_univ (Elt F) cc0_stg3_0 z3 inb f w

theorem load_chunk (c : Dev nD) {o : Fin 2 → ℕ} (ho : o = ![0, 128 * c.val]) {inb : ∀ a, o a + S256x128.size a ≤ S256x1024.size a}
    {hl : (accM : Memref sig .tc .vmem S256x1024 .f32).view.LoadsAt (Rect.unit (s := S256x1024) o S256x128.size inb).toLoadRect}
    {α : Type} {Q : α → sProp 𝕄} {k' : Vec F S256x128 .f32 → Prog (TpuEff nD τ sig (Elt F) Λ₀ .tc) α} :
    (accPt c c (accB m c) : sProp 𝕄)
      ⊢ iprop((accPt c c (accB m c) -∗ run c (k' ((chunkOf accM c).view.read (Elt F) (accB m c))) Q)
          -∗ run c (.op (.load accM (Rect.unit (s := S256x1024) o S256x128.size inb).toLoadRect hl) k') Q) := by
  subst ho
  unfold accPt
  iintro Hd Hk
  iapply (wp_load 𝒱₀ (c : Thread nD τ) none Set.univ (m := accM) (S := chunkS c) (f := accB m c) (subset_of_eq (View.set_slice _ _).symm)) $$ Hd
  iintro Hd
  iapply Hk
  iexact Hd

theorem slot_setOn (s : Fin 8) : ((rsM : Memref sig .tc .vmem S8x256x128 .f32).access (Rect.unit (s := S8x256x128) ![s.val, 0, 0] S1x256x128.size (slot_inb s))).set = slotS s :=
  (View.set_reshape (slot3 s).view _).symm

theorem load_slot (c : Dev nD) {f : Buf (Elt F) ((c : Thread nD τ).loc cc0_scratch3)} {o : Fin 3 → ℕ} (ho : o = ![c.val, 0, 0]) {inb : ∀ a, o a + S1x256x128.size a ≤ S8x256x128.size a}
    {hl : (rsM : Memref sig .tc .vmem S8x256x128 .f32).view.LoadsAt (Rect.unit (s := S8x256x128) o S1x256x128.size inb).toLoadRect}
    {α : Type} {Q : α → sProp 𝕄} {k' : Vec F S1x256x128 .f32 → Prog (TpuEff nD τ sig (Elt F) Λ₀ .tc) α} :
    (rsPt c c f : sProp 𝕄)
      ⊢ iprop((∀ w, rsPt c c f -∗ run c (k' w) Q)
          -∗ run c (.op (.load rsM (Rect.unit (s := S8x256x128) o S1x256x128.size inb).toLoadRect hl) k') Q) := by
  subst ho
  unfold rsPt
  iintro Hd Hk
  iapply (wp_load 𝒱₀ (c : Thread nD τ) none Set.univ (m := rsM) (S := slotS c) (f := f)
    (subset_of_eq ((View.set_slice _ _).symm.trans (slot_setOn c)))) $$ Hd
  iintro Hd
  iapply Hk
  iexact Hd

theorem store_slot (c : Dev nD) {f : Buf (Elt F) ((c : Thread nD τ).loc cc0_scratch3)} {o : Fin 3 → ℕ} (ho : o = ![c.val, 0, 0]) {inb : ∀ a, o a + S1x256x128.size a ≤ S8x256x128.size a}
    {hx : ((rsM : Memref sig .tc .vmem S8x256x128 .f32).access (Rect.unit (s := S8x256x128) o S1x256x128.size inb)).Stores Finset.univ}
    {hm : (Finset.univ : Finset S1x256x128.Idx) = Finset.univ ∨ ∀ a, (Rect.unit (s := S8x256x128) o S1x256x128.size inb).stride a = 1}
    {α : Type} {Q : α → sProp 𝕄} {k' : PUnit → Prog (TpuEff nD τ sig (Elt F) Λ₀ .tc) α} :
    (rsPt c c f : sProp 𝕄)
      ⊢ iprop((rsPt c c (rsB m c) -∗ run c (k' ⟨⟩) Q)
          -∗ run c (.op (.store rsM (Rect.unit (s := S8x256x128) o S1x256x128.size inb) (k0_pay20 ((chunkOf accM c).view.read (Elt F) (accB m c))) Finset.univ hx hm) k') Q) := by
  subst ho
  unfold rsPt
  iintro Hd Hk
  iapply (wp_store 𝒱₀ (c : Thread nD τ) none Set.univ (m := rsM) (r := Rect.unit (s := S8x256x128) ![c.val, 0, 0] S1x256x128.size inb) (S := slotS c) (f := f) (Mk := Finset.univ) (subset_of_eq (slot_setOn c))) $$ Hd
  iintro Hd
  iapply Hk
  rw [show ((c : Thread nD τ).loc cc0_scratch3 ↦[slotS c]{fullShare} rsB m c : sProp 𝕄) = _ from (pointsTo_congr (own_rs m c f)).symm]
  iexact Hd

theorem load_agChunk (c : Dev nD) {f : Buf (Elt F) ((c : Thread nD τ).loc cc0_scratch4)} {o : Fin 2 → ℕ} (ho : o = ![0, 128 * c.val]) {inb : ∀ a, o a + S256x128.size a ≤ S256x1024.size a}
    {hl : (agM : Memref sig .tc .vmem S256x1024 .f32).view.LoadsAt (Rect.unit (s := S256x1024) o S256x128.size inb).toLoadRect}
    {α : Type} {Q : α → sProp 𝕄} {k' : Vec F S256x128 .f32 → Prog (TpuEff nD τ sig (Elt F) Λ₀ .tc) α} :
    (agPt c c fullShare f : sProp 𝕄)
      ⊢ iprop((∀ w, agPt c c fullShare f -∗ run c (k' w) Q)
          -∗ run c (.op (.load agM (Rect.unit (s := S256x1024) o S256x128.size inb).toLoadRect hl) k') Q) := by
  subst ho
  unfold agPt
  iintro Hd Hk
  iapply (wp_load 𝒱₀ (c : Thread nD τ) none Set.univ (m := agM) (S := chunkS c) (f := f) (subset_of_eq (View.set_slice _ _).symm)) $$ Hd
  iintro Hd
  iapply Hk
  iexact Hd

theorem store_agChunk (c : Dev nD) {f : Buf (Elt F) ((c : Thread nD τ).loc cc0_scratch4)} {o : Fin 2 → ℕ} (ho : o = ![0, 128 * c.val]) {inb : ∀ a, o a + S256x128.size a ≤ S256x1024.size a}
    {hx : ((agM : Memref sig .tc .vmem S256x1024 .f32).access (Rect.unit (s := S256x1024) o S256x128.size inb)).Stores Finset.univ}
    {hm : (Finset.univ : Finset S256x128.Idx) = Finset.univ ∨ ∀ a, (Rect.unit (s := S256x1024) o S256x128.size inb).stride a = 1}
    {α : Type} {Q : α → sProp 𝕄} {k' : PUnit → Prog (TpuEff nD τ sig (Elt F) Λ₀ .tc) α} :
    (agPt c c fullShare f : sProp 𝕄)
      ⊢ iprop((agPt c c fullShare (agB m) -∗ run c (k' ⟨⟩) Q)
          -∗ run c (.op (.store agM (Rect.unit (s := S256x1024) o S256x128.size inb) (k0_pay21 (rsB m c)) Finset.univ hx hm) k') Q) := by
  subst ho
  unfold agPt
  iintro Hd Hk
  iapply (wp_store 𝒱₀ (c : Thread nD τ) none Set.univ (m := agM) (r := Rect.unit (s := S256x1024) ![0, 128 * c.val] S256x128.size inb) (S := chunkS c) (f := f) (Mk := Finset.univ) (subset_of_eq rfl)) $$ Hd
  iintro Hd
  iapply Hk
  rw [show ((c : Thread nD τ).loc cc0_scratch4 ↦[chunkS c]{fullShare} agB m : sProp 𝕄) = _ from (pointsTo_congr (own_ag m c f)).symm]
  iexact Hd

theorem store_acc (c : Dev nD) {f : Buf (Elt F) ((c : Thread nD τ).loc cc0_scratch2)} {w : Vec F S256x1024 .f32} {inb : ∀ a, (![0, 0] : Fin 2 → ℕ) a + S256x1024.size a ≤ S256x1024.size a}
    {hx : ((accM : Memref sig .tc .vmem S256x1024 .f32).access (Rect.unit (s := S256x1024) ![0, 0] S256x1024.size inb)).Stores Finset.univ}
    {hm : (Finset.univ : Finset S256x1024.Idx) = Finset.univ ∨ ∀ a, (Rect.unit (s := S256x1024) ![0, 0] S256x1024.size inb).stride a = 1}
    {α : Type} {Q : α → sProp 𝕄} {k' : PUnit → Prog (TpuEff nD τ sig (Elt F) Λ₀ .tc) α} :
    (accAll c f : sProp 𝕄)
      ⊢ iprop((accAll c w -∗ run c (k' ⟨⟩) Q)
          -∗ run c (.op (.store accM (Rect.unit (s := S256x1024) ![0, 0] S256x1024.size inb) w Finset.univ hx hm) k') Q) := by
  have h := wp_store 𝒱₀ (c : Thread nD τ) none Set.univ (m := accM) (r := Rect.unit (s := S256x1024) ![0, 0] S256x1024.size inb) (S := Finset.univ) (f := f) (Mk := Finset.univ)
    (w := w) (hx := hx) (hm := hm) (k := k') (Q := Q) (defs := defs₀) (Γ := .empty) (Finset.subset_univ _)
  rw [putw_acc] at h
  exact h

theorem store_out (c : Dev nD) {f : Buf (Elt F) ((c : Thread nD τ).loc cc0_stg3_0)} {w : Vec F S1x256x1024 .f32} {inb : ∀ a, (![0, 0, 0] : Fin 3 → ℕ) a + S1x256x1024.size a ≤ S1x256x1024.size a}
    {hx : ((Memref.whole cc0_stg3_0 : Memref sig .tc .vmem S1x256x1024 .f32).access (Rect.unit (s := S1x256x1024) ![0, 0, 0] S1x256x1024.size inb)).Stores Finset.univ}
    {hm : (Finset.univ : Finset S1x256x1024.Idx) = Finset.univ ∨ ∀ a, (Rect.unit (s := S1x256x1024) ![0, 0, 0] S1x256x1024.size inb).stride a = 1}
    {α : Type} {Q : α → sProp 𝕄} {k' : PUnit → Prog (TpuEff nD τ sig (Elt F) Λ₀ .tc) α} :
    (outPt c f : sProp 𝕄)
      ⊢ iprop((outPt c w -∗ run c (k' ⟨⟩) Q)
          -∗ run c (.op (.store (Memref.whole cc0_stg3_0) (Rect.unit (s := S1x256x1024) ![0, 0, 0] S1x256x1024.size inb) w Finset.univ hx hm) k') Q) := by
  have h := wp_store 𝒱₀ (c : Thread nD τ) none Set.univ (m := Memref.whole cc0_stg3_0) (r := Rect.unit (s := S1x256x1024) ![0, 0, 0] S1x256x1024.size inb) (S := Finset.univ) (f := f) (Mk := Finset.univ)
    (w := w) (hx := hx) (hm := hm) (k := k') (Q := Q) (defs := defs₀) (Γ := .empty) (Finset.subset_univ _)
  rw [putw_out] at h
  exact h

end Cert.KernelIdeal.Pf

end
-- ==== Proof.Scatter.lean ====
/-
# The body, part by part: the scatter

The parts that store the partial product, send its seven foreign column chunks away, wait for the seven that come in and sum
them up.
-/
module

public import proofs.«01_k».proof.Proof.Comm

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Ck → ℕ)

set_option maxHeartbeats 2000000 in
theorem part16 (c : Dev nD) (v2 : BitVec 32) (v158 v202 v246 v290 v334 v378 v422 : FVec F S256x128 .f32) (v445 : FVec F S256x4096 .f32) (v447 : FVec F S256x1 .f32) (v449 : FVec F S4096x128 .f32) (cst_395 : FVec F S256x128 .f32)
    (hacc : k0_pay19 v158 v202 v246 v290 v334 v378 v422 v445 v447 v449 cst_395 (wostg m c) = acc m c) (Kt : _ → sProp 𝕄) :
    iprop(records m K ∗ Owes c (OB c 0) ∗ woPt m c ∗ (∃ f, accAll (F := F) c f) ∗ (∃ f, rsPt (F := F) (pr c 1) c f) ∗ dutyTok ER (sndCell c 0) 0 0 ∗ dutyTok ER (rsCell (pr c 1) c) 0 0
        ∗ (∀ a b, Owes c (OR c 6) ∗ woPt m c ∗ accPt c c (accB m c) ∗ accPt c (pr c 2) (accB m c) ∗ accPt c (pr c 3) (accB m c) ∗ accPt c (pr c 4) (accB m c) ∗ accPt c (pr c 5) (accB m c) ∗ accPt c (pr c 6) (accB m c) ∗ accPt c (pr c 7) (accB m c) ∗ cred (tallyAt (sndCell c 0) () N) -∗ Kt ⟨a, b⟩))
      ⊢ run c (k0_part16 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v158 v202 v246 v290 v334 v378 v422 v445 v447 v449 cst_395) Kt := by
  rw [k0_part16_eq_skeleton]; unfold k0_part16_skel
  simp only [semSignalWord, semWaitWord, Prog.lift, Prog.bind_op, Prog.bind_ret, Prog.pure_eq_ret, wp_deviceId]
  iintro ⟨#HI, HO, Hwo, Hacc, Hr1, Ht0, Hu1, HK⟩
  icases Hacc with ⟨%f, Hacc⟩
  iapply (wp_load 𝒱₀ (c : Thread nD τ) none Set.univ (m := Memref.whole cc0_stg2_0) (S := Finset.univ) (f := wostg m c) (Finset.subset_univ _)) $$ Hwo
  iintro Hwo
  rw [readw_stg2]
  iapply (wp_load 𝒱₀ (c : Thread nD τ) none Set.univ (m := accM) (S := Finset.univ) (f := f) (Finset.subset_univ _)) $$ Hacc
  iintro Hacc
  iapply (store_acc c (f := f)) $$ Hacc
  iintro Hacc
  rw [hacc]
  ihave Hacc := (Entails.of_eq ((show (accAll c (acc m c) : sProp 𝕄) = accAll c (accB m c) from rfl).trans (acc_deal c (accB m c)))) $$ Hacc
  icases Hacc with ⟨Ha0, Ha1, Ha2, Ha3, Ha4, Ha5, Ha6, Ha7⟩
  ihave HO := (Entails.of_eq (congrArg (Owes c) (show OB c 0 = OR c 7 from rfl))) $$ HO
  iapply (step_rs_send m K c _ 6 1 rfl (rdev1 c) (pr_ne c 0) 0 rfl (by decide) ss0 (rsown c) (off4_eq c 0) (off3_eq c)) $$ [Ha1 Hr1 HO Ht0 Hu1]
  · isplitr; · iexact HI
    isplitl [Ha1]; · iexact Ha1
    isplitl [Hr1]; · iexact Hr1
    isplitl [HO]; · iexact HO
    isplitl [Ht0]; · iexact Ht0
    iexact Hu1
  iintro ⟨Hc0, HO⟩
  iapply (run_ret c)
  iapply HK
  isplitl [HO]; · iexact HO
  isplitl [Hwo]; · iexact Hwo
  isplitl [Ha0]; · iexact Ha0
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  iexact Hc0

set_option maxHeartbeats 2000000 in
theorem part17 (c : Dev nD) (v2 v483 v484 : BitVec 32) (Kt : _ → sProp 𝕄) :
    iprop(records m K ∗ Owes c (OR c 6) ∗ accPt c (pr c 2) (accB m c) ∗ (∃ f, rsPt (F := F) (pr c 2) c f) ∗ dutyTok ER (sndCell c 1) 0 0 ∗ dutyTok ER (rsCell (pr c 2) c) 0 0
        ∗ (Owes c (OR c 5) ∗ cred (tallyAt (sndCell c 1) () N) -∗ Kt ⟨⟩))
      ⊢ run c (k0_part17 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v483 v484) Kt := by
  rw [k0_part17_eq_skeleton]; unfold k0_part17_skel
  simp only [semSignalWord, semWaitWord, Prog.lift, Prog.bind_op, Prog.bind_ret, Prog.pure_eq_ret, wp_deviceId]
  iintro ⟨#HI, HO, Ha2, Hr2, Ht1, Hu2, HK⟩
  iapply (step_rs_send m K c _ 5 2 rfl (rdev2 c) (pr_ne c 1) 1 rfl (by decide) ss1 (rsown c) (off4_eq c 1) (off3_eq c)) $$ [Ha2 Hr2 HO Ht1 Hu2]
  · isplitr; · iexact HI
    isplitl [Ha2]; · iexact Ha2
    isplitl [Hr2]; · iexact Hr2
    isplitl [HO]; · iexact HO
    isplitl [Ht1]; · iexact Ht1
    iexact Hu2
  iintro ⟨Hc1, HO⟩
  iapply (run_ret c)
  iapply HK
  isplitl [HO]; · iexact HO
  iexact Hc1

set_option maxHeartbeats 2000000 in
theorem part18 (c : Dev nD) (v2 : BitVec 32) (Kt : _ → sProp 𝕄) :
    iprop(records m K ∗ Owes c (OR c 5) ∗ accPt c (pr c 3) (accB m c) ∗ accPt c (pr c 4) (accB m c) ∗ (∃ f, rsPt (F := F) (pr c 3) c f) ∗ dutyTok ER (sndCell c 2) 0 0 ∗ dutyTok ER (rsCell (pr c 3) c) 0 0 ∗ (∃ f, rsPt (F := F) (pr c 4) c f) ∗ dutyTok ER (sndCell c 3) 0 0 ∗ dutyTok ER (rsCell (pr c 4) c) 0 0
        ∗ (∀ a, Owes c (OR c 3) ∗ cred (tallyAt (sndCell c 2) () N) ∗ cred (tallyAt (sndCell c 3) () N) -∗ Kt a))
      ⊢ run c (k0_part18 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2) Kt := by
  rw [k0_part18_eq_skeleton]; unfold k0_part18_skel
  simp only [semSignalWord, semWaitWord, Prog.lift, Prog.bind_op, Prog.bind_ret, Prog.pure_eq_ret, wp_deviceId]
  iintro ⟨#HI, HO, Ha3, Ha4, Hr3, Ht2, Hu3, Hr4, Ht3, Hu4, HK⟩
  iapply (step_rs_send m K c _ 4 3 rfl (rdev3 c) (pr_ne c 2) 2 rfl (by decide) ss2 (rsown c) (off4_eq c 2) (off3_eq c)) $$ [Ha3 Hr3 HO Ht2 Hu3]
  · isplitr; · iexact HI
    isplitl [Ha3]; · iexact Ha3
    isplitl [Hr3]; · iexact Hr3
    isplitl [HO]; · iexact HO
    isplitl [Ht2]; · iexact Ht2
    iexact Hu3
  iintro ⟨Hc2, HO⟩
  iapply (step_rs_send m K c _ 3 4 rfl (rdev4 c) (pr_ne c 3) 3 rfl (by decide) ss3 (rsown c) (off4_eq c 3) (off3_eq c)) $$ [Ha4 Hr4 HO Ht3 Hu4]
  · isplitr; · iexact HI
    isplitl [Ha4]; · iexact Ha4
    isplitl [Hr4]; · iexact Hr4
    isplitl [HO]; · iexact HO
    isplitl [Ht3]; · iexact Ht3
    iexact Hu4
  iintro ⟨Hc3, HO⟩
  iapply (run_ret c)
  iapply HK
  isplitl [HO]; · iexact HO
  isplitl [Hc2]; · iexact Hc2
  iexact Hc3

set_option maxHeartbeats 2000000 in
theorem part19 (c : Dev nD) (v2 v554 : BitVec 32) (Kt : _ → sProp 𝕄) :
    iprop(records m K ∗ Owes c (OR c 3) ∗ accPt c (pr c 5) (accB m c) ∗ accPt c (pr c 6) (accB m c) ∗ (∃ f, rsPt (F := F) (pr c 5) c f) ∗ dutyTok ER (sndCell c 4) 0 0 ∗ dutyTok ER (rsCell (pr c 5) c) 0 0 ∗ (∃ f, rsPt (F := F) (pr c 6) c f) ∗ dutyTok ER (sndCell c 5) 0 0 ∗ dutyTok ER (rsCell (pr c 6) c) 0 0
        ∗ (∀ a b, Owes c (OR c 1) ∗ cred (tallyAt (sndCell c 4) () N) ∗ cred (tallyAt (sndCell c 5) () N) -∗ Kt ⟨a, b⟩))
      ⊢ run c (k0_part19 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v554) Kt := by
  rw [k0_part19_eq_skeleton]; unfold k0_part19_skel
  simp only [semSignalWord, semWaitWord, Prog.lift, Prog.bind_op, Prog.bind_ret, Prog.pure_eq_ret, wp_deviceId]
  iintro ⟨#HI, HO, Ha5, Ha6, Hr5, Ht4, Hu5, Hr6, Ht5, Hu6, HK⟩
  iapply (step_rs_send m K c _ 2 5 rfl (rdev5 c) (pr_ne c 4) 4 rfl (by decide) ss4 (rsown c) (off4_eq c 4) (off3_eq c)) $$ [Ha5 Hr5 HO Ht4 Hu5]
  · isplitr; · iexact HI
    isplitl [Ha5]; · iexact Ha5
    isplitl [Hr5]; · iexact Hr5
    isplitl [HO]; · iexact HO
    isplitl [Ht4]; · iexact Ht4
    iexact Hu5
  iintro ⟨Hc4, HO⟩
  iapply (step_rs_send m K c _ 1 6 rfl (rdev6 c) (pr_ne c 5) 5 rfl (by decide) ss5 (rsown c) (off4_eq c 5) (off3_eq c)) $$ [Ha6 Hr6 HO Ht5 Hu6]
  · isplitr; · iexact HI
    isplitl [Ha6]; · iexact Ha6
    isplitl [Hr6]; · iexact Hr6
    isplitl [HO]; · iexact HO
    isplitl [Ht5]; · iexact Ht5
    iexact Hu6
  iintro ⟨Hc5, HO⟩
  iapply (run_ret c)
  iapply HK
  isplitl [HO]; · iexact HO
  isplitl [Hc4]; · iexact Hc4
  iexact Hc5

set_option maxHeartbeats 2000000 in
theorem part20 (c : Dev nD) (v2 v588 v589 : BitVec 32) (Kt : _ → sProp 𝕄) :
    iprop(records m K ∗ Owes c (OR c 1) ∗ accPt c (pr c 7) (accB m c) ∗ accPt c c (accB m c) ∗ (∃ f, rsPt (F := F) (pr c 7) c f) ∗ dutyTok ER (sndCell c 6) 0 0 ∗ dutyTok ER (rsCell (pr c 7) c) 0 0 ∗ (∃ f, rsPt (F := F) c c f)
        ∗ (∀ a b, Owes c (OR c 0) ∗ accPt c c (accB m c) ∗ rsPt c c (rsB m c) ∗ cred (tallyAt (sndCell c 6) () N) -∗ Kt ⟨a, b⟩))
      ⊢ run c (k0_part20 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v588 v589) Kt := by
  rw [k0_part20_eq_skeleton]; unfold k0_part20_skel
  simp only [semSignalWord, semWaitWord, Prog.lift, Prog.bind_op, Prog.bind_ret, Prog.pure_eq_ret, wp_deviceId]
  iintro ⟨#HI, HO, Ha7, Ha0, Hr7, Ht6, Hu7, Hr0, HK⟩
  iapply (step_rs_send m K c _ 0 7 rfl (rdev7 c) (pr_ne c 6) 6 rfl (by decide) ss6 (rsown c) (off4_eq c 6) (off3_eq c)) $$ [Ha7 Hr7 HO Ht6 Hu7]
  · isplitr; · iexact HI
    isplitl [Ha7]; · iexact Ha7
    isplitl [Hr7]; · iexact Hr7
    isplitl [HO]; · iexact HO
    isplitl [Ht6]; · iexact Ht6
    iexact Hu7
  iintro ⟨Hc6, HO⟩
  icases Hr0 with ⟨%f, Hr0⟩
  iapply (load_chunk m c (off5_eq c)) $$ Ha0
  iintro Ha0
  iapply (load_slot c (f := f) (off6_eq c)) $$ Hr0
  iintro %w Hr0
  iapply (store_slot m c (f := f) (off6_eq c)) $$ Hr0
  iintro Hr0
  iapply (run_ret c)
  iapply HK
  isplitl [HO]; · iexact HO
  isplitl [Ha0]; · iexact Ha0
  isplitl [Hr0]; · iexact Hr0
  iexact Hc6

set_option maxHeartbeats 2000000 in
theorem part21 (c : Dev nD) (v2 v624 c1 : BitVec 32) (Kt : _ → sProp 𝕄) :
    iprop(records m K ∗ levAts L lv ∗ Owes c (OR c 0) ∗ waitTok (F := F) (rsCell c (pr c 1)) ∗ waitTok (F := F) (rsCell c (pr c 2))
        ∗ (∀ a b d e, Owes c (OR c 0) ∗ rsPt c (pr c 1) (rsB m c) ∗ semVal (rsCell c (pr c 1)) 0 ∗ rsPt c (pr c 2) (rsB m c) ∗ semVal (rsCell c (pr c 2)) 0 -∗ Kt ⟨a, b, d, e⟩))
      ⊢ run c (k0_part21 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v624 c1) Kt := by
  rw [k0_part21_eq_skeleton]; unfold k0_part21_skel
  simp only [semSignalWord, semWaitWord, Prog.lift, Prog.bind_op, Prog.bind_ret, Prog.pure_eq_ret, wp_deviceId]
  iintro ⟨#HI, #Hlev, HO, Hwr1, Hwr2, HK⟩
  iapply (step_rsWait m K c 1 (pr_ne c 0) (rsw1 c)) $$ [HO Hwr1]
  · isplitr; · iexact HI
    isplitr; · iexact Hlev
    isplitl [HO]; · iexact HO
    iexact Hwr1
  iintro ⟨HO, Hr1, Hzr1⟩
  iapply (step_rsWait m K c 2 (pr_ne c 1) (rsw2 c)) $$ [HO Hwr2]
  · isplitr; · iexact HI
    isplitr; · iexact Hlev
    isplitl [HO]; · iexact HO
    iexact Hwr2
  iintro ⟨HO, Hr2, Hzr2⟩
  iapply (run_ret c)
  iapply HK
  isplitl [HO]; · iexact HO
  isplitl [Hr1]; · iexact Hr1
  isplitl [Hzr1]; · iexact Hzr1
  isplitl [Hr2]; · iexact Hr2
  iexact Hzr2

set_option maxHeartbeats 2000000 in
theorem part22 (c : Dev nD) (v2 : BitVec 32) (v654 v655 : BitVec 32) (v656 v657 : BitVec 1) (Kt : _ → sProp 𝕄) :
    iprop(records m K ∗ levAts L lv ∗ Owes c (OR c 0) ∗ waitTok (F := F) (rsCell c (pr c 3)) ∗ waitTok (F := F) (rsCell c (pr c 4))
        ∗ (∀ a b d, Owes c (OR c 0) ∗ rsPt c (pr c 3) (rsB m c) ∗ semVal (rsCell c (pr c 3)) 0 ∗ rsPt c (pr c 4) (rsB m c) ∗ semVal (rsCell c (pr c 4)) 0 -∗ Kt ⟨a, b, d⟩))
      ⊢ run c (k0_part22 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v654 v655 v656 v657) Kt := by
  rw [k0_part22_eq_skeleton]; unfold k0_part22_skel
  simp only [semSignalWord, semWaitWord, Prog.lift, Prog.bind_op, Prog.bind_ret, Prog.pure_eq_ret, wp_deviceId]
  iintro ⟨#HI, #Hlev, HO, Hwr3, Hwr4, HK⟩
  iapply (step_rsWait m K c 3 (pr_ne c 2) (rsw3 c)) $$ [HO Hwr3]
  · isplitr; · iexact HI
    isplitr; · iexact Hlev
    isplitl [HO]; · iexact HO
    iexact Hwr3
  iintro ⟨HO, Hr3, Hzr3⟩
  iapply (step_rsWait m K c 4 (pr_ne c 3) (rsw4 c)) $$ [HO Hwr4]
  · isplitr; · iexact HI
    isplitr; · iexact Hlev
    isplitl [HO]; · iexact HO
    iexact Hwr4
  iintro ⟨HO, Hr4, Hzr4⟩
  iapply (run_ret c)
  iapply HK
  isplitl [HO]; · iexact HO
  isplitl [Hr3]; · iexact Hr3
  isplitl [Hzr3]; · iexact Hzr3
  isplitl [Hr4]; · iexact Hr4
  iexact Hzr4

set_option maxHeartbeats 2000000 in
theorem part23 (c : Dev nD) (v2 : BitVec 32) (v690 c8 c0 : BitVec 32) (Kt : _ → sProp 𝕄) :
    iprop(records m K ∗ levAts L lv ∗ Owes c (OR c 0) ∗ waitTok (F := F) (rsCell c (pr c 5))
        ∗ (Owes c (OR c 0) ∗ rsPt c (pr c 5) (rsB m c) ∗ semVal (rsCell c (pr c 5)) 0 -∗ Kt ⟨⟩))
      ⊢ run c (k0_part23 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v690 c8 c0) Kt := by
  rw [k0_part23_eq_skeleton]; unfold k0_part23_skel
  simp only [semSignalWord, semWaitWord, Prog.lift, Prog.bind_op, Prog.bind_ret, Prog.pure_eq_ret, wp_deviceId]
  iintro ⟨#HI, #Hlev, HO, Hwr5, HK⟩
  iapply (step_rsWait m K c 5 (pr_ne c 4) (rsw5 c)) $$ [HO Hwr5]
  · isplitr; · iexact HI
    isplitr; · iexact Hlev
    isplitl [HO]; · iexact HO
    iexact Hwr5
  iintro ⟨HO, Hr5, Hzr5⟩
  iapply (run_ret c)
  iapply HK
  isplitl [HO]; · iexact HO
  isplitl [Hr5]; · iexact Hr5
  iexact Hzr5

set_option maxHeartbeats 2000000 in
theorem part24 (c : Dev nD) (v2 : BitVec 32) (Kt : _ → sProp 𝕄) :
    iprop(records m K ∗ levAts L lv ∗ Owes c (OR c 0) ∗ waitTok (F := F) (rsCell c (pr c 6)) ∗ waitTok (F := F) (rsCell c (pr c 7)) ∗ rsPt c c (rsB m c) ∗ rsPt c (pr c 1) (rsB m c) ∗ rsPt c (pr c 2) (rsB m c) ∗ rsPt c (pr c 3) (rsB m c) ∗ rsPt c (pr c 4) (rsB m c) ∗ rsPt c (pr c 5) (rsB m c) ∗ (∃ f, agPt (F := F) c c fullShare f)
        ∗ (∀ a b, Owes c (OR c 0) ∗ rsAll c (rsB m c) ∗ agD m c c ∗ agPt c c (Transfers.shareTokN fullShare 0) (agB m) ∗ agPt c c (Transfers.shareTokN fullShare 1) (agB m) ∗ agPt c c (Transfers.shareTokN fullShare 2) (agB m) ∗ agPt c c (Transfers.shareTokN fullShare 3) (agB m) ∗ agPt c c (Transfers.shareTokN fullShare 4) (agB m) ∗ agPt c c (Transfers.shareTokN fullShare 5) (agB m) ∗ agPt c c (Transfers.shareTokN fullShare 6) (agB m) ∗ semVal (rsCell c (pr c 6)) 0 ∗ semVal (rsCell c (pr c 7)) 0 -∗ Kt ⟨a, b⟩))
      ⊢ run c (k0_part24 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2) Kt := by
  rw [k0_part24_eq_skeleton]; unfold k0_part24_skel
  simp only [semSignalWord, semWaitWord, Prog.lift, Prog.bind_op, Prog.bind_ret, Prog.pure_eq_ret, wp_deviceId]
  iintro ⟨#HI, #Hlev, HO, Hwr6, Hwr7, Hr0, Hr1, Hr2, Hr3, Hr4, Hr5, Hg0, HK⟩
  iapply (step_rsWait m K c 6 (pr_ne c 5) (rsw6 c)) $$ [HO Hwr6]
  · isplitr; · iexact HI
    isplitr; · iexact Hlev
    isplitl [HO]; · iexact HO
    iexact Hwr6
  iintro ⟨HO, Hr6, Hzr6⟩
  iapply (step_rsWait m K c 7 (pr_ne c 6) (rsw7 c)) $$ [HO Hwr7]
  · isplitr; · iexact HI
    isplitr; · iexact Hlev
    isplitl [HO]; · iexact HO
    iexact Hwr7
  iintro ⟨HO, Hr7, Hzr7⟩
  ihave Hrs := (Entails.of_eq (rs_deal c (rsB m c)).symm) $$ [Hr0 Hr1 Hr2 Hr3 Hr4 Hr5 Hr6 Hr7]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  iapply (wp_load 𝒱₀ (c : Thread nD τ) none Set.univ (m := rsM) (S := Finset.univ) (f := rsB m c) (Finset.subset_univ _)) $$ Hrs
  iintro Hrs
  rw [readw_rs]
  icases Hg0 with ⟨%f, Hg0⟩
  iapply (load_agChunk c (f := f) (off5_eq c)) $$ Hg0
  iintro %w Hg0
  iapply (store_agChunk m c (f := f) (off5_eq c)) $$ Hg0
  iintro Hg0
  ihave Hg0 := (ag_toks m c c).1 $$ Hg0
  unfold agT
  icases Hg0 with ⟨Hgd, Hk0, Hk1, Hk2, Hk3, Hk4, Hk5, Hk6⟩
  iapply (run_ret c)
  iapply HK
  isplitl [HO]; · iexact HO
  isplitl [Hrs]; · iexact Hrs
  isplitl [Hgd]; · iexact Hgd
  isplitl [Hk0]; · iexact Hk0
  isplitl [Hk1]; · iexact Hk1
  isplitl [Hk2]; · iexact Hk2
  isplitl [Hk3]; · iexact Hk3
  isplitl [Hk4]; · iexact Hk4
  isplitl [Hk5]; · iexact Hk5
  isplitl [Hk6]; · iexact Hk6
  isplitl [Hzr6]; · iexact Hzr6
  iexact Hzr7

end Cert.KernelIdeal.Pf

end
-- ==== Proof.Gather.lean ====
/-
# The body, part by part: the gather

The parts that send the sum to the seven peers, wait for theirs, store the result and drain the transfers.
-/
module

public import proofs.«01_k».proof.Proof.Comm

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Ck → ℕ)

set_option maxHeartbeats 2000000 in
theorem part25 (c : Dev nD) (v2 v756 v757 : BitVec 32) (Kt : _ → sProp 𝕄) :
    iprop(records m K ∗ Owes c (OA c 7) ∗ agPt c c (Transfers.shareTokN fullShare 0) (agB m) ∗ (∃ f, agPt (F := F) (pr c 1) c fullShare f) ∗ dutyTok ER (sndCell c 7) 0 0 ∗ dutyTok ER (agCell (pr c 1) c) 0 0
        ∗ (Owes c (OA c 6) ∗ cred (tallyAt (sndCell c 7) () N) -∗ Kt ⟨⟩))
      ⊢ run c (k0_part25 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v756 v757) Kt := by
  rw [k0_part25_eq_skeleton]; unfold k0_part25_skel
  simp only [semSignalWord, semWaitWord, Prog.lift, Prog.bind_op, Prog.bind_ret, Prog.pure_eq_ret, wp_deviceId]
  iintro ⟨#HI, HO, Hk0, Hg1, Ht7, Hv1, HK⟩
  iapply (step_ag_send m K c _ 6 1 rfl (gdev1 c) (pr_ne c 0) 7 0 rfl ss7 (agown c) (off9_eq c) (off9_eq c)) $$ [Hk0 Hg1 HO Ht7 Hv1]
  · isplitr; · iexact HI
    isplitl [Hk0]; · iexact Hk0
    isplitl [Hg1]; · iexact Hg1
    isplitl [HO]; · iexact HO
    isplitl [Ht7]; · iexact Ht7
    iexact Hv1
  iintro ⟨Hc7, HO⟩
  iapply (run_ret c)
  iapply HK
  isplitl [HO]; · iexact HO
  iexact Hc7

set_option maxHeartbeats 2000000 in
theorem part26 (c : Dev nD) (v2 : BitVec 32) (Kt : _ → sProp 𝕄) :
    iprop(records m K ∗ Owes c (OA c 6) ∗ agPt c c (Transfers.shareTokN fullShare 1) (agB m) ∗ agPt c c (Transfers.shareTokN fullShare 2) (agB m) ∗ (∃ f, agPt (F := F) (pr c 2) c fullShare f) ∗ dutyTok ER (sndCell c 8) 0 0 ∗ dutyTok ER (agCell (pr c 2) c) 0 0 ∗ (∃ f, agPt (F := F) (pr c 3) c fullShare f) ∗ dutyTok ER (sndCell c 9) 0 0 ∗ dutyTok ER (agCell (pr c 3) c) 0 0
        ∗ (∀ a, Owes c (OA c 4) ∗ cred (tallyAt (sndCell c 8) () N) ∗ cred (tallyAt (sndCell c 9) () N) -∗ Kt a))
      ⊢ run c (k0_part26 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2) Kt := by
  rw [k0_part26_eq_skeleton]; unfold k0_part26_skel
  simp only [semSignalWord, semWaitWord, Prog.lift, Prog.bind_op, Prog.bind_ret, Prog.pure_eq_ret, wp_deviceId]
  iintro ⟨#HI, HO, Hk1, Hk2, Hg2, Ht8, Hv2, Hg3, Ht9, Hv3, HK⟩
  iapply (step_ag_send m K c _ 5 2 rfl (gdev2 c) (pr_ne c 1) 8 1 rfl ss8 (agown c) (off9_eq c) (off9_eq c)) $$ [Hk1 Hg2 HO Ht8 Hv2]
  · isplitr; · iexact HI
    isplitl [Hk1]; · iexact Hk1
    isplitl [Hg2]; · iexact Hg2
    isplitl [HO]; · iexact HO
    isplitl [Ht8]; · iexact Ht8
    iexact Hv2
  iintro ⟨Hc8, HO⟩
  iapply (step_ag_send m K c _ 4 3 rfl (gdev3 c) (pr_ne c 2) 9 2 rfl ss9 (agown c) (off9_eq c) (off9_eq c)) $$ [Hk2 Hg3 HO Ht9 Hv3]
  · isplitr; · iexact HI
    isplitl [Hk2]; · iexact Hk2
    isplitl [Hg3]; · iexact Hg3
    isplitl [HO]; · iexact HO
    isplitl [Ht9]; · iexact Ht9
    iexact Hv3
  iintro ⟨Hc9, HO⟩
  iapply (run_ret c)
  iapply HK
  isplitl [HO]; · iexact HO
  isplitl [Hc8]; · iexact Hc8
  iexact Hc9

set_option maxHeartbeats 2000000 in
theorem part27 (c : Dev nD) (v2 v827 : BitVec 32) (Kt : _ → sProp 𝕄) :
    iprop(records m K ∗ Owes c (OA c 4) ∗ agPt c c (Transfers.shareTokN fullShare 3) (agB m) ∗ agPt c c (Transfers.shareTokN fullShare 4) (agB m) ∗ (∃ f, agPt (F := F) (pr c 4) c fullShare f) ∗ dutyTok ER (sndCell c 10) 0 0 ∗ dutyTok ER (agCell (pr c 4) c) 0 0 ∗ (∃ f, agPt (F := F) (pr c 5) c fullShare f) ∗ dutyTok ER (sndCell c 11) 0 0 ∗ dutyTok ER (agCell (pr c 5) c) 0 0
        ∗ (∀ a b, Owes c (OA c 2) ∗ cred (tallyAt (sndCell c 10) () N) ∗ cred (tallyAt (sndCell c 11) () N) -∗ Kt ⟨a, b⟩))
      ⊢ run c (k0_part27 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v827) Kt := by
  rw [k0_part27_eq_skeleton]; unfold k0_part27_skel
  simp only [semSignalWord, semWaitWord, Prog.lift, Prog.bind_op, Prog.bind_ret, Prog.pure_eq_ret, wp_deviceId]
  iintro ⟨#HI, HO, Hk3, Hk4, Hg4, Ht10, Hv4, Hg5, Ht11, Hv5, HK⟩
  iapply (step_ag_send m K c _ 3 4 rfl (gdev4 c) (pr_ne c 3) 10 3 rfl ss10 (agown c) (off9_eq c) (off9_eq c)) $$ [Hk3 Hg4 HO Ht10 Hv4]
  · isplitr; · iexact HI
    isplitl [Hk3]; · iexact Hk3
    isplitl [Hg4]; · iexact Hg4
    isplitl [HO]; · iexact HO
    isplitl [Ht10]; · iexact Ht10
    iexact Hv4
  iintro ⟨Hc10, HO⟩
  iapply (step_ag_send m K c _ 2 5 rfl (gdev5 c) (pr_ne c 4) 11 4 rfl ss11 (agown c) (off9_eq c) (off9_eq c)) $$ [Hk4 Hg5 HO Ht11 Hv5]
  · isplitr; · iexact HI
    isplitl [Hk4]; · iexact Hk4
    isplitl [Hg5]; · iexact Hg5
    isplitl [HO]; · iexact HO
    isplitl [Ht11]; · iexact Ht11
    iexact Hv5
  iintro ⟨Hc11, HO⟩
  iapply (run_ret c)
  iapply HK
  isplitl [HO]; · iexact HO
  isplitl [Hc10]; · iexact Hc10
  iexact Hc11

set_option maxHeartbeats 2000000 in
theorem part28 (c : Dev nD) (v2 v861 v862 : BitVec 32) (Kt : _ → sProp 𝕄) :
    iprop(records m K ∗ Owes c (OA c 2) ∗ agPt c c (Transfers.shareTokN fullShare 5) (agB m) ∗ (∃ f, agPt (F := F) (pr c 6) c fullShare f) ∗ dutyTok ER (sndCell c 12) 0 0 ∗ dutyTok ER (agCell (pr c 6) c) 0 0
        ∗ (Owes c (OA c 1) ∗ cred (tallyAt (sndCell c 12) () N) -∗ Kt ⟨⟩))
      ⊢ run c (k0_part28 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v861 v862) Kt := by
  rw [k0_part28_eq_skeleton]; unfold k0_part28_skel
  simp only [semSignalWord, semWaitWord, Prog.lift, Prog.bind_op, Prog.bind_ret, Prog.pure_eq_ret, wp_deviceId]
  iintro ⟨#HI, HO, Hk5, Hg6, Ht12, Hv6, HK⟩
  iapply (step_ag_send m K c _ 1 6 rfl (gdev6 c) (pr_ne c 5) 12 5 rfl ss12 (agown c) (off9_eq c) (off9_eq c)) $$ [Hk5 Hg6 HO Ht12 Hv6]
  · isplitr; · iexact HI
    isplitl [Hk5]; · iexact Hk5
    isplitl [Hg6]; · iexact Hg6
    isplitl [HO]; · iexact HO
    isplitl [Ht12]; · iexact Ht12
    iexact Hv6
  iintro ⟨Hc12, HO⟩
  iapply (run_ret c)
  iapply HK
  isplitl [HO]; · iexact HO
  iexact Hc12

set_option maxHeartbeats 2000000 in
theorem part29 (c : Dev nD) (v2 : BitVec 32) (Kt : _ → sProp 𝕄) :
    iprop(records m K ∗ levAts L lv ∗ Owes c (OA c 1) ∗ agPt c c (Transfers.shareTokN fullShare 6) (agB m) ∗ (∃ f, agPt (F := F) (pr c 7) c fullShare f) ∗ dutyTok ER (sndCell c 13) 0 0 ∗ dutyTok ER (agCell (pr c 7) c) 0 0 ∗ waitTok (F := F) (agCell c (pr c 1))
        ∗ (∀ a, Owes c (OA c 0) ∗ cred (tallyAt (sndCell c 13) () N) ∗ agPt c (pr c 1) fullShare (agB m) ∗ semVal (agCell c (pr c 1)) 0 -∗ Kt a))
      ⊢ run c (k0_part29 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2) Kt := by
  rw [k0_part29_eq_skeleton]; unfold k0_part29_skel
  simp only [semSignalWord, semWaitWord, Prog.lift, Prog.bind_op, Prog.bind_ret, Prog.pure_eq_ret, wp_deviceId]
  iintro ⟨#HI, #Hlev, HO, Hk6, Hg7, Ht13, Hv7, Hwa1, HK⟩
  iapply (step_ag_send m K c _ 0 7 rfl (gdev7 c) (pr_ne c 6) 13 6 rfl ss13 (agown c) (off9_eq c) (off9_eq c)) $$ [Hk6 Hg7 HO Ht13 Hv7]
  · isplitr; · iexact HI
    isplitl [Hk6]; · iexact Hk6
    isplitl [Hg7]; · iexact Hg7
    isplitl [HO]; · iexact HO
    isplitl [Ht13]; · iexact Ht13
    iexact Hv7
  iintro ⟨Hc13, HO⟩
  iapply (step_agWait m K c 1 (pr_ne c 0) (agw1 c)) $$ [HO Hwa1]
  · isplitr; · iexact HI
    isplitr; · iexact Hlev
    isplitl [HO]; · iexact HO
    iexact Hwa1
  iintro ⟨HO, Hg1, Hza1⟩
  iapply (run_ret c)
  iapply HK
  isplitl [HO]; · iexact HO
  isplitl [Hc13]; · iexact Hc13
  isplitl [Hg1]; · iexact Hg1
  iexact Hza1

set_option maxHeartbeats 2000000 in
theorem part30 (c : Dev nD) (v2 v930 : BitVec 32) (Kt : _ → sProp 𝕄) :
    iprop(records m K ∗ levAts L lv ∗ Owes c (OA c 0) ∗ waitTok (F := F) (agCell c (pr c 2)) ∗ waitTok (F := F) (agCell c (pr c 3))
        ∗ (∀ a b d e g, Owes c (OA c 0) ∗ agPt c (pr c 2) fullShare (agB m) ∗ semVal (agCell c (pr c 2)) 0 ∗ agPt c (pr c 3) fullShare (agB m) ∗ semVal (agCell c (pr c 3)) 0 -∗ Kt ⟨a, b, d, e, g⟩))
      ⊢ run c (k0_part30 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v930) Kt := by
  rw [k0_part30_eq_skeleton]; unfold k0_part30_skel
  simp only [semSignalWord, semWaitWord, Prog.lift, Prog.bind_op, Prog.bind_ret, Prog.pure_eq_ret, wp_deviceId]
  iintro ⟨#HI, #Hlev, HO, Hwa2, Hwa3, HK⟩
  iapply (step_agWait m K c 2 (pr_ne c 1) (agw2 c)) $$ [HO Hwa2]
  · isplitr; · iexact HI
    isplitr; · iexact Hlev
    isplitl [HO]; · iexact HO
    iexact Hwa2
  iintro ⟨HO, Hg2, Hza2⟩
  iapply (step_agWait m K c 3 (pr_ne c 2) (agw3 c)) $$ [HO Hwa3]
  · isplitr; · iexact HI
    isplitr; · iexact Hlev
    isplitl [HO]; · iexact HO
    iexact Hwa3
  iintro ⟨HO, Hg3, Hza3⟩
  iapply (run_ret c)
  iapply HK
  isplitl [HO]; · iexact HO
  isplitl [Hg2]; · iexact Hg2
  isplitl [Hza2]; · iexact Hza2
  isplitl [Hg3]; · iexact Hg3
  iexact Hza3

set_option maxHeartbeats 2000000 in
theorem part31 (c : Dev nD) (v2 : BitVec 32) (v960 v961 : BitVec 32) (v962 v963 v964 : BitVec 1) (Kt : _ → sProp 𝕄) :
    iprop(records m K ∗ levAts L lv ∗ Owes c (OA c 0) ∗ waitTok (F := F) (agCell c (pr c 4)) ∗ waitTok (F := F) (agCell c (pr c 5))
        ∗ (∀ a b d e, Owes c (OA c 0) ∗ agPt c (pr c 4) fullShare (agB m) ∗ semVal (agCell c (pr c 4)) 0 ∗ agPt c (pr c 5) fullShare (agB m) ∗ semVal (agCell c (pr c 5)) 0 -∗ Kt ⟨a, b, d, e⟩))
      ⊢ run c (k0_part31 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v960 v961 v962 v963 v964) Kt := by
  rw [k0_part31_eq_skeleton]; unfold k0_part31_skel
  simp only [semSignalWord, semWaitWord, Prog.lift, Prog.bind_op, Prog.bind_ret, Prog.pure_eq_ret, wp_deviceId]
  iintro ⟨#HI, #Hlev, HO, Hwa4, Hwa5, HK⟩
  iapply (step_agWait m K c 4 (pr_ne c 3) (agw4 c)) $$ [HO Hwa4]
  · isplitr; · iexact HI
    isplitr; · iexact Hlev
    isplitl [HO]; · iexact HO
    iexact Hwa4
  iintro ⟨HO, Hg4, Hza4⟩
  iapply (step_agWait m K c 5 (pr_ne c 4) (agw5 c)) $$ [HO Hwa5]
  · isplitr; · iexact HI
    isplitr; · iexact Hlev
    isplitl [HO]; · iexact HO
    iexact Hwa5
  iintro ⟨HO, Hg5, Hza5⟩
  iapply (run_ret c)
  iapply HK
  isplitl [HO]; · iexact HO
  isplitl [Hg4]; · iexact Hg4
  isplitl [Hza4]; · iexact Hza4
  isplitl [Hg5]; · iexact Hg5
  iexact Hza5

set_option maxHeartbeats 2000000 in
theorem part32 (c : Dev nD) (v2 : BitVec 32) (v996 c8 : BitVec 32) (v997 : BitVec 1) (c1 : BitVec 32) (Kt : _ → sProp 𝕄) :
    iprop(records m K ∗ levAts L lv ∗ Owes c (OA c 0) ∗ waitTok (F := F) (agCell c (pr c 6))
        ∗ (Owes c (OA c 0) ∗ agPt c (pr c 6) fullShare (agB m) ∗ semVal (agCell c (pr c 6)) 0 -∗ Kt ⟨⟩))
      ⊢ run c (k0_part32 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v996 c8 v997 c1) Kt := by
  rw [k0_part32_eq_skeleton]; unfold k0_part32_skel
  simp only [semSignalWord, semWaitWord, Prog.lift, Prog.bind_op, Prog.bind_ret, Prog.pure_eq_ret, wp_deviceId]
  iintro ⟨#HI, #Hlev, HO, Hwa6, HK⟩
  iapply (step_agWait m K c 6 (pr_ne c 5) (agw6 c)) $$ [HO Hwa6]
  · isplitr; · iexact HI
    isplitr; · iexact Hlev
    isplitl [HO]; · iexact HO
    iexact Hwa6
  iintro ⟨HO, Hg6, Hza6⟩
  iapply (run_ret c)
  iapply HK
  isplitl [HO]; · iexact HO
  isplitl [Hg6]; · iexact Hg6
  iexact Hza6

set_option maxHeartbeats 2000000 in
theorem part33 (c : Dev nD) (Kt : _ → sProp 𝕄) :
    iprop(records m K ∗ levAts L lv ∗ Owes c (OA c 0) ∗ waitTok (F := F) (agCell c (pr c 7)) ∗ agPt c (pr c 1) fullShare (agB m) ∗ agPt c (pr c 2) fullShare (agB m) ∗ agPt c (pr c 3) fullShare (agB m) ∗ agPt c (pr c 4) fullShare (agB m) ∗ agPt c (pr c 5) fullShare (agB m) ∗ agPt c (pr c 6) fullShare (agB m) ∗ agD m c c ∗ (∃ f, outPt (F := F) c f) ∗ cred (tallyAt (sndCell c 0) () N) ∗ cred (tallyAt (sndCell c 1) () N) ∗ cred (tallyAt (sndCell c 2) () N) ∗ cred (tallyAt (sndCell c 3) () N) ∗ atPos ER (sndCell c 0) 0 ∅ 0 ∗ atPos ER (sndCell c 1) 0 ∅ 0 ∗ atPos ER (sndCell c 2) 0 ∅ 0 ∗ atPos ER (sndCell c 3) 0 ∅ 0
        ∗ (Owes c (OA c 0) ∗ agAll c (Transfers.shareDrop fullShare 7) (agB m) ∗ agT m c (pr c 1) ∗ agT m c (pr c 2) ∗ agT m c (pr c 3) ∗ agT m c (pr c 4) ∗ agT m c (pr c 5) ∗ agT m c (pr c 6) ∗ agT m c (pr c 7) ∗ semVal (agCell c (pr c 7)) 0 ∗ outPt c (outv m) ∗ accPt c (pr c 1) (accB m c) ∗ accPt c (pr c 2) (accB m c) ∗ accPt c (pr c 3) (accB m c) ∗ accPt c (pr c 4) (accB m c) ∗ semVal (sndCell c 0) 0 ∗ semVal (sndCell c 1) 0 ∗ semVal (sndCell c 2) 0 ∗ semVal (sndCell c 3) 0 -∗ Kt ⟨⟩))
      ⊢ run c (k0_part33 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c) Kt := by
  rw [k0_part33_eq_skeleton]; unfold k0_part33_skel
  simp only [semSignalWord, semWaitWord, Prog.lift, Prog.bind_op, Prog.bind_ret, Prog.pure_eq_ret, wp_deviceId]
  iintro ⟨#HI, #Hlev, HO, Hwa7, Hg1, Hg2, Hg3, Hg4, Hg5, Hg6, Hgd, Hout, Hc0, Hc1, Hc2, Hc3, Hp0, Hp1, Hp2, Hp3, HK⟩
  iapply (step_agWait m K c 7 (pr_ne c 6) (agw7 c)) $$ [HO Hwa7]
  · isplitr; · iexact HI
    isplitr; · iexact Hlev
    isplitl [HO]; · iexact HO
    iexact Hwa7
  iintro ⟨HO, Hg7, Hza7⟩
  ihave Hg1 := (ag_toks m c (pr c 1)).1 $$ Hg1
  icases Hg1 with ⟨Hd1, Hg1⟩
  ihave Hg2 := (ag_toks m c (pr c 2)).1 $$ Hg2
  icases Hg2 with ⟨Hd2, Hg2⟩
  ihave Hg3 := (ag_toks m c (pr c 3)).1 $$ Hg3
  icases Hg3 with ⟨Hd3, Hg3⟩
  ihave Hg4 := (ag_toks m c (pr c 4)).1 $$ Hg4
  icases Hg4 with ⟨Hd4, Hg4⟩
  ihave Hg5 := (ag_toks m c (pr c 5)).1 $$ Hg5
  icases Hg5 with ⟨Hd5, Hg5⟩
  ihave Hg6 := (ag_toks m c (pr c 6)).1 $$ Hg6
  icases Hg6 with ⟨Hd6, Hg6⟩
  ihave Hg7 := (ag_toks m c (pr c 7)).1 $$ Hg7
  icases Hg7 with ⟨Hd7, Hg7⟩
  ihave Hgd := (Entails.of_eq (ag_deal c (Transfers.shareDrop fullShare 7) (agB m)).symm) $$ [Hgd Hd1 Hd2 Hd3 Hd4 Hd5 Hd6 Hd7]
  · isplitl [Hgd]; · iexact Hgd
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iapply (wp_load 𝒱₀ (c : Thread nD τ) none Set.univ (m := agM) (S := Finset.univ) (f := agB m) (Finset.subset_univ _)) $$ Hgd
  iintro Hgd
  rw [readw_ag]
  icases Hout with ⟨%f, Hout⟩
  iapply (wp_load 𝒱₀ (c : Thread nD τ) none Set.univ (m := Memref.whole cc0_stg3_0) (S := Finset.univ) (f := f) (Finset.subset_univ _)) $$ Hout
  iintro Hout
  iapply (store_out c (f := f)) $$ Hout
  iintro Hout
  iapply (step_sndWait1 m K c 0 1 rfl (by decide) ss0) $$ [HO Hc0 Hp0]
  · isplitr; · iexact HI
    isplitr; · iexact Hlev
    isplitl [HO]; · iexact HO
    isplitl [Hc0]; · iexact Hc0
    iexact Hp0
  iintro ⟨HO, Ha1, Hz0⟩
  iapply (step_sndWait1 m K c 1 2 rfl (by decide) ss1) $$ [HO Hc1 Hp1]
  · isplitr; · iexact HI
    isplitr; · iexact Hlev
    isplitl [HO]; · iexact HO
    isplitl [Hc1]; · iexact Hc1
    iexact Hp1
  iintro ⟨HO, Ha2, Hz1⟩
  iapply (step_sndWait1 m K c 2 3 rfl (by decide) ss2) $$ [HO Hc2 Hp2]
  · isplitr; · iexact HI
    isplitr; · iexact Hlev
    isplitl [HO]; · iexact HO
    isplitl [Hc2]; · iexact Hc2
    iexact Hp2
  iintro ⟨HO, Ha3, Hz2⟩
  iapply (step_sndWait1 m K c 3 4 rfl (by decide) ss3) $$ [HO Hc3 Hp3]
  · isplitr; · iexact HI
    isplitr; · iexact Hlev
    isplitl [HO]; · iexact HO
    isplitl [Hc3]; · iexact Hc3
    iexact Hp3
  iintro ⟨HO, Ha4, Hz3⟩
  iapply (run_ret c)
  iapply HK
  isplitl [HO]; · iexact HO
  isplitl [Hgd]; · iexact Hgd
  isplitl [Hg1]; · iexact Hg1
  isplitl [Hg2]; · iexact Hg2
  isplitl [Hg3]; · iexact Hg3
  isplitl [Hg4]; · iexact Hg4
  isplitl [Hg5]; · iexact Hg5
  isplitl [Hg6]; · iexact Hg6
  isplitl [Hg7]; · iexact Hg7
  isplitl [Hza7]; · iexact Hza7
  isplitl [Hout]; · iexact Hout
  isplitl [Ha1]; · iexact Ha1
  isplitl [Ha2]; · iexact Ha2
  isplitl [Ha3]; · iexact Ha3
  isplitl [Ha4]; · iexact Ha4
  isplitl [Hz0]; · iexact Hz0
  isplitl [Hz1]; · iexact Hz1
  isplitl [Hz2]; · iexact Hz2
  iexact Hz3

set_option maxHeartbeats 2000000 in
theorem part34 (c : Dev nD) (Kt : _ → sProp 𝕄) :
    iprop(records m K ∗ levAts L lv ∗ Owes c (OA c 0) ∗ cred (tallyAt (sndCell c 4) () N) ∗ cred (tallyAt (sndCell c 5) () N) ∗ cred (tallyAt (sndCell c 6) () N) ∗ cred (tallyAt (sndCell c 7) () N) ∗ cred (tallyAt (sndCell c 8) () N) ∗ cred (tallyAt (sndCell c 9) () N) ∗ atPos ER (sndCell c 4) 0 ∅ 0 ∗ atPos ER (sndCell c 5) 0 ∅ 0 ∗ atPos ER (sndCell c 6) 0 ∅ 0 ∗ atPos ER (sndCell c 7) 0 ∅ 0 ∗ atPos ER (sndCell c 8) 0 ∅ 0 ∗ atPos ER (sndCell c 9) 0 ∅ 0
        ∗ (Owes c (OA c 0) ∗ accPt c (pr c 5) (accB m c) ∗ accPt c (pr c 6) (accB m c) ∗ accPt c (pr c 7) (accB m c) ∗ agPt c c (Transfers.shareTokN fullShare 0) (agB m) ∗ agPt c c (Transfers.shareTokN fullShare 1) (agB m) ∗ agPt c c (Transfers.shareTokN fullShare 2) (agB m) ∗ semVal (sndCell c 4) 0 ∗ semVal (sndCell c 5) 0 ∗ semVal (sndCell c 6) 0 ∗ semVal (sndCell c 7) 0 ∗ semVal (sndCell c 8) 0 ∗ semVal (sndCell c 9) 0 -∗ Kt ⟨⟩))
      ⊢ run c (k0_part34 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c) Kt := by
  rw [k0_part34_eq_skeleton]; unfold k0_part34_skel
  simp only [semSignalWord, semWaitWord, Prog.lift, Prog.bind_op, Prog.bind_ret, Prog.pure_eq_ret, wp_deviceId]
  iintro ⟨#HI, #Hlev, HO, Hc4, Hc5, Hc6, Hc7, Hc8, Hc9, Hp4, Hp5, Hp6, Hp7, Hp8, Hp9, HK⟩
  iapply (step_sndWait1 m K c 4 5 rfl (by decide) ss4) $$ [HO Hc4 Hp4]
  · isplitr; · iexact HI
    isplitr; · iexact Hlev
    isplitl [HO]; · iexact HO
    isplitl [Hc4]; · iexact Hc4
    iexact Hp4
  iintro ⟨HO, Ha5, Hz4⟩
  iapply (step_sndWait1 m K c 5 6 rfl (by decide) ss5) $$ [HO Hc5 Hp5]
  · isplitr; · iexact HI
    isplitr; · iexact Hlev
    isplitl [HO]; · iexact HO
    isplitl [Hc5]; · iexact Hc5
    iexact Hp5
  iintro ⟨HO, Ha6, Hz5⟩
  iapply (step_sndWait1 m K c 6 7 rfl (by decide) ss6) $$ [HO Hc6 Hp6]
  · isplitr; · iexact HI
    isplitr; · iexact Hlev
    isplitl [HO]; · iexact HO
    isplitl [Hc6]; · iexact Hc6
    iexact Hp6
  iintro ⟨HO, Ha7, Hz6⟩
  iapply (step_sndWait2 m K c 7 0 rfl ss7) $$ [HO Hc7 Hp7]
  · isplitr; · iexact HI
    isplitr; · iexact Hlev
    isplitl [HO]; · iexact HO
    isplitl [Hc7]; · iexact Hc7
    iexact Hp7
  iintro ⟨HO, Hk0, Hz7⟩
  iapply (step_sndWait2 m K c 8 1 rfl ss8) $$ [HO Hc8 Hp8]
  · isplitr; · iexact HI
    isplitr; · iexact Hlev
    isplitl [HO]; · iexact HO
    isplitl [Hc8]; · iexact Hc8
    iexact Hp8
  iintro ⟨HO, Hk1, Hz8⟩
  iapply (step_sndWait2 m K c 9 2 rfl ss9) $$ [HO Hc9 Hp9]
  · isplitr; · iexact HI
    isplitr; · iexact Hlev
    isplitl [HO]; · iexact HO
    isplitl [Hc9]; · iexact Hc9
    iexact Hp9
  iintro ⟨HO, Hk2, Hz9⟩
  iapply (run_ret c)
  iapply HK
  isplitl [HO]; · iexact HO
  isplitl [Ha5]; · iexact Ha5
  isplitl [Ha6]; · iexact Ha6
  isplitl [Ha7]; · iexact Ha7
  isplitl [Hk0]; · iexact Hk0
  isplitl [Hk1]; · iexact Hk1
  isplitl [Hk2]; · iexact Hk2
  isplitl [Hz4]; · iexact Hz4
  isplitl [Hz5]; · iexact Hz5
  isplitl [Hz6]; · iexact Hz6
  isplitl [Hz7]; · iexact Hz7
  isplitl [Hz8]; · iexact Hz8
  iexact Hz9

end Cert.KernelIdeal.Pf

end
-- ==== Proof.Body.lean ====
/-
# The body as a whole

The parts run one after another: from what a device starts with to what it ends with.
-/
module

public import proofs.«01_k».proof.Proof.Scatter
public import proofs.«01_k».proof.Proof.Gather

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Ck → ℕ)

/-- One proposition for each of the seven peers. -/
abbrev all7 (Φ : ℕ → sProp 𝕄) : sProp 𝕄 := iprop(Φ 1 ∗ Φ 2 ∗ Φ 3 ∗ Φ 4 ∗ Φ 5 ∗ Φ 6 ∗ Φ 7)
/-- One proposition for each of the fourteen transfers a device sends. -/
abbrev all14 (Φ : Fin 14 → sProp 𝕄) : sProp 𝕄 :=
  iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13)

/-- What device `c`'s body starts with. -/
def bodyIn (c : Dev nD) : sProp 𝕄 :=
  iprop(records m K ∗ levAts L lv ∗ Owes c (OB c 7) ∗ all7 (fun k => sigRes c k)
    ∗ cred (tallyAt (barCell c) () 7) ∗ atPos ER (barCell c) 0 ∅ 0
    ∗ xPt m c ∗ wqPt m c ∗ woPt m c ∗ (∃ f, accAll (F := F) c f) ∗ kIdle m c 0 ∗ kIdle m c 1 ∗ vIdle m c 0 ∗ vIdle m c 1
    ∗ all14 (fun j => atPos ER (sndCell c j) 0 ∅ 0) ∗ all14 (fun j => dutyTok ER (sndCell c j) 0 0)
    ∗ all7 (fun k => dutyTok ER (rsCell (pr c k) c) 0 0) ∗ all7 (fun k => dutyTok ER (agCell (pr c k) c) 0 0)
    ∗ all7 (fun k => waitTok (F := F) (rsCell c (pr c k))) ∗ all7 (fun k => waitTok (F := F) (agCell c (pr c k)))
    ∗ (∃ f, rsPt (F := F) c c f) ∗ (∃ f, agPt (F := F) c c fullShare f) ∗ (∃ f, outPt (F := F) c f))

/-- What it ends with. -/
def bodyOut (c : Dev nD) : sProp 𝕄 :=
  iprop(Owes c (OA c 0) ∗ xPt m c ∗ wqPt m c ∗ woPt m c ∗ kIdle m c 0 ∗ kIdle m c 1 ∗ vIdle m c 0 ∗ vIdle m c 1
    ∗ semVal (barCell c) 0 ∗ accAll c (accB m c) ∗ rsAll c (rsB m c) ∗ agAll c fullShare (agB m)
    ∗ all14 (fun j => semVal (sndCell c j) 0) ∗ all7 (fun k => semVal (rsCell c (pr c k)) 0) ∗ all7 (fun k => semVal (agCell c (pr c k)) 0)
    ∗ outPt c (outv m))

set_option maxHeartbeats 8000000 in
set_option maxRecDepth 8000 in
theorem body_run (c : Dev nD) :
    bodyIn m K c ⊢ run c (cc0_body (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) (fun _ => bodyOut m c) := by
  rw [cc0_body_eq_skeleton]; unfold cc0_body_skel k0_part35 run
  simp only [wp_bind, Prog.lift, Prog.pure_eq_ret]
  unfold bodyIn
  iintro ⟨#HI, #Hlev, HO, ⟨Hs1, Hs2, Hs3, Hs4, Hs5, Hs6, Hs7⟩, Hc, Hat, Hx, Hw, Hwo, Hacc, Hkb0, Hkb1, Hvb0, Hvb1, ⟨Hp0, Hp1, Hp2, Hp3, Hp4, Hp5, Hp6, Hp7, Hp8, Hp9, Hp10, Hp11, Hp12, Hp13⟩, ⟨Ht0, Ht1, Ht2, Ht3, Ht4, Ht5, Ht6, Ht7, Ht8, Ht9, Ht10, Ht11, Ht12, Ht13⟩, ⟨Hu1, Hu2, Hu3, Hu4, Hu5, Hu6, Hu7⟩, ⟨Hv1, Hv2, Hv3, Hv4, Hv5, Hv6, Hv7⟩, ⟨Hwr1, Hwr2, Hwr3, Hwr4, Hwr5, Hwr6, Hwr7⟩, ⟨Hwa1, Hwa2, Hwa3, Hwa4, Hwa5, Hwa6, Hwa7⟩, Hr0, Hg0, Hout⟩
  iapply (part1 m c _)
  isplitl [Hkb0]; · iexact Hkb0
  isplitl [Hvb0]; · iexact Hvb0
  iintro %a1 %b1 %e1 ⟨Hkb0, Hvb0⟩
  try dsimp only
  iapply (part2 m K c _ _ _)
  isplitr; · iexact HI
  isplitl [HO]; · iexact HO
  isplitl [Hs1]; · iexact Hs1
  isplitl [Hs2]; · iexact Hs2
  isplitl [Hs3]; · iexact Hs3
  iintro %a2 %b2 HO
  try dsimp only
  iapply (part3 m K c _ _ _ _)
  isplitr; · iexact HI
  isplitl [HO]; · iexact HO
  isplitl [Hs4]; · iexact Hs4
  isplitl [Hs5]; · iexact Hs5
  iintro %a3 HO
  try dsimp only
  iapply (part4 m K c _ _ _ _)
  isplitr; · iexact HI
  isplitr; · iexact Hlev
  isplitl [HO]; · iexact HO
  isplitl [Hs6]; · iexact Hs6
  isplitl [Hs7]; · iexact Hs7
  isplitl [Hc]; · iexact Hc
  isplitl [Hat]; · iexact Hat
  isplitl [Hx]; · iexact Hx
  isplitl [Hw]; · iexact Hw
  iintro ⟨HO, Hx, Hw, Hpeer, Hzb⟩
  try dsimp only
  unfold peers barPay
  icases Hpeer with ⟨⟨Hr1, Hg1⟩, ⟨Hr2, Hg2⟩, ⟨Hr3, Hg3⟩, ⟨Hr4, Hg4⟩, ⟨Hr5, Hg5⟩, ⟨Hr6, Hg6⟩, ⟨Hr7, Hg7⟩⟩
  iapply (part5 m c _ _)
  isplitr; · iexact Hlev
  isplitl [HO]; · iexact HO
  isplitl [Hkb1]; · iexact Hkb1
  isplitl [Hvb1]; · iexact Hvb1
  isplitl [Hkb0]; · iexact Hkb0
  isplitl [Hvb0]; · iexact Hvb0
  iintro ⟨HO, Hkb1, Hvb1, Hkb0, Hvb0⟩
  try dsimp only
  iapply (part6 m c _ _ _)
  isplitr; · iexact Hlev
  isplitl [HO]; · iexact HO
  isplitl [Hkb0]; · iexact Hkb0
  isplitl [Hvb0]; · iexact Hvb0
  isplitl [Hkb1]; · iexact Hkb1
  iintro ⟨HO, Hkb0, Hvb0, Hkb1⟩
  try dsimp only
  iapply (part7 m c _ _ _)
  isplitr; · iexact Hlev
  isplitl [HO]; · iexact HO
  isplitl [Hkb1]; · iexact Hkb1
  isplitl [Hvb1]; · iexact Hvb1
  iintro ⟨HO, Hkb1, Hvb1⟩
  try dsimp only
  iapply (part8 m c _ _)
  isplitr; · iexact Hlev
  isplitl [HO]; · iexact HO
  isplitl [Hvb1]; · iexact Hvb1
  isplitl [Hkb0]; · iexact Hkb0
  isplitl [Hvb0]; · iexact Hvb0
  iintro ⟨HO, Hvb1, Hkb0, Hvb0⟩
  try dsimp only
  iapply (part9 m c _ _ _ _)
  isplitr; · iexact Hlev
  isplitl [HO]; · iexact HO
  isplitl [Hkb0]; · iexact Hkb0
  isplitl [Hvb0]; · iexact Hvb0
  isplitl [Hkb1]; · iexact Hkb1
  iintro ⟨HO, Hkb0, Hvb0, Hkb1⟩
  try dsimp only
  iapply (part10 m c _ _ _)
  isplitr; · iexact Hlev
  isplitl [HO]; · iexact HO
  isplitl [Hkb1]; · iexact Hkb1
  isplitl [Hvb1]; · iexact Hvb1
  iintro ⟨HO, Hkb1, Hvb1⟩
  try dsimp only
  iapply (part11 m c _ _)
  isplitr; · iexact Hlev
  isplitl [HO]; · iexact HO
  isplitl [Hvb1]; · iexact Hvb1
  isplitl [Hkb0]; · iexact Hkb0
  isplitl [Hvb0]; · iexact Hvb0
  iintro ⟨HO, Hvb1, Hkb0, Hvb0⟩
  try dsimp only
  iapply (part12 m c _ _ _ _)
  isplitr; · iexact Hlev
  isplitl [HO]; · iexact HO
  isplitl [Hkb0]; · iexact Hkb0
  isplitl [Hvb0]; · iexact Hvb0
  isplitl [Hkb1]; · iexact Hkb1
  iintro ⟨HO, Hkb0, Hvb0, Hkb1⟩
  try dsimp only
  iapply (part13 m c _ _ _)
  isplitr; · iexact Hlev
  isplitl [HO]; · iexact HO
  isplitl [Hkb1]; · iexact Hkb1
  isplitl [Hvb1]; · iexact Hvb1
  iintro ⟨HO, Hkb1, Hvb1⟩
  try dsimp only
  iapply (part14 m c _ _)
  isplitr; · iexact Hlev
  isplitl [HO]; · iexact HO
  isplitl [Hvb1]; · iexact Hvb1
  isplitl [Hkb0]; · iexact Hkb0
  isplitl [Hvb0]; · iexact Hvb0
  iintro ⟨HO, Hvb1, Hkb0, Hvb0⟩
  try dsimp only
  iapply (part15 m c _ _ _ _)
  isplitr; · iexact Hlev
  isplitl [HO]; · iexact HO
  isplitl [Hkb0]; · iexact Hkb0
  isplitl [Hvb0]; · iexact Hvb0
  isplitl [Hkb1]; · iexact Hkb1
  isplitl [Hvb1]; · iexact Hvb1
  iintro ⟨HO, Hkb0, Hvb0, Hkb1, Hvb1⟩
  try dsimp only
  iapply (part16 m K c _ (k0_pay3 (k0_pay2 (k0_pay1 (xstg m c) (wqstg m c)) (khead m c 0)) (vhead m c 0)) (k0_pay4 (k0_pay1 (xstg m c) (wqstg m c)) (khead m c 1) (vhead m c 1)) (k0_pay7 (k0_pay5 (k0_pay1 (xstg m c) (wqstg m c)) (khead m c 2)) (k0_pay6 (k0_pay1 (xstg m c) (wqstg m c)) (khead m c 2)) (vhead m c 2)) (k0_pay8 (k0_pay1 (xstg m c) (wqstg m c)) (khead m c 3) (vhead m c 3)) (k0_pay11 (k0_pay9 (k0_pay1 (xstg m c) (wqstg m c)) (khead m c 4)) (k0_pay10 (k0_pay1 (xstg m c) (wqstg m c)) (khead m c 4)) (vhead m c 4)) (k0_pay12 (k0_pay1 (xstg m c) (wqstg m c)) (khead m c 5) (vhead m c 5)) (k0_pay15 (k0_pay13 (k0_pay1 (xstg m c) (wqstg m c)) (khead m c 6)) (k0_pay14 (k0_pay1 (xstg m c) (wqstg m c)) (khead m c 6)) (vhead m c 6)) (k0_pay16 (k0_pay1 (xstg m c) (wqstg m c)) (khead m c 7)) (k0_pay17 (k0_pay1 (xstg m c) (wqstg m c)) (khead m c 7)) (k0_pay18 (vhead m c 7)) (constant S256x128 .f32 0x00000000#32) rfl _)
  isplitr; · iexact HI
  isplitl [HO]; · iexact HO
  isplitl [Hwo]; · iexact Hwo
  isplitl [Hacc]; · iexact Hacc
  isplitl [Hr1]; · iexact Hr1
  isplitl [Ht0]; · iexact Ht0
  isplitl [Hu1]; · iexact Hu1
  iintro %a16 %b16 ⟨HO, Hwo, Ha0, Ha2, Ha3, Ha4, Ha5, Ha6, Ha7, Hc0⟩
  try dsimp only
  iapply (part17 m K c _ _ _ _)
  isplitr; · iexact HI
  isplitl [HO]; · iexact HO
  isplitl [Ha2]; · iexact Ha2
  isplitl [Hr2]; · iexact Hr2
  isplitl [Ht1]; · iexact Ht1
  isplitl [Hu2]; · iexact Hu2
  iintro ⟨HO, Hc1⟩
  try dsimp only
  iapply (part18 m K c _ _)
  isplitr; · iexact HI
  isplitl [HO]; · iexact HO
  isplitl [Ha3]; · iexact Ha3
  isplitl [Ha4]; · iexact Ha4
  isplitl [Hr3]; · iexact Hr3
  isplitl [Ht2]; · iexact Ht2
  isplitl [Hu3]; · iexact Hu3
  isplitl [Hr4]; · iexact Hr4
  isplitl [Ht3]; · iexact Ht3
  isplitl [Hu4]; · iexact Hu4
  iintro %a18 ⟨HO, Hc2, Hc3⟩
  try dsimp only
  iapply (part19 m K c _ _ _)
  isplitr; · iexact HI
  isplitl [HO]; · iexact HO
  isplitl [Ha5]; · iexact Ha5
  isplitl [Ha6]; · iexact Ha6
  isplitl [Hr5]; · iexact Hr5
  isplitl [Ht4]; · iexact Ht4
  isplitl [Hu5]; · iexact Hu5
  isplitl [Hr6]; · iexact Hr6
  isplitl [Ht5]; · iexact Ht5
  isplitl [Hu6]; · iexact Hu6
  iintro %a19 %b19 ⟨HO, Hc4, Hc5⟩
  try dsimp only
  iapply (part20 m K c _ _ _ _)
  isplitr; · iexact HI
  isplitl [HO]; · iexact HO
  isplitl [Ha7]; · iexact Ha7
  isplitl [Ha0]; · iexact Ha0
  isplitl [Hr7]; · iexact Hr7
  isplitl [Ht6]; · iexact Ht6
  isplitl [Hu7]; · iexact Hu7
  isplitl [Hr0]; · iexact Hr0
  iintro %a20 %b20 ⟨HO, Ha0, Hr0, Hc6⟩
  try dsimp only
  iapply (part21 m K c _ _ _ _)
  isplitr; · iexact HI
  isplitr; · iexact Hlev
  isplitl [HO]; · iexact HO
  isplitl [Hwr1]; · iexact Hwr1
  isplitl [Hwr2]; · iexact Hwr2
  iintro %a21 %b21 %d21 %e21 ⟨HO, Hr1, Hzr1, Hr2, Hzr2⟩
  try dsimp only
  iapply (part22 m K c _ _ _ _ _ _)
  isplitr; · iexact HI
  isplitr; · iexact Hlev
  isplitl [HO]; · iexact HO
  isplitl [Hwr3]; · iexact Hwr3
  isplitl [Hwr4]; · iexact Hwr4
  iintro %a22 %b22 %d22 ⟨HO, Hr3, Hzr3, Hr4, Hzr4⟩
  try dsimp only
  iapply (part23 m K c _ _ _ _ _)
  isplitr; · iexact HI
  isplitr; · iexact Hlev
  isplitl [HO]; · iexact HO
  isplitl [Hwr5]; · iexact Hwr5
  iintro ⟨HO, Hr5, Hzr5⟩
  try dsimp only
  iapply (part24 m K c _ _)
  isplitr; · iexact HI
  isplitr; · iexact Hlev
  isplitl [HO]; · iexact HO
  isplitl [Hwr6]; · iexact Hwr6
  isplitl [Hwr7]; · iexact Hwr7
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hg0]; · iexact Hg0
  iintro %a24 %b24 ⟨HO, Hrs, Hgd, Hk0, Hk1, Hk2, Hk3, Hk4, Hk5, Hk6, Hzr6, Hzr7⟩
  try dsimp only
  iapply (part25 m K c _ _ _ _)
  isplitr; · iexact HI
  isplitl [HO]; · iexact HO
  isplitl [Hk0]; · iexact Hk0
  isplitl [Hg1]; · iexact Hg1
  isplitl [Ht7]; · iexact Ht7
  isplitl [Hv1]; · iexact Hv1
  iintro ⟨HO, Hc7⟩
  try dsimp only
  iapply (part26 m K c _ _)
  isplitr; · iexact HI
  isplitl [HO]; · iexact HO
  isplitl [Hk1]; · iexact Hk1
  isplitl [Hk2]; · iexact Hk2
  isplitl [Hg2]; · iexact Hg2
  isplitl [Ht8]; · iexact Ht8
  isplitl [Hv2]; · iexact Hv2
  isplitl [Hg3]; · iexact Hg3
  isplitl [Ht9]; · iexact Ht9
  isplitl [Hv3]; · iexact Hv3
  iintro %a26 ⟨HO, Hc8, Hc9⟩
  try dsimp only
  iapply (part27 m K c _ _ _)
  isplitr; · iexact HI
  isplitl [HO]; · iexact HO
  isplitl [Hk3]; · iexact Hk3
  isplitl [Hk4]; · iexact Hk4
  isplitl [Hg4]; · iexact Hg4
  isplitl [Ht10]; · iexact Ht10
  isplitl [Hv4]; · iexact Hv4
  isplitl [Hg5]; · iexact Hg5
  isplitl [Ht11]; · iexact Ht11
  isplitl [Hv5]; · iexact Hv5
  iintro %a27 %b27 ⟨HO, Hc10, Hc11⟩
  try dsimp only
  iapply (part28 m K c _ _ _ _)
  isplitr; · iexact HI
  isplitl [HO]; · iexact HO
  isplitl [Hk5]; · iexact Hk5
  isplitl [Hg6]; · iexact Hg6
  isplitl [Ht12]; · iexact Ht12
  isplitl [Hv6]; · iexact Hv6
  iintro ⟨HO, Hc12⟩
  try dsimp only
  iapply (part29 m K c _ _)
  isplitr; · iexact HI
  isplitr; · iexact Hlev
  isplitl [HO]; · iexact HO
  isplitl [Hk6]; · iexact Hk6
  isplitl [Hg7]; · iexact Hg7
  isplitl [Ht13]; · iexact Ht13
  isplitl [Hv7]; · iexact Hv7
  isplitl [Hwa1]; · iexact Hwa1
  iintro %a29 ⟨HO, Hc13, Hg1, Hza1⟩
  try dsimp only
  iapply (part30 m K c _ _ _)
  isplitr; · iexact HI
  isplitr; · iexact Hlev
  isplitl [HO]; · iexact HO
  isplitl [Hwa2]; · iexact Hwa2
  isplitl [Hwa3]; · iexact Hwa3
  iintro %a30 %b30 %d30 %e30 %g30 ⟨HO, Hg2, Hza2, Hg3, Hza3⟩
  try dsimp only
  iapply (part31 m K c _ _ _ _ _ _ _)
  isplitr; · iexact HI
  isplitr; · iexact Hlev
  isplitl [HO]; · iexact HO
  isplitl [Hwa4]; · iexact Hwa4
  isplitl [Hwa5]; · iexact Hwa5
  iintro %a31 %b31 %d31 %e31 ⟨HO, Hg4, Hza4, Hg5, Hza5⟩
  try dsimp only
  iapply (part32 m K c _ _ _ _ _ _)
  isplitr; · iexact HI
  isplitr; · iexact Hlev
  isplitl [HO]; · iexact HO
  isplitl [Hwa6]; · iexact Hwa6
  iintro ⟨HO, Hg6, Hza6⟩
  try dsimp only
  iapply (part33 m K c _)
  isplitr; · iexact HI
  isplitr; · iexact Hlev
  isplitl [HO]; · iexact HO
  isplitl [Hwa7]; · iexact Hwa7
  isplitl [Hg1]; · iexact Hg1
  isplitl [Hg2]; · iexact Hg2
  isplitl [Hg3]; · iexact Hg3
  isplitl [Hg4]; · iexact Hg4
  isplitl [Hg5]; · iexact Hg5
  isplitl [Hg6]; · iexact Hg6
  isplitl [Hgd]; · iexact Hgd
  isplitl [Hout]; · iexact Hout
  isplitl [Hc0]; · iexact Hc0
  isplitl [Hc1]; · iexact Hc1
  isplitl [Hc2]; · iexact Hc2
  isplitl [Hc3]; · iexact Hc3
  isplitl [Hp0]; · iexact Hp0
  isplitl [Hp1]; · iexact Hp1
  isplitl [Hp2]; · iexact Hp2
  isplitl [Hp3]; · iexact Hp3
  iintro ⟨HO, Hgd, Hg1, Hg2, Hg3, Hg4, Hg5, Hg6, Hg7, Hza7, Hout, Ha1, Ha2, Ha3, Ha4, Hz0, Hz1, Hz2, Hz3⟩
  try dsimp only
  iapply (part34 m K c _)
  isplitr; · iexact HI
  isplitr; · iexact Hlev
  isplitl [HO]; · iexact HO
  isplitl [Hc4]; · iexact Hc4
  isplitl [Hc5]; · iexact Hc5
  isplitl [Hc6]; · iexact Hc6
  isplitl [Hc7]; · iexact Hc7
  isplitl [Hc8]; · iexact Hc8
  isplitl [Hc9]; · iexact Hc9
  isplitl [Hp4]; · iexact Hp4
  isplitl [Hp5]; · iexact Hp5
  isplitl [Hp6]; · iexact Hp6
  isplitl [Hp7]; · iexact Hp7
  isplitl [Hp8]; · iexact Hp8
  isplitl [Hp9]; · iexact Hp9
  iintro ⟨HO, Ha5, Ha6, Ha7, Hk0, Hk1, Hk2, Hz4, Hz5, Hz6, Hz7, Hz8, Hz9⟩
  try dsimp only
  iapply (step_sndWait2 m K c 10 3 rfl ss10) $$ [HO Hc10 Hp10]
  · isplitr; · iexact HI
    isplitr; · iexact Hlev
    isplitl [HO]; · iexact HO
    isplitl [Hc10]; · iexact Hc10
    iexact Hp10
  iintro ⟨HO, Hk3, Hz10⟩
  iapply (run_ret c)
  try dsimp only
  iapply (step_sndWait2 m K c 11 4 rfl ss11) $$ [HO Hc11 Hp11]
  · isplitr; · iexact HI
    isplitr; · iexact Hlev
    isplitl [HO]; · iexact HO
    isplitl [Hc11]; · iexact Hc11
    iexact Hp11
  iintro ⟨HO, Hk4, Hz11⟩
  iapply (run_ret c)
  try dsimp only
  iapply (step_sndWait2 m K c 12 5 rfl ss12) $$ [HO Hc12 Hp12]
  · isplitr; · iexact HI
    isplitr; · iexact Hlev
    isplitl [HO]; · iexact HO
    isplitl [Hc12]; · iexact Hc12
    iexact Hp12
  iintro ⟨HO, Hk5, Hz12⟩
  iapply (run_ret c)
  try dsimp only
  iapply (run_ret c)
  try dsimp only
  iapply (step_sndWait2 m K c 13 6 rfl ss13) $$ [HO Hc13 Hp13]
  · isplitr; · iexact HI
    isplitr; · iexact Hlev
    isplitl [HO]; · iexact HO
    isplitl [Hc13]; · iexact Hc13
    iexact Hp13
  iintro ⟨HO, Hk6, Hz13⟩
  iapply (run_ret c)
  try dsimp only
  iapply (run_ret c)
  try dsimp only
  ihave Hgd := (Entails.of_eq (ag_deal c (Transfers.shareDrop fullShare 7) (agB m))) $$ Hgd
  icases Hgd with ⟨Hd0, Hd1, Hd2, Hd3, Hd4, Hd5, Hd6, Hd7⟩
  ihave Hg0 := (ag_toks m c c).2 $$ [Hd0 Hk0 Hk1 Hk2 Hk3 Hk4 Hk5 Hk6]
  · isplitl [Hd0]; · iexact Hd0
    unfold agT
    isplitl [Hk0]; · iexact Hk0
    isplitl [Hk1]; · iexact Hk1
    isplitl [Hk2]; · iexact Hk2
    isplitl [Hk3]; · iexact Hk3
    isplitl [Hk4]; · iexact Hk4
    isplitl [Hk5]; · iexact Hk5
    iexact Hk6
  ihave Hg1 := (ag_toks m c (pr c 1)).2 $$ [Hd1 Hg1]
  · isplitl [Hd1]; · iexact Hd1
    iexact Hg1
  ihave Hg2 := (ag_toks m c (pr c 2)).2 $$ [Hd2 Hg2]
  · isplitl [Hd2]; · iexact Hd2
    iexact Hg2
  ihave Hg3 := (ag_toks m c (pr c 3)).2 $$ [Hd3 Hg3]
  · isplitl [Hd3]; · iexact Hd3
    iexact Hg3
  ihave Hg4 := (ag_toks m c (pr c 4)).2 $$ [Hd4 Hg4]
  · isplitl [Hd4]; · iexact Hd4
    iexact Hg4
  ihave Hg5 := (ag_toks m c (pr c 5)).2 $$ [Hd5 Hg5]
  · isplitl [Hd5]; · iexact Hd5
    iexact Hg5
  ihave Hg6 := (ag_toks m c (pr c 6)).2 $$ [Hd6 Hg6]
  · isplitl [Hd6]; · iexact Hd6
    iexact Hg6
  ihave Hg7 := (ag_toks m c (pr c 7)).2 $$ [Hd7 Hg7]
  · isplitl [Hd7]; · iexact Hd7
    iexact Hg7
  ihave Hag := (Entails.of_eq (ag_deal c fullShare (agB m)).symm) $$ [Hg0 Hg1 Hg2 Hg3 Hg4 Hg5 Hg6 Hg7]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    iexact Hg7
  ihave Hacc := (Entails.of_eq (acc_deal c (accB m c)).symm) $$ [Ha0 Ha1 Ha2 Ha3 Ha4 Ha5 Ha6 Ha7]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    iexact Ha7
  ihave Hkb0 := (kFull_idle m c 0 6) $$ Hkb0
  ihave Hkb1 := (kFull_idle m c 1 7) $$ Hkb1
  ihave Hvb0 := (vFull_idle m c 0 6) $$ Hvb0
  ihave Hvb1 := (vFull_idle m c 1 7) $$ Hvb1
  unfold bodyOut
  isplitl [HO]; · iexact HO
  isplitl [Hx]; · iexact Hx
  isplitl [Hw]; · iexact Hw
  isplitl [Hwo]; · iexact Hwo
  isplitl [Hkb0]; · iexact Hkb0
  isplitl [Hkb1]; · iexact Hkb1
  isplitl [Hvb0]; · iexact Hvb0
  isplitl [Hvb1]; · iexact Hvb1
  isplitl [Hzb]; · iexact Hzb
  isplitl [Hacc]; · iexact Hacc
  isplitl [Hrs]; · iexact Hrs
  isplitl [Hag]; · iexact Hag
  isplitl [Hz0 Hz1 Hz2 Hz3 Hz4 Hz5 Hz6 Hz7 Hz8 Hz9 Hz10 Hz11 Hz12 Hz13]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    iexact Hz13
  isplitl [Hzr1 Hzr2 Hzr3 Hzr4 Hzr5 Hzr6 Hzr7]
  · isplitl [Hzr1]; · iexact Hzr1
    isplitl [Hzr2]; · iexact Hzr2
    isplitl [Hzr3]; · iexact Hzr3
    isplitl [Hzr4]; · iexact Hzr4
    isplitl [Hzr5]; · iexact Hzr5
    isplitl [Hzr6]; · iexact Hzr6
    iexact Hzr7
  isplitl [Hza1 Hza2 Hza3 Hza4 Hza5 Hza6 Hza7]
  · isplitl [Hza1]; · iexact Hza1
    isplitl [Hza2]; · iexact Hza2
    isplitl [Hza3]; · iexact Hza3
    isplitl [Hza4]; · iexact Hza4
    isplitl [Hza5]; · iexact Hza5
    isplitl [Hza6]; · iexact Hza6
    iexact Hza7
  iexact Hout

end Cert.KernelIdeal.Pf

end
-- ==== Proof.Frame.lean ====
/-
# The body as the pipeline asks for it

From what the launch gives a device to what the body starts with, and from what the body ends with to what the launch
takes back.
-/
module

public import proofs.«01_k».proof.Proof.Body
public import proofs.«01_k».proof.Proof.Gen.KernelIdeal.Launch
public import Idealize.ShloMosaic.Lib.Ring

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Rearrangements -/

theorem around7 (c : Dev nD) (Φ : Fin 8 → sProp 𝕄) : bigSep Finset.univ Φ = iprop(Φ c ∗ all7 (fun k => Φ (pr c k))) := around c Φ

theorem all7_zip (A B : ℕ → sProp 𝕄) : iprop(all7 A ∗ all7 B) ⊢ all7 (fun k => iprop(A k ∗ B k)) := by
  unfold all7
  iintro ⟨⟨A1, A2, A3, A4, A5, A6, A7⟩, B1, B2, B3, B4, B5, B6, B7⟩
  isplitl [A1 B1]; · isplitl [A1] <;> iassumption
  isplitl [A2 B2]; · isplitl [A2] <;> iassumption
  isplitl [A3 B3]; · isplitl [A3] <;> iassumption
  isplitl [A4 B4]; · isplitl [A4] <;> iassumption
  isplitl [A5 B5]; · isplitl [A5] <;> iassumption
  isplitl [A6 B6]; · isplitl [A6] <;> iassumption
  isplitl [A7] <;> iassumption

theorem all7_mono {A B : ℕ → sProp 𝕄} (h : ∀ k, A k ⊢ B k) : all7 A ⊢ all7 B := by
  unfold all7
  exact BI.sep_mono (h 1) (BI.sep_mono (h 2) (BI.sep_mono (h 3) (BI.sep_mono (h 4) (BI.sep_mono (h 5) (BI.sep_mono (h 6) (h 7))))))

theorem bigSep_14 (Φ : Fin 14 → sProp 𝕄) : bigSep Finset.univ Φ = all14 Φ :=
  bigSep_univ_eq_bigSepL [0, 1, 2, 3, 4, 5, 6, 7, 8, 9, 10, 11, 12, 13] (by decide) (by decide) Φ
theorem bigSep_4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_2 (Φ : Fin 2 → sProp 𝕄) : bigSep Finset.univ Φ = iprop(Φ 0 ∗ Φ 1) :=
  bigSep_univ_eq_bigSepL [0, 1] (by decide) (by decide) Φ
/-- A device's cells, kind by kind. -/
theorem bigSep_ck (Φ : Ck → sProp 𝕄) : bigSep Finset.univ Φ
    = iprop(Φ Ck.bar ∗ (bigSep Finset.univ fun j => Φ (Ck.snd j)) ∗ (bigSep Finset.univ fun s => Φ (Ck.rs s)) ∗ bigSep Finset.univ fun s => Φ (Ck.ag s)) := by
  have e : (Finset.univ : Finset Ck).erase none = Finset.univ.map Function.Embedding.some := by
    ext x; cases x <;> simp
  rw [bigSep_univ_at Φ none, e, bigSep_map, bigSep_univ_sum, bigSep_univ_sum]
  rfl

/-! ## A buffer whole, and in its two halves; an array whole, and in its two shares -/

theorem halves_univ : (Finset.univ : Finset (Fin 2)).biUnion halfS = Finset.univ := by
  ext i; simp only [Finset.mem_biUnion, Finset.mem_univ, true_and, iff_true]
  exact ⟨i 0, (mem_halfS _ _).2 rfl⟩
theorem halves_disj : ∀ b b', b ≠ b' → Disjoint (halfS b) (halfS b') := by
  intro s t hst; rw [Finset.disjoint_left]; intro i hs ht
  exact hst (Fin.ext (((mem_halfS _ _).1 hs).symm.trans ((mem_halfS _ _).1 ht)))

abbrev kAll (c : Dev nD) (f : Buf (Elt F) ((c : Thread nD τ).loc cc0_scratch0)) : sProp 𝕄 := (c : Thread nD τ).loc cc0_scratch0 ↦{fullShare} f
abbrev vAll (c : Dev nD) (f : Buf (Elt F) ((c : Thread nD τ).loc cc0_scratch1)) : sProp 𝕄 := (c : Thread nD τ).loc cc0_scratch1 ↦{fullShare} f

theorem k_deal (c : Dev nD) (f : Buf (Elt F) ((c : Thread nD τ).loc cc0_scratch0)) : kAll c f = iprop(kPt c 0 f ∗ kPt c 1 f) :=
  (Ring.pointsTo_blocks (ℓ := (c : Thread nD τ).loc cc0_scratch0) halfS halves_disj halves_univ f).trans (bigSep_2 _)
theorem v_deal (c : Dev nD) (f : Buf (Elt F) ((c : Thread nD τ).loc cc0_scratch1)) : vAll c f = iprop(vPt c 0 f ∗ vPt c 1 f) :=
  (Ring.pointsTo_blocks (ℓ := (c : Thread nD τ).loc cc0_scratch1) halfS halves_disj halves_univ f).trans (bigSep_2 _)
include m in
theorem k_join (c : Dev nD) : iprop((∃ f, kPt (F := F) c 0 f) ∗ ∃ f, kPt (F := F) c 1 f) ⊢ iprop(∃ f, kAll c f) :=
  (Entails.of_eq (bigSep_2 (fun b => iprop(∃ f, kPt (F := F) c b f))).symm).trans
    (Ring.pointsTo_blocks_join_exists (ℓ := (c : Thread nD τ).loc cc0_scratch0) halfS halves_disj halves_univ (kbuf m c 0))
include m in
theorem v_join (c : Dev nD) : iprop((∃ f, vPt (F := F) c 0 f) ∗ ∃ f, vPt (F := F) c 1 f) ⊢ iprop(∃ f, vAll c f) :=
  (Entails.of_eq (bigSep_2 (fun b => iprop(∃ f, vPt (F := F) c b f))).symm).trans
    (Ring.pointsTo_blocks_join_exists (ℓ := (c : Thread nD τ).loc cc0_scratch1) halfS halves_disj halves_univ (vbuf m c 0))

/-- The arrays of keys and of values of device `c`, as at launch. -/
def exts (c : Dev nD) : sProp 𝕄 :=
  iprop(((c : Thread nD τ).loc main_arg3 ↦{fullShare} m ((c : Thread nD τ).loc main_arg3))
    ∗ ((c : Thread nD τ).loc main_arg4 ↦{fullShare} m ((c : Thread nD τ).loc main_arg4)))

theorem exts_split (c : Dev nD) : exts m c ⊢ iprop((kSrc m c 0 ∗ kSrc m c 1) ∗ (vSrc m c 0 ∗ vSrc m c 1)) := by
  unfold exts
  exact BI.sep_mono (pointsTo_share (PosShare.mem_left_op_right fullShare)).1 (pointsTo_share (PosShare.mem_left_op_right fullShare)).1
theorem exts_join (c : Dev nD) : iprop((kSrc m c 0 ∗ kSrc m c 1) ∗ (vSrc m c 0 ∗ vSrc m c 1)) ⊢ exts m c := by
  unfold exts
  exact BI.sep_mono (pointsTo_share (PosShare.mem_left_op_right fullShare)).2 (pointsTo_share (PosShare.mem_left_op_right fullShare)).2

/-! ## What a device starts with, and what it leaves -/

/-- The kernel's own semaphores: the local copies', the send, the scatter and the gather semaphores. -/
abbrev osem : Fin 4 ⊕ (Fin 14 ⊕ (Fin 8 ⊕ Fin 8)) → SemLoc sig
  | .inl j => .dma (copS j)
  | .inr (.inl j) => .dma (sndS j)
  | .inr (.inr (.inl s)) => .dma (rsS s)
  | .inr (.inr (.inr s)) => .dma (agS s)

/-- The duty tokens of the duties device `c` itself pays. -/
def payToks (c : Dev nD) : sProp 𝕄 :=
  iprop((bigSep Finset.univ fun s : Dev nD => dutyTok ER (barCell s) 0 c) ∗ (bigSep Finset.univ fun j : Fin 14 => dutyTok ER (sndCell c j) 0 (0 : Fin 8))
    ∗ (bigSep Finset.univ fun s : Dev nD => dutyTok ER (rsCell s c) 0 (0 : Fin 8)) ∗ (bigSep Finset.univ fun s : Dev nD => dutyTok ER (agCell s c) 0 (0 : Fin 8)))

/-- Its positions at its own cells, its tokens, and the local copies' semaphores. -/
def linear (c : Dev nD) : sProp 𝕄 :=
  iprop((bigSep Finset.univ fun j : Fin 4 => semVal (copCell c j) 0) ∗ (bigSep Finset.univ fun k : Ck => atPos ER (kcell (c, k)) 0 ∅ 0) ∗ payToks c)

/-- The credit its own cells are launched with. -/
def credits (c : Dev nD) : sProp 𝕄 :=
  iprop(cred (tallyAt (barCell c) () 7) ∗ all7 (fun k => cred (tallyAt (rsCell c (pr c k)) () N)) ∗ all7 (fun k => cred (tallyAt (agCell c (pr c k)) () N)))

def ghost (c : Dev nD) : sProp 𝕄 := iprop(∃ K : Dev nD × Ck → ℕ, records m K ∗ linear c)

def start (c : Dev nD) : sProp 𝕄 := iprop(ghost m c ∗ credits c ∗ levAts L lv ∗ exts m c)

abbrev scratch (c : Dev nD) : sProp 𝕄 := Pipeline.scopedRest (Ix := Unit) (Name := ℕ) (U := UU) (Lvl := ℕ) (Val := Elt F) (τ := τ) cfg0.spec c

/-- Before the body and after it. -/
def Φ₀ (c : Dev nD) : sProp 𝕄 := iprop(start m c ∗ scratch c)
def Φ₁ (c : Dev nD) : sProp 𝕄 :=
  iprop((unscopedSems0 c ∗ exts m c) ∗ Pipeline.ownSems0 (Ix := Unit) (Name := ℕ) (U := UU) (Lvl := ℕ) (Val := Elt F) (τ := τ) osem c ∗ scratch c)

theorem ownSems0_eq (c : Dev nD) : (Pipeline.ownSems0 (Ix := Unit) (Name := ℕ) (U := UU) (Lvl := ℕ) (Val := Elt F) (τ := τ) osem c : sProp 𝕄)
    = iprop((bigSep Finset.univ fun j : Fin 4 => semVal (copCell c j) 0) ∗ (bigSep Finset.univ fun j : Fin 14 => semVal (sndCell c j) 0)
      ∗ (bigSep Finset.univ fun s : Fin 8 => semVal (rsCell c s) 0) ∗ (bigSep Finset.univ fun s : Fin 8 => semVal (agCell c s) 0)) := by
  unfold Pipeline.ownSems0
  rw [bigSep_univ_sum, bigSep_univ_sum, bigSep_univ_sum]; rfl
/-- The barrier semaphore is the one semaphore not scoped to the launch. -/
theorem unscopedSems0_eq (c : Dev nD) : (unscopedSems0 c : sProp 𝕄) = semVal (barCell c) 0 := by
  unfold unscopedSems0; rw [bigSep_eq_bigSepL_of_eq [SemLoc.reg barS] (by decide) (by decide)]; rfl

set_option maxHeartbeats 4000000 in
theorem enter (K : Dev nD × Ck → ℕ) (c : Dev nD) :
    iprop(records m K ∗ linear c ∗ credits c ∗ levAts L lv ∗ exts m c ∗ scratch c ∗ Owes c (OB c 7) ∗ xPt m c ∗ wqPt m c ∗ woPt m c ∗ (∃ f, outPt (F := F) c f))
      ⊢ iprop(bodyIn m K c ∗ atPos ER (rsCell c c) 0 ∅ 0 ∗ atPos ER (agCell c c) 0 ∅ 0) := by
  unfold linear payToks credits scratch
  rw [scopedRest0_eq, bigSep_ck, bigSep_4, bigSep_14, bigSep_14, around7 c (fun s => atPos ER (kcell (c, Ck.rs s)) 0 ∅ 0), around7 c (fun s => atPos ER (kcell (c, Ck.ag s)) 0 ∅ 0),
    around7 c (fun s => dutyTok ER (barCell s) 0 c), around7 c (fun s => dutyTok ER (rsCell s c) 0 0), around7 c (fun s => dutyTok ER (agCell s c) 0 0)]
  iintro ⟨#HI, ⟨⟨Hc0, Hc1, Hc2, Hc3⟩, ⟨Hbar, Hsnd, ⟨Hr0, Hrs⟩, Hg0, Hag⟩, ⟨-, Htb⟩, Hts, ⟨-, Htr⟩, -, Htg⟩, ⟨Hcb, Hcr, Hcg⟩, #Hlev, Hext, ⟨⟨%f0, Hk⟩, ⟨%f1, Hv⟩, Hacc, ⟨%f3, Hrsb⟩, %f4, Hagb⟩, HO, Hx, Hwq, Hwo, Hout⟩
  ihave Hext := (exts_split m c) $$ Hext
  icases Hext with ⟨⟨Hk0, Hk1⟩, Hv0, Hv1⟩
  ihave Hk := (Entails.of_eq (k_deal c f0)) $$ Hk
  icases Hk with ⟨Hkb0, Hkb1⟩
  ihave Hv := (Entails.of_eq (v_deal c f1)) $$ Hv
  icases Hv with ⟨Hvb0, Hvb1⟩
  ihave Hrsb := (Entails.of_eq (rs_deal c f3)) $$ Hrsb
  icases Hrsb with ⟨Hrown, Hrsb⟩
  ihave Hagb := (Entails.of_eq (ag_deal c fullShare f4)) $$ Hagb
  icases Hagb with ⟨Hgown, Hagb⟩
  ihave Hrsb := (all7_mono (A := fun k => rsPt c (pr c k) f3) (B := fun k => iprop(∃ f, rsPt (F := F) c (pr c k) f)) fun k => by iintro H; iexists _; iexact H) $$ Hrsb
  ihave Hagb := (all7_mono (A := fun k => agPt c (pr c k) fullShare f4) (B := fun k => iprop(∃ f, agPt (F := F) c (pr c k) fullShare f)) fun k => by iintro H; iexists _; iexact H) $$ Hagb
  ihave Hpieces := (all7_zip (fun k => iprop(∃ f, rsPt (F := F) c (pr c k) f)) (fun k => iprop(∃ f, agPt (F := F) c (pr c k) fullShare f))) $$ [Hrsb Hagb]
  · isplitl [Hrsb]; · iexact Hrsb
    iexact Hagb
  ihave Hsig := (all7_zip (fun k => dutyTok ER (barCell (pr c k)) 0 c) (fun k => iprop((∃ f, rsPt (F := F) c (pr c k) f) ∗ (∃ f, agPt (F := F) c (pr c k) fullShare f)))) $$ [Htb Hpieces]
  · isplitl [Htb]; · iexact Htb
    iexact Hpieces
  ihave Hwr := (all7_zip (fun k => cred (tallyAt (rsCell c (pr c k)) () N)) (fun k => atPos ER (rsCell c (pr c k)) 0 ∅ 0)) $$ [Hcr Hrs]
  · isplitl [Hcr]; · iexact Hcr
    iexact Hrs
  ihave Hwa := (all7_zip (fun k => cred (tallyAt (agCell c (pr c k)) () N)) (fun k => atPos ER (agCell c (pr c k)) 0 ∅ 0)) $$ [Hcg Hag]
  · isplitl [Hcg]; · iexact Hcg
    iexact Hag
  unfold bodyIn kIdle vIdle
  isplitr [Hr0 Hg0]
  · isplitr; · iexact HI
    isplitr; · iexact Hlev
    isplitl [HO]; · iexact HO
    isplitl [Hsig]; · unfold sigRes; iexact Hsig
    isplitl [Hcb]; · iexact Hcb
    isplitl [Hbar]; · iexact Hbar
    isplitl [Hx]; · iexact Hx
    isplitl [Hwq]; · iexact Hwq
    isplitl [Hwo]; · iexact Hwo
    isplitl [Hacc]; · iexact Hacc
    isplitl [Hk0 Hkb0 Hc0]
    · isplitl [Hk0]; · iexact Hk0
      isplitl [Hkb0]; · iexists f0; iexact Hkb0
      iexact Hc0
    isplitl [Hk1 Hkb1 Hc1]
    · isplitl [Hk1]; · iexact Hk1
      isplitl [Hkb1]; · iexists f0; iexact Hkb1
      iexact Hc1
    isplitl [Hv0 Hvb0 Hc2]
    · isplitl [Hv0]; · iexact Hv0
      isplitl [Hvb0]; · iexists f1; iexact Hvb0
      iexact Hc2
    isplitl [Hv1 Hvb1 Hc3]
    · isplitl [Hv1]; · iexact Hv1
      isplitl [Hvb1]; · iexists f1; iexact Hvb1
      iexact Hc3
    isplitl [Hsnd]; · iexact Hsnd
    isplitl [Hts]; · iexact Hts
    isplitl [Htr]; · iexact Htr
    isplitl [Htg]; · iexact Htg
    isplitl [Hwr]; · unfold waitTok; iexact Hwr
    isplitl [Hwa]; · unfold waitTok; iexact Hwa
    isplitl [Hrown]; · iexists f3; iexact Hrown
    isplitl [Hgown]; · iexists f4; iexact Hgown
    iexact Hout
  isplitl [Hr0]; · iexact Hr0
  iexact Hg0

set_option maxHeartbeats 4000000 in
theorem leave (c : Dev nD) :
    iprop(bodyOut m c ∗ semVal (rsCell c c) 0 ∗ semVal (agCell c c) 0)
      ⊢ iprop(Owes c 0 ∗ xPt m c ∗ wqPt m c ∗ woPt m c ∗ outPt c (outv m) ∗ Φ₁ m c) := by
  unfold bodyOut Φ₁ kIdle vIdle scratch
  rw [scopedRest0_eq, ownSems0_eq, unscopedSems0_eq, bigSep_4, bigSep_14, around7 c (fun s => semVal (rsCell c s) 0), around7 c (fun s => semVal (agCell c s) 0)]
  iintro ⟨⟨HO, Hx, Hwq, Hwo, ⟨Hk0, Hkb0, Hc0⟩, ⟨Hk1, Hkb1, Hc1⟩, ⟨Hv0, Hvb0, Hc2⟩, ⟨Hv1, Hvb1, Hc3⟩, Hbar, Hacc, Hrs, Hag, Hs, Hzr, Hzg, Hout⟩, Hr0, Hg0⟩
  ihave Hk := (k_join m c) $$ [Hkb0 Hkb1]
  · isplitl [Hkb0]; · iexact Hkb0
    iexact Hkb1
  ihave Hv := (v_join m c) $$ [Hvb0 Hvb1]
  · isplitl [Hvb0]; · iexact Hvb0
    iexact Hvb1
  ihave Hext := (exts_join m c) $$ [Hk0 Hk1 Hv0 Hv1]
  · isplitl [Hk0 Hk1]
    · isplitl [Hk0]; · iexact Hk0
      iexact Hk1
    isplitl [Hv0]; · iexact Hv0
    iexact Hv1
  isplitl [HO]; · iexact HO
  isplitl [Hx]; · iexact Hx
  isplitl [Hwq]; · iexact Hwq
  isplitl [Hwo]; · iexact Hwo
  isplitl [Hout]; · iexact Hout
  isplitl [Hbar Hext]
  · isplitl [Hbar]; · iexact Hbar
    iexact Hext
  isplitl [Hc0 Hc1 Hc2 Hc3 Hs Hzr Hzg Hr0 Hg0]
  · isplitl [Hc0 Hc1 Hc2 Hc3]
    · isplitl [Hc0]; · iexact Hc0
      isplitl [Hc1]; · iexact Hc1
      isplitl [Hc2]; · iexact Hc2
      iexact Hc3
    isplitl [Hs]; · iexact Hs
    isplitl [Hr0 Hzr]
    · isplitl [Hr0]; · iexact Hr0
      iexact Hzr
    isplitl [Hg0]; · iexact Hg0
    iexact Hzg
  isplitl [Hk]; · iexact Hk
  isplitl [Hv]; · iexact Hv
  isplitl [Hacc]; · iexists _; iexact Hacc
  isplitl [Hrs]; · iexists _; iexact Hrs
  iexists _; iexact Hag

/-! ## The body's obligation -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wqstg m c
    | ⟨2, _⟩ => wostg m c
    | ⟨3, _⟩ => outv m
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 4)).fetch t = true := by rw [fin_N0 t]; rfl
theorem fetch_1 (t : Fin cfg0.N) : (cfg0.win (1 : Fin 4)).fetch t = true := by rw [fin_N0 t]; rfl
theorem fetch_2 (t : Fin cfg0.N) : (cfg0.win (2 : Fin 4)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
def bodyPost (c : Dev nD) : sProp 𝕄 :=
  iprop(Φ₁ m c ∗ (dats m 0 c).owesAt () t0_0.succ ∗ stg c cc0_stg0_0 (xstg m c) ∗ stg c cc0_stg1_0 (wqstg m c) ∗ stg c cc0_stg2_0 (wostg m c)
    ∗ stg c cc0_stg3_0 (outv m))

/-- What `leave` gives is what the pipeline asks for. -/
theorem leave_post (c : Dev nD) :
    iprop(bodyOut m c ∗ semVal (rsCell c c) 0 ∗ semVal (agCell c c) 0) ⊢ bodyPost m c := by
  refine (leave m c).trans ?_
  unfold bodyPost Owes Dat.owesAt Pipeline.owesWithin
  iintro ⟨⟨%W, HO⟩, Hx, Hwq, Hwo, Hout, HΦ⟩
  isplitl [HΦ]; · iexact HΦ
  isplitl [HO]
  · iexists W
    isplitr; · ipureintro; exact fun _ _ => Or.inl trivial
    iexact HO
  isplitl [Hx]; · iexists _; isplitr; · (ipureintro; rfl)
                  iexact Hx
  isplitl [Hwq]; · iexists _; isplitr; · (ipureintro; rfl)
                   iexact Hwq
  isplitl [Hwo]; · iexists _; isplitr; · (ipureintro; rfl)
                   iexact Hwo
  iexists _; isplitr; · (ipureintro; rfl)
  iexact Hout

set_option maxRecDepth 16000 in
set_option maxHeartbeats 4000000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ run c (cc0_body (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) (fun _ => bodyPost m c)
  unfold bodyPre Φ₀ start ghost
  iintro ⟨⟨⟨⟨%K, #HI, Hlin⟩, Hcr, #Hlev, Hext⟩, Hscr⟩, Ho, ⟨%d0, %g0, %hg0, Hx⟩, ⟨%d1, %g1, %hg1, Hwq⟩, ⟨%d2, %g2, %hg2, Hwo⟩, ⟨%d3, %g3, -, Hout⟩⟩
  have hx : g0 = xstg m c := by rw [hg0]; unfold Dat.before; rw [if_pos (fetch_0 t0_0)]; rfl
  have hwq : g1 = wqstg m c := by rw [hg1]; unfold Dat.before; rw [if_pos (fetch_1 t0_0)]; rfl
  have hwo : g2 = wostg m c := by rw [hg2]; unfold Dat.before; rw [if_pos (fetch_2 t0_0)]; rfl
  subst hx hwq hwo
  unfold Dat.owesAt Pipeline.owesWithin
  icases Ho with ⟨%W, %hW, HO⟩
  rw [show (dats m 0 c).owed t0_0.castSucc = OB c 7 from rfl]
  ihave H := (enter m K c) $$ [Hlin Hcr Hext Hscr HO Hx Hwq Hwo Hout]
  · isplitr; · iexact HI
    isplitl [Hlin]; · iexact Hlin
    isplitl [Hcr]; · iexact Hcr
    isplitr; · iexact Hlev
    isplitl [Hext]; · iexact Hext
    isplitl [Hscr]; · iexact Hscr
    isplitl [HO]; · unfold Owes; iexists W; iexact HO
    isplitl [Hx]; · iexact Hx
    isplitl [Hwq]; · iexact Hwq
    isplitl [Hwo]; · iexact Hwo
    iexists g3; iexact Hout
  icases H with ⟨Hin, Hr0, Hg0⟩
  imod (Rounds.cell_close ER (exRd m) (Set.mem_univ (K (c, Ck.rs c))) (fun h => h) (R := 0) (fun r _ => duties_rs_own m c r)) $$ [Hr0] with Hzr
  · isplitr; · iapply (inv_at m K c (Ck.rs c) rfl); iexact HI
    iexact Hr0
  imod (Rounds.cell_close ER (exRd m) (Set.mem_univ (K (c, Ck.ag c))) (fun h => h) (R := 0) (fun r _ => duties_ag_own m c r)) $$ [Hg0] with Hzg
  · isplitr; · iapply (inv_at m K c (Ck.ag c) rfl); iexact HI
    iexact Hg0
  ihave Hrun := (body_run m K c) $$ Hin
  iapply (wp_wand_r frame (wpE (defs₀ (F := F)) 𝒱₀ (c : Thread nD τ) none) Set.univ)
  isplitl [Hrun]; · iexact Hrun
  iintro %a Hpost
  iapply (leave_post m c)
  isplitl [Hpost]; · iexact Hpost
  isplitl [Hzr]; · iexact Hzr
  iexact Hzg

end Cert.KernelIdeal.Pf

end
-- ==== Proof.Launch.lean ====
/-
# The launch

All devices' cells are made at once; each device gets the positions of its own cells and the tokens of the duties it
pays; the credit of each cell is what the peers owe it. Then the launch theorem gives the run of all eight kernels.
-/
module

public import proofs.«01_k».proof.Proof.Frame
public import Idealize.ShloMosaic.Lib.Pipeline.CollectiveSegs
public import Idealize.ShloMosaic.Lib.Pipeline.ValueKit.Geometry

@[expose] public section

noncomputable section

namespace Cert.KernelIdeal.Pf

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m 0 c).share w = fullShare := by unfold Dat.share; split <;> rfl

/-! ## The cells and the tokens at launch -/

theorem csem_injective : Function.Injective csem := by decide +kernel

theorem kcell_injective : Function.Injective (kcell : Dev nD × Ck → GSem nD τ sig) := by
  rintro ⟨c, k⟩ ⟨c', k'⟩ h
  have h1 : c = c' := congrArg (fun g : GSem nD τ sig => g.1.1) h
  exact Prod.ext h1 (csem_injective (congrArg Prod.snd h))
def exCells : Finset (GSem nD τ sig) := Finset.univ.map ⟨kcell, kcell_injective⟩

/-- The duties of a device's cells: the barrier's eight, and one of each other cell. -/
abbrev Tk : Type := Fin 8 ⊕ (Fin 14 ⊕ (Fin 8 ⊕ Fin 8))
abbrev tkCell : Tk → Ck × Fin 8
  | .inl s => (Ck.bar, s)
  | .inr k => (some k, 0)
theorem tkCell_injective : Function.Injective tkCell := by
  rintro (s | k) (s' | k') h
  · exact congrArg Sum.inl (congrArg Prod.snd h)
  · exact nomatch (congrArg Prod.fst h)
  · exact nomatch (congrArg Prod.fst h)
  · exact congrArg Sum.inr (Option.some.inj (congrArg Prod.fst h))
abbrev tokOf (ct : Dev nD × Tk) : GSem nD τ sig × ℕ × Fin 8 := (kcell (ct.1, (tkCell ct.2).1), 0, (tkCell ct.2).2)
theorem tokOf_injective : Function.Injective tokOf := by
  rintro ⟨c, t⟩ ⟨c', t'⟩ h
  have h1 := kcell_injective (congrArg (fun x : GSem nD τ sig × ℕ × Fin 8 => x.1) h)
  have h2 := congrArg (fun x : GSem nD τ sig × ℕ × Fin 8 => x.2.2) h
  have e1 : c = c' := congrArg (fun x : Dev nD × Ck => x.1) h1
  have e2 : (tkCell t).1 = (tkCell t').1 := congrArg (fun x : Dev nD × Ck => x.2) h1
  exact Prod.ext e1 (tkCell_injective (Prod.ext e2 h2))
def exToks : Finset (GSem nD τ sig × ℕ × Fin 8) := Finset.univ.map ⟨tokOf, tokOf_injective⟩

def u₀ : UU := (initOf (Pipeline.cells cfgs cellOf_inj) (Pipeline.launchToks cfgs cellOf_inj), (initOf exCells exToks, 1))

theorem u_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The duty tokens of device `c`'s own cells. -/
def toks (c : Dev nD) : sProp 𝕄 :=
  iprop((bigSep Finset.univ fun s : Dev nD => dutyTok ER (barCell c) 0 s) ∗ (bigSep Finset.univ fun j : Fin 14 => dutyTok ER (sndCell c j) 0 (0 : Fin 8))
    ∗ (bigSep Finset.univ fun s : Dev nD => dutyTok ER (rsCell c s) 0 (0 : Fin 8)) ∗ (bigSep Finset.univ fun s : Dev nD => dutyTok ER (agCell c s) 0 (0 : Fin 8)))

/-- What the launch deals device `c`. -/
def G (c : Dev nD) : sProp 𝕄 :=
  iprop((bigSep Finset.univ fun k : Ck => roundState ER (exRd m) (kcell (c, k)) 0)
    ∗ (bigSep Finset.univ fun k : Ck => atPos ER (kcell (c, k)) 0 ∅ 0) ∗ (bigSep Finset.univ fun k : Ck => reached ER (kcell (c, k)) 0) ∗ toks c)

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Ck => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum, bigSep_univ_sum]; rfl
  iintro HX
  imod (Rounds.fund ER (exRd m) exCells exToks) $$ HX with ⟨Hst, Hr, Hat, Htok⟩
  imodintro
  ihave Hst' := (Entails.of_eq (hX fun g => roundState ER (exRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## All devices' cells at once -/

abbrev own0 (c : Dev nD) : sProp 𝕄 := Pipeline.ownSems0 (Ix := Unit) (Name := ℕ) (U := UU) (Lvl := ℕ) (Val := Elt F) (τ := τ) osem c
abbrev cops (c : Dev nD) : sProp 𝕄 := bigSep Finset.univ fun j : Fin 4 => semVal (copCell c j) 0

theorem sems0_eq (c : Dev nD) :
    iprop(own0 (F := F) c ∗ unscopedSems0 c) ⊢ iprop(cops c ∗ bigSep Finset.univ fun k : Ck => semVal (kcell (c, k)) 0) := by
  unfold own0
  rw [ownSems0_eq, unscopedSems0_eq, bigSep_ck]
  iintro ⟨⟨Hc, Hs, Hr, Hg⟩, HB⟩
  isplitl [Hc]; · iexact Hc
  isplitl [HB]; · iexact HB
  isplitl [Hs]; · iexact Hs
  isplitl [Hr]; · iexact Hr
  iexact Hg

/-- Device `c`'s share of the exchange, its invariants just made. -/
def made (c : Dev nD) : sProp 𝕄 :=
  iprop((bigSep Finset.univ fun k : Ck => iprop(∃ κ : ℕ, cellInv ER (exRd m) κ (kcell (c, k))))
    ∗ (bigSep Finset.univ fun k : Ck => reached ER (kcell (c, k)) 0)
    ∗ cops c ∗ (bigSep Finset.univ fun k : Ck => atPos ER (kcell (c, k)) 0 ∅ 0) ∗ toks c)

theorem core_alloc (c : Dev nD) : iprop(own0 (F := F) c ∗ unscopedSems0 c ∗ G m c) ⊢ |={Set.univ}=> made m c := by
  unfold G made
  iintro ⟨Hos, Hus, Hst, Hat, Hre, Htok⟩
  ihave Hv := (sems0_eq (F := F) c) $$ [Hos Hus]
  · isplitl [Hos] <;> iassumption
  icases Hv with ⟨Hc, Hv⟩
  imod (show iprop((bigSep Finset.univ fun k : Ck => semVal (kcell (c, k)) 0) ∗ bigSep Finset.univ fun k : Ck => roundState ER (exRd m) (kcell (c, k)) 0)
      ⊢ (|={Set.univ}=> bigSep Finset.univ fun k => iprop(∃ κ : ℕ, cellInv ER (exRd m) κ (kcell (c, k))) : sProp 𝕄) from by
        rw [← bigSep_sep']
        exact (bigSep_mono fun k _ => (Rounds.body_intro ER (exRd m) (kcell (c, k))).trans inv_alloc).trans (bigSep_fupd _ _)) $$ [Hv Hst] with Hinv
  · isplitl [Hv] <;> iassumption
  imodintro
  isplitl [Hinv]; · iexact Hinv
  isplitl [Hre]; · iexact Hre
  isplitl [Hc]; · iexact Hc
  isplitl [Hat]; · iexact Hat
  iexact Htok

/-- Each token goes to the device that pays the duty. -/
theorem toks_around : (bigSep Finset.univ fun c : Dev nD => (toks c : sProp 𝕄)) ⊢ bigSep Finset.univ fun c : Dev nD => payToks c := by
  unfold toks payToks
  simp only [bigSep_sep']
  exact BI.sep_mono (Entails.of_eq (bigSep_univ_comm _)) (BI.sep_mono (BI.Entails.refl _)
    (BI.sep_mono (Entails.of_eq (bigSep_univ_comm _)) (Entails.of_eq (bigSep_univ_comm _))))

theorem bigSep_keep {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ (made m) : sProp 𝕄) ⊢ bigSep Finset.univ (ghost m) := by
  unfold made
  simp only [bigSep_sep']
  rw [← bigSep_univ_prod (fun ck : Dev nD × Ck => iprop(∃ κ : ℕ, cellInv ER (exRd m) κ (kcell ck))),
    ← bigSep_univ_prod (fun ck : Dev nD × Ck => (reached ER (kcell ck) 0 : sProp 𝕄))]
  iintro ⟨HI, #HR, Hc, Hat, Htok⟩
  ihave HK := (BI.bigSep_exists_pi Finset.univ (fun (ck : Dev nD × Ck) (κ : ℕ) => (cellInv ER (exRd m) κ (kcell ck) : sProp 𝕄))) $$ HI
  icases HK with ⟨%K, #HI⟩
  ihave Htk := (toks_around (F := F)) $$ Htok
  iapply (bigSep_keep (R := records m K) (Φ := linear) fun c _ => by unfold ghost; iintro H; iexists K; iexact H)
  isplitr
  · unfold records; isplitl; · iexact HI
    iexact HR
  unfold linear
  simp only [bigSep_sep']
  isplitl [Hc]; · iexact Hc
  isplitl [Hat]; · iexact Hat
  iexact Htk

/-- Own and unscoped semaphores of every device at once. -/
theorem glob : (bigSep Finset.univ fun c => iprop(own0 (F := F) c ∗ unscopedSems0 c ∗ G m c) : sProp 𝕄) ⊢ |={Set.univ}=> bigSep Finset.univ (ghost m) :=
  ((bigSep_mono fun c _ => core_alloc m c).trans (bigSep_fupd _ _)).trans (BI.fupd_mono (regroup m))

/-! ## The credit the cells are launched with -/

/-- How many of the seven peers of `d` device `c` is: one, unless it is `d` itself. -/
theorem peer_sum (d c : Dev nD) (n : ℕ) :
    (if pr d 1 = c then n else 0) + (if pr d 2 = c then n else 0) + (if pr d 3 = c then n else 0) + (if pr d 4 = c then n else 0)
      + (if pr d 5 = c then n else 0) + (if pr d 6 = c then n else 0) + (if pr d 7 = c then n else 0) = if d = c then 0 else n := by
  rw [show (if d = c then 0 else n) = (if d = c then 0 else 1) * n by split <;> simp]
  have h (p : Prop) [Decidable p] : (if p then n else 0) = (if p then 1 else 0) * n := by split <;> simp
  rw [h (pr d 1 = c), h (pr d 2 = c), h (pr d 3 = c), h (pr d 4 = c), h (pr d 5 = c), h (pr d 6 = c), h (pr d 7 = c)]
  simp only [← Nat.add_mul]
  refine congrArg (· * n) ?_
  revert d c; decide +kernel

theorem bar_iff {a b : Dev nD} : barCell a = barCell b ↔ a = b :=
  ⟨fun h => congrArg (fun g : GSem nD τ sig => g.1.1) h, fun h => h ▸ rfl⟩
theorem rs_iff {a b s t : Dev nD} : rsCell a s = rsCell b t ↔ a = b ∧ s = t := by
  constructor
  · intro h
    have h' := kcell_injective (a₁ := (a, Ck.rs s)) (a₂ := (b, Ck.rs t)) h
    exact ⟨congrArg Prod.fst h', Sum.inl.inj (Sum.inr.inj (Option.some.inj (congrArg Prod.snd h')))⟩
  · rintro ⟨rfl, rfl⟩; rfl
theorem ag_iff {a b s t : Dev nD} : agCell a s = agCell b t ↔ a = b ∧ s = t := by
  constructor
  · intro h
    have h' := kcell_injective (a₁ := (a, Ck.ag s)) (a₂ := (b, Ck.ag t)) h
    exact ⟨congrArg Prod.fst h', Sum.inr.inj (Sum.inr.inj (Option.some.inj (congrArg Prod.snd h')))⟩
  · rintro ⟨rfl, rfl⟩; rfl
theorem bar_rs (a b s : Dev nD) : barCell a ≠ rsCell b s := fun h => nomatch (kcell_injective (a₁ := (a, Ck.bar)) (a₂ := (b, Ck.rs s)) h)
theorem bar_ag (a b s : Dev nD) : barCell a ≠ agCell b s := fun h => nomatch (kcell_injective (a₁ := (a, Ck.bar)) (a₂ := (b, Ck.ag s)) h)
theorem rs_ag (a s b t : Dev nD) : rsCell a s ≠ agCell b t := fun h => nomatch (kcell_injective (a₁ := (a, Ck.rs s)) (a₂ := (b, Ck.ag t)) h)

theorem tally_at (g h : GSem nD τ sig) (k : ℕ) : (tallyAt h () k : CellTallies nD τ sig Unit) g () = if g = h then k else 0 := by
  rw [tallyAt_apply]; by_cases e : g = h
  · rw [if_pos ⟨e, rfl⟩, if_pos e]
  · rw [if_neg (fun x => e x.1), if_neg e]

theorem OA_at (c : Dev nD) (g : GSem nD τ sig) : OA c 7 g () =
    (if g = agCell (pr c 7) c then N else 0) + (if g = agCell (pr c 6) c then N else 0) + (if g = agCell (pr c 5) c then N else 0)
    + (if g = agCell (pr c 4) c then N else 0) + (if g = agCell (pr c 3) c then N else 0) + (if g = agCell (pr c 2) c then N else 0)
    + (if g = agCell (pr c 1) c then N else 0) := by
  simp only [OA, Pi.add_apply, Finsupp.add_apply, tally_at, Pi.zero_apply, Finsupp.zero_apply, Nat.zero_add, Nat.sub_zero, Nat.reduceSub, Nat.reduceAdd]
theorem OR_at (c : Dev nD) (g : GSem nD τ sig) : OR c 7 g () = OA c 7 g () +
    (if g = rsCell (pr c 7) c then N else 0) + (if g = rsCell (pr c 6) c then N else 0) + (if g = rsCell (pr c 5) c then N else 0)
    + (if g = rsCell (pr c 4) c then N else 0) + (if g = rsCell (pr c 3) c then N else 0) + (if g = rsCell (pr c 2) c then N else 0)
    + (if g = rsCell (pr c 1) c then N else 0) := by
  simp only [OR, Pi.add_apply, Finsupp.add_apply, tally_at, Nat.sub_zero, Nat.reduceSub, Nat.reduceAdd]
theorem OB_at (c : Dev nD) (g : GSem nD τ sig) : O₀ c g () = OR c 7 g () +
    (if g = barCell (pr c 7) then 1 else 0) + (if g = barCell (pr c 6) then 1 else 0) + (if g = barCell (pr c 5) then 1 else 0)
    + (if g = barCell (pr c 4) then 1 else 0) + (if g = barCell (pr c 3) then 1 else 0) + (if g = barCell (pr c 2) then 1 else 0)
    + (if g = barCell (pr c 1) then 1 else 0) := by
  simp only [O₀, OB, Pi.add_apply, Finsupp.add_apply, tally_at, Nat.sub_zero, Nat.reduceSub, Nat.reduceAdd]

theorem owed_bar (d c : Dev nD) : O₀ d (barCell c) () = if d = c then 0 else 1 := by
  rw [OB_at, OR_at, OA_at, ← peer_sum d c 1]
  simp only [bar_rs, bar_ag, bar_iff, if_false, Nat.add_zero, Nat.zero_add]
  simp only [eq_comm (a := c)]
  omega
theorem owed_rs (d c s : Dev nD) : O₀ d (rsCell c s) () = if d = s then (if d = c then 0 else N) else 0 := by
  rw [OB_at, OR_at, OA_at]
  simp only [(bar_rs _ _ _).symm, rs_ag, rs_iff, if_false, Nat.add_zero, Nat.zero_add]
  by_cases h : d = s
  · subst h; rw [if_pos rfl, ← peer_sum d c N]; simp only [and_true, eq_comm (a := c)]; omega
  · have h' : ¬ s = d := fun e => h e.symm
    rw [if_neg h]; simp only [h', and_false, if_false, Nat.add_zero]
theorem owed_ag (d c s : Dev nD) : O₀ d (agCell c s) () = if d = s then (if d = c then 0 else N) else 0 := by
  rw [OB_at, OR_at, OA_at]
  simp only [(bar_ag _ _ _).symm, (rs_ag _ _ _ _).symm, ag_iff, if_false, Nat.add_zero, Nat.zero_add]
  by_cases h : d = s
  · subst h; rw [if_pos rfl, ← peer_sum d c N]; simp only [and_true, eq_comm (a := c)]; omega
  · have h' : ¬ s = d := fun e => h e.symm
    rw [if_neg h]; simp only [h', and_false, if_false, Nat.add_zero]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel
theorem launch_rs (c s : Dev nD) (h : s ≠ c) :
    tallyOn (rsCell c s) (launchCredit (Pipeline.owing O₀) 0 (rsCell c s)) = (tallyAt (rsCell c s) () N : CellTallies nD τ sig Unit) := by
  unfold tallyAt; refine congrArg _ (Finsupp.ext fun u => ?_); cases u
  rw [Pipeline.launchCredit_owing, Finsupp.single_eq_same, Finset.sum_congr rfl fun d _ => owed_rs d c s,
    Finset.sum_eq_single s (fun d _ hd => if_neg hd) (fun hn => absurd (Finset.mem_univ _) hn), if_pos rfl, if_neg h]
theorem launch_ag (c s : Dev nD) (h : s ≠ c) :
    tallyOn (agCell c s) (launchCredit (Pipeline.owing O₀) 0 (agCell c s)) = (tallyAt (agCell c s) () N : CellTallies nD τ sig Unit) := by
  unfold tallyAt; refine congrArg _ (Finsupp.ext fun u => ?_); cases u
  rw [Pipeline.launchCredit_owing, Finsupp.single_eq_same, Finset.sum_congr rfl fun d _ => owed_ag d c s,
    Finset.sum_eq_single s (fun d _ hd => if_neg hd) (fun hn => absurd (Finset.mem_univ _) hn), if_pos rfl, if_neg h]

/-- Out of something held of every counter: the barrier's and the fourteen of the peers. -/
theorem pick (c : Dev nD) (Φ : SemLoc sig → sProp 𝕄) : bigSep Finset.univ Φ
    ⊢ iprop(Φ (csem Ck.bar) ∗ all7 (fun k => Φ (csem (Ck.rs (pr c k)))) ∗ all7 (fun k => Φ (csem (Ck.ag (pr c k))))) := by
  have h : bigSep (Finset.univ.map ⟨csem, csem_injective⟩) Φ = iprop(Φ (csem Ck.bar) ∗ (bigSep Finset.univ fun j : Fin 14 => Φ (csem (Ck.snd j)))
      ∗ (Φ (csem (Ck.rs c)) ∗ all7 (fun k => Φ (csem (Ck.rs (pr c k))))) ∗ (Φ (csem (Ck.ag c)) ∗ all7 (fun k => Φ (csem (Ck.ag (pr c k)))))) := by
    rw [bigSep_map, bigSep_ck, around7 c, around7 c]; rfl
  have h2 : bigSep Finset.univ Φ ⊢ bigSep (Finset.univ.map ⟨csem, csem_injective⟩) Φ := bigSep_subset (Finset.subset_univ _)
  rw [h] at h2
  iintro H
  ihave H' := h2 $$ H
  icases H' with ⟨Hb, -, ⟨-, Hr⟩, -, Hg⟩
  isplitl [Hb]; · iexact Hb
  isplitl [Hr]; · iexact Hr
  iexact Hg

theorem creds (c : Dev nD) : (Pipeline.launchCred O₀ c : sProp 𝕄) ⊢ credits c := by
  unfold Pipeline.launchCred credits
  iintro H
  ihave H' := (pick (F := F) c fun sm => cred (tallyOn ((c : Thread nD τ), sm) (launchCredit (Pipeline.owing O₀) 0 ((c : Thread nD τ), sm)))) $$ H
  icases H' with ⟨Hb, Hr, Hg⟩
  isplitl [Hb]; · iapply (Entails.of_eq (congrArg cred (launch_bar c))); iexact Hb
  isplitl [Hr]
  · iapply (Entails.of_eq (show all7 (fun k => cred (tallyOn (rsCell c (pr c k)) (launchCredit (Pipeline.owing O₀) 0 (rsCell c (pr c k))))) = all7 (fun k => (cred (tallyAt (rsCell c (pr c k)) () N) : sProp 𝕄)) from by
      unfold all7; dsimp only; rw [launch_rs c (pr c 1) (pr_ne c 0), launch_rs c (pr c 2) (pr_ne c 1), launch_rs c (pr c 3) (pr_ne c 2), launch_rs c (pr c 4) (pr_ne c 3), launch_rs c (pr c 5) (pr_ne c 4), launch_rs c (pr c 6) (pr_ne c 5), launch_rs c (pr c 7) (pr_ne c 6)]))
    iexact Hr
  iapply (Entails.of_eq (show all7 (fun k => cred (tallyOn (agCell c (pr c k)) (launchCredit (Pipeline.owing O₀) 0 (agCell c (pr c k))))) = all7 (fun k => (cred (tallyAt (agCell c (pr c k)) () N) : sProp 𝕄)) from by
    unfold all7; dsimp only; rw [launch_ag c (pr c 1) (pr_ne c 0), launch_ag c (pr c 2) (pr_ne c 1), launch_ag c (pr c 3) (pr_ne c 2), launch_ag c (pr c 4) (pr_ne c 3), launch_ag c (pr c 5) (pr_ne c 4), launch_ag c (pr c 6) (pr_ne c 5), launch_ag c (pr c 7) (pr_ne c 6)]))
  iexact Hg

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨Hu, Hlev, Hcr, -, HG⟩
  ihave Hc := (creds (F := F) c) $$ Hcr
  ihave Hx := (Entails.of_eq (show (Pipeline.unscopedRestP Pipeline.Prefetch.none cfg0.spec c (fun b => m ((c : Thread nD τ).loc b)) : sProp 𝕄) = exts m c from by
    rw [Pipeline.unscopedRestP_none]; exact unscopedRest0_eq c _)) $$ Hu
  imodintro
  unfold start
  isplitl
  · isplitl [HG]; · iexact HG
    isplitl [Hc]; · iexact Hc
    isplitl [Hlev]; · iexact Hlev
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀ scratch
  iintro ⟨Hs, -, Hr⟩
  isplitl [Hs]; · iexact Hs
  iexact Hr

theorem phi1_exit (c : Dev nD) :
    (dats m 0 c).Φ (Fin.last cfg0.N) ⊢ iprop((unscopedSems0 c ∗ exts m c) ∗ Pipeline.ownSems0 osem c ∗ Pipeline.scopedRest cfg0.spec c) := by
  rw [show (dats m 0 c).Φ (Fin.last cfg0.N) = Φ₁ m c from rfl]
  unfold Φ₁ scratch; exact BI.Entails.refl _

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (by fin_cases w <;> fin_cases s <;> decide) 7
    · exact mayWait_none c _

def finalA (c : Dev nD) (w : Fin cfg0.W) : Buf (Elt F) ((cfg0.win w).arr.view.loc (c : Thread nD τ)) := (dats m 0 c).arrAt w cfg0.N

/-- Keys and values as at launch, and the unscoped semaphore at zero. -/
def extsKept (c : Dev nD) (s : MemSt nD τ sig (Elt F)) : Prop :=
  s.mem ((c : Thread nD τ).loc main_arg3) = m ((c : Thread nD τ).loc main_arg3) ∧ s.mem ((c : Thread nD τ).loc main_arg4) = m ((c : Thread nD τ).loc main_arg4)

def QC : PUnit × MemSt nD τ sig (Elt F) → Prop := fun r =>
  ∀ c : Dev nD, (∀ w : Fin cfg0.W, r.2.mem ((cfg0.win w).arr.view.loc (c : Thread nD τ)) = finalA m c w) ∧ extsKept m c r.2

set_option maxRecDepth 8000 in
/-- From any memory with zero counters, every weakly fair execution of the eight kernels terminates; at the end every
    device's windows hold the computed contents, keys and values are as they were, and every semaphore counter is zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := ghost m) (u₀ := u₀)
    (hu₀ := by
      unfold u₀
      iintro Hu
      ihave H := (u_split _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => iprop(unscopedSems0 c ∗ exts m c)) (Z := fun _ => iprop(emp))
    (hX := start_intro m ρ) (hin := phi0_intro m) (hout := phi1_exit m)
    (QY := fun c s => (∀ sm : SemLoc sig, sm.isScoped .tc = false → s.sem ((c.tc : Thread nD τ), sm) = 0) ∧ extsKept m c s)
    (hY := fun c s' => by
      unfold exts
      iintro ⟨⟨Hu, H3, H4⟩, -, HSI⟩
      icombine HSI H3 gives %h3
      icombine HSI H4 gives %h4
      imod (Pipeline.unscopedSems0_read (X := unscopedSems0 c) (c := c) fupd_intro s') $$ [Hu HSI] with ⟨%hu, HSI⟩
      · isplitl [Hu] <;> iassumption
      imodintro
      isplitr; · ipureintro; exact ⟨hu, Buf.eq_of_forall_mem_univ h3, Buf.eq_of_forall_mem_univ h4⟩
      iexact HSI)
    (hQ := fun _ h hs => ⟨fun c => ⟨(h c).1, (h c).2.2.2⟩, sem_eq_zero hs fun c => (h c).2.2.1⟩)

theorem finalA_in (c : Dev nD) (w : Fin cfg0.W) (hw : (cfg0.win w).isOut = false) : finalA m c w = m ((cfg0.win w).arr.view.loc (c : Thread nD τ)) :=
  (dats (F := F) m 0 c).arrAt_in w hw _

/-! ## What the run leaves -/

/-- Each window takes its whole array in one block. -/
theorem whole_block_0 (X : (main_arg0 : Ref sig .tc).ty.Contents (Elt F)) : (win0_0.blk (0 : Fin 1)).view.read (Elt F) X = X :=
  funext fun j => congrArg X (funext fun a => Fin.ext (by
    refine (ValueKit.view_emb_slice_whole_unit_val main_arg0 _ _ _ j a).trans ?_
    exact (congrArg (· + (j a : ℕ)) (show win0_0.kind.off (win0_0.index (0 : Fin 1) a) (win0_0.size a) = 0 by revert a; decide +kernel)).trans (Nat.zero_add _)))
theorem whole_block_1 (X : (main_arg1 : Ref sig .tc).ty.Contents (Elt F)) : (win0_1.blk (0 : Fin 1)).view.read (Elt F) X = X :=
  funext fun j => congrArg X (funext fun a => Fin.ext (by
    refine (ValueKit.view_emb_slice_whole_unit_val main_arg1 _ _ _ j a).trans ?_
    exact (congrArg (· + (j a : ℕ)) (show win0_1.kind.off (win0_1.index (0 : Fin 1) a) (win0_1.size a) = 0 by revert a; decide +kernel)).trans (Nat.zero_add _)))
theorem whole_block_2 (X : (main_arg2 : Ref sig .tc).ty.Contents (Elt F)) : (win0_2.blk (0 : Fin 1)).view.read (Elt F) X = X :=
  funext fun j => congrArg X (funext fun a => Fin.ext (by
    refine (ValueKit.view_emb_slice_whole_unit_val main_arg2 _ _ _ j a).trans ?_
    exact (congrArg (· + (j a : ℕ)) (show win0_2.kind.off (win0_2.index (0 : Fin 1) a) (win0_2.size a) = 0 by revert a; decide +kernel)).trans (Nat.zero_add _)))
theorem whole_block_3 (X : (main_v1 : Ref sig .tc).ty.Contents (Elt F)) : (win0_3.blk (0 : Fin 1)).view.read (Elt F) X = X :=
  funext fun j => congrArg X (funext fun a => Fin.ext (by
    refine (ValueKit.view_emb_slice_whole_unit_val main_v1 _ _ _ j a).trans ?_
    exact (congrArg (· + (j a : ℕ)) (show win0_3.kind.off (win0_3.index (0 : Fin 1) a) (win0_3.size a) = 0 by revert a; decide +kernel)).trans (Nat.zero_add _)))

theorem xstg_eq (c : Dev nD) : xstg m c = m ((c : Thread nD τ).loc main_arg0) := whole_block_0 _
theorem wqstg_eq (c : Dev nD) : wqstg m c = m ((c : Thread nD τ).loc main_arg1) := whole_block_1 _
theorem wostg_eq (c : Dev nD) : wostg m c = m ((c : Thread nD τ).loc main_arg2) := whole_block_2 _

/-- The result of device `c`. -/
theorem finalA_out (c : Dev nD) : finalA m c (3 : Fin 4) = outv m := by
  have h : (win0_3.blk (0 : Fin 1)).view.read (Elt F) (finalA m c (3 : Fin 4)) = outv m := by
    unfold finalA
    rw [show cfg0.N = ((0 : Fin 1) : Fin cfg0.N).val + 1 from rfl, (dats m 0 c).arrAt_succ (3 : Fin 4) (0 : Fin 1)]
    rw [show (cfg0.win (3 : Fin 4)).flush (0 : Fin 1) = true from by decide, if_pos rfl]
    exact View.read_write_univ _ _
  exact (whole_block_3 _).symm.trans h

/-- Every execution ends with the arguments as they were and every counter at zero. -/
theorem run_kept : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨((h.1 c).1 (0 : Fin 4)).trans (finalA_in m c 0 rfl), ((h.1 c).1 (1 : Fin 4)).trans (finalA_in m c 1 rfl),
    ((h.1 c).1 (2 : Fin 4)).trans (finalA_in m c 2 rfl), (h.1 c).2.1, (h.1 c).2.2⟩, h.2⟩) (run_main m ρ)

/-- Every execution ends with every device's result the same, the arguments as they were. -/
theorem run_result : θ_run defs (onTc (τ := τ) (main (F := F))) (s₀ m ρ) (fun r => ∀ c : Dev nD,
      r.2.mem ((c : Thread nD τ).loc main_v1) = outv m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨((h.1 c).1 (3 : Fin 4)).trans (finalA_out m c), ((h.1 c).1 (0 : Fin 4)).trans (finalA_in m c 0 rfl),
    ((h.1 c).1 (1 : Fin 4)).trans (finalA_in m c 1 rfl), ((h.1 c).1 (2 : Fin 4)).trans (finalA_in m c 2 rfl), (h.1 c).2.1, (h.1 c).2.2⟩) (run_main m ρ)

end Cert.KernelIdeal.Pf

end
-- ==== Proof.Softmax.lean ====
/-
# One row of attention, all at once and in pieces

Over the extended reals: the maximum of a row, the weights `exp (s - max)`, their sum, and their sum against the
values; and the fact that going through the row in pieces, rescaling what was summed so far whenever the maximum grows,
gives the same three numbers. Nothing here mentions a program.
-/
module

public import Idealize.ShloMosaic.PureOps.Ideal.Laws
public import Mathlib.Data.EReal.Inv
public import Mathlib.Algebra.BigOperators.Fin

@[expose] public section

noncomputable section

namespace Cert.Att

open Idealize.ShloMosaic
open scoped BigOperators

/-- The maximum of a row, `⊥` for the empty one. -/
def rmax {n : ℕ} (s : Fin n → EReal) : EReal := (Finset.univ : Finset (Fin n)).fold max ⊥ s

/-- The sum of the row's weights. -/
def rden {n : ℕ} (s : Fin n → EReal) : EReal := ∑ j, Ideal.exp (s j - rmax s)

/-- The weights against the values. -/
def rnum {n : ℕ} (s v : Fin n → EReal) : EReal := ∑ j, Ideal.exp (s j - rmax s) * v j

/-- Attention of one row: the weighted mean of the values. -/
def att {n : ℕ} (s v : Fin n → EReal) : EReal := Ideal.div (rnum s v) (rden s)

theorem rmax_eq_sup {n : ℕ} (s : Fin n → EReal) : rmax s = Finset.univ.sup s := rfl

theorem le_rmax {n : ℕ} (s : Fin n → EReal) (j : Fin n) : s j ≤ rmax s := by
  rw [rmax_eq_sup]; exact Finset.le_sup (Finset.mem_univ j)

/-- The first `n` entries of a row of `n + k`, and the last `k`. -/
def fstP {n k : ℕ} (s : Fin (n + k) → EReal) : Fin n → EReal := fun j => s (Fin.castAdd k j)
def sndP {n k : ℕ} (s : Fin (n + k) → EReal) : Fin k → EReal := fun j => s (Fin.natAdd n j)

theorem rmax_add {n k : ℕ} (s : Fin (n + k) → EReal) : rmax s = max (rmax (fstP s)) (rmax (sndP s)) := by
  apply le_antisymm
  · rw [rmax_eq_sup]
    refine Finset.sup_le fun j _ => ?_
    refine Fin.addCases (fun i => ?_) (fun i => ?_) j
    · exact le_max_of_le_left (le_rmax (fstP s) i)
    · exact le_max_of_le_right (le_rmax (sndP s) i)
  · refine max_le ?_ ?_ <;> · conv_lhs => rw [rmax_eq_sup]
                              exact Finset.sup_le fun j _ => le_rmax s _

theorem exp_nonneg (x : EReal) : 0 ≤ Ideal.exp x := by
  induction x with
  | bot => exact le_refl _
  | top => exact le_top
  | coe r => exact EReal.coe_nonneg.2 (Real.exp_pos r).le

/-- A difference of two numbers in order, exponentiated, is not infinite. -/
theorem exp_sub_ne_top {a b : EReal} (h : a ≤ b) : Ideal.exp (a - b) ≠ ⊤ := by
  induction b with
  | bot => rw [le_bot_iff.1 h]; exact EReal.zero_ne_top
  | top =>
    have : a - (⊤ : EReal) = ⊥ := EReal.sub_top a
    rw [this]; exact EReal.zero_ne_top
  | coe r =>
    induction a with
    | bot => exact EReal.zero_ne_top
    | top => exact absurd (top_le_iff.1 h) (EReal.coe_ne_top r)
    | coe q => exact EReal.coe_ne_top _

/-- **Changing the reference maximum.** Weights taken against `m` become weights taken against a larger `m'` when
    multiplied by `exp (m - m')`, whatever of the three numbers is infinite. -/
theorem exp_rescale {s m m' : EReal} (h : s ≤ m) (h' : m ≤ m') :
    Ideal.exp (s - m) * Ideal.exp (m - m') = Ideal.exp (s - m') := by
  induction m' with
  | bot =>
    have hm := le_bot_iff.1 h'
    subst hm
    have hs := le_bot_iff.1 h
    subst hs
    show (0 : EReal) * 0 = 0
    exact zero_mul 0
  | top =>
    have e1 : m - (⊤ : EReal) = ⊥ := EReal.sub_top m
    have e2 : s - (⊤ : EReal) = ⊥ := EReal.sub_top s
    rw [e1, e2]
    show _ * (0 : EReal) = 0
    exact mul_zero _
  | coe r' =>
    induction m with
    | bot =>
      have hs := le_bot_iff.1 h
      subst hs
      show (0 : EReal) * 0 = 0
      exact zero_mul 0
    | top => exact absurd (top_le_iff.1 h') (EReal.coe_ne_top r')
    | coe r =>
      induction s with
      | bot => show (0 : EReal) * _ = 0; exact zero_mul _
      | top => exact absurd (top_le_iff.1 h) (EReal.coe_ne_top r)
      | coe q =>
        rw [← EReal.coe_sub, ← EReal.coe_sub, ← EReal.coe_sub]
        show ((Real.exp (q - r) : ℝ) : EReal) * ((Real.exp (r - r') : ℝ) : EReal) = ((Real.exp (q - r') : ℝ) : EReal)
        rw [← EReal.coe_mul, ← Real.exp_add]
        congr 2; ring

/-- Multiplying a sum by a number that is neither negative nor `⊤`. -/
theorem sum_mul_of_nonneg {ι : Type} (t : Finset ι) (f : ι → EReal) {x : EReal} (h : 0 ≤ x) (h' : x ≠ ⊤) :
    (∑ i ∈ t, f i) * x = ∑ i ∈ t, f i * x := by
  classical
  induction t using Finset.induction_on with
  | empty => simp
  | insert a t ha ih =>
    rw [Finset.sum_insert ha, Finset.sum_insert ha, ← ih, mul_comm, EReal.left_distrib_of_nonneg_of_ne_top h h', mul_comm x, mul_comm x]

/-- One step through the row: the maximum, the weights' sum and the weighted sum of the first `n` entries give those of
    the first `n + k`. -/
theorem rden_step {n k : ℕ} (s : Fin (n + k) → EReal) :
    rden (fstP s) * Ideal.exp (rmax (fstP s) - rmax s) + ∑ j, Ideal.exp (sndP s j - rmax s) = rden s := by
  have hle : rmax (fstP s) ≤ rmax s := by rw [rmax_add]; exact le_max_left _ _
  unfold rden
  rw [sum_mul_of_nonneg _ _ (exp_nonneg _) (exp_sub_ne_top hle), Fin.sum_univ_add]
  exact congrArg (· + _) (Finset.sum_congr rfl fun j _ => exp_rescale (le_rmax (fstP s) j) hle)

theorem rnum_step {n k : ℕ} (s v : Fin (n + k) → EReal) :
    rnum (fstP s) (fstP v) * Ideal.exp (rmax (fstP s) - rmax s) + ∑ j, sndP v j * Ideal.exp (sndP s j - rmax s) = rnum s v := by
  have hle : rmax (fstP s) ≤ rmax s := by rw [rmax_add]; exact le_max_left _ _
  unfold rnum
  rw [sum_mul_of_nonneg _ _ (exp_nonneg _) (exp_sub_ne_top hle), Fin.sum_univ_add]
  refine congrArg₂ (· + ·) (Finset.sum_congr rfl fun j _ => ?_) (Finset.sum_congr rfl fun j _ => mul_comm _ _)
  rw [mul_right_comm, exp_rescale (le_rmax (fstP s) j) hle]; rfl

theorem rmax_zero (s : Fin 0 → EReal) : rmax s = ⊥ := rfl
theorem rden_zero (s : Fin 0 → EReal) : rden s = 0 := rfl
theorem rnum_zero (s v : Fin 0 → EReal) : rnum s v = 0 := rfl

end Cert.Att
-- ==== Proof.KVal.lean ====
/-
# What the kernel's block computations compute

Every stored or kept value of the body, read at one index over the extended reals: the queries, one head's attention,
the product with the block of the output projection, the sum of the scattered chunks.
-/
module

public import proofs.«01_k».proof.Proof.Proto
public import proofs.«01_k».proof.Proof.Softmax
public import Idealize.ShloMosaic.Lib.Pointwise

@[expose] public section

noncomputable section

namespace Cert.KernelIdeal.Pf

open Cert.KernelIdeal Cert.KernelIdeal.Gen Cert.Att
open Idealize.ShloMosaic
open scoped BigOperators

theorem negInf_f32 : Ideal.ofBits .f32 0xFF800000#32 = ⊥ := by simp [Ideal.ofBits, Ideal.ieee]

theorem pay1_apply (x : Vec Ideal S1x256x1024 .f32) (w : Vec Ideal S1024x1024 .f32) (i : Fin 256) (n : Fin 1024) :
    k0_pay1 (F := Ideal) x w (ix2 i n) = ∑ t : Fin 1024, x (ix3 (0 : Fin 1) i t) * w (ix2 t n) := by
  pointwise [k0_pay1]

/-- The scores of query row `i` of head `h` among a device's eight. -/
def kscr (q : FVec Ideal S256x1024 .f32) (k : Vec Ideal S1x4096x128 .f32) (h : Fin 8) (i : Fin 256) : Fin 4096 → EReal := fun j =>
  (∑ d : Fin 128, q (ix2 i (⟨128 * h.val + d.val, by omega⟩ : Fin 1024)) * k (ix3 (0 : Fin 1) j d)) * Ideal.ofBits .f32 0x3DB504F3#32

theorem kscr_zero (q : FVec Ideal S256x1024 .f32) (k : Vec Ideal S1x4096x128 .f32) (i : Fin 256) : kscr q k 0 i = fun j =>
    (∑ d : Fin 128, q (ix2 i (⟨d.val, by omega⟩ : Fin 1024)) * k (ix3 (0 : Fin 1) j d)) * Ideal.ofBits .f32 0x3DB504F3#32 := by
  funext j
  refine congrArg (· * _) (Finset.sum_congr rfl fun d _ => congrArg (fun n => q (ix2 i n) * _) (Fin.ext ?_))
  show 128 * 0 + d.val = d.val
  omega

/-- One head's attention. -/
def khd (q : FVec Ideal S256x1024 .f32) (k v : Vec Ideal S1x4096x128 .f32) (h : Fin 8) (i : Fin 256) (d : Fin 128) : EReal :=
  att (kscr q k h i) (fun j => v (ix3 (0 : Fin 1) j d))

variable (q : FVec Ideal S256x1024 .f32) (k v : Vec Ideal S1x4096x128 .f32) (i : Fin 256) (d : Fin 128)

theorem head0_apply : k0_pay3 (F := Ideal) (k0_pay2 q k) v (ix2 i d) = khd q k v 0 i d := by
  pointwise [k0_pay3, k0_pay2]
  simp only [negInf_f32]
  rw [khd, kscr_zero]
  rfl

theorem head1_apply : k0_pay4 (F := Ideal) q k v (ix2 i d) = khd q k v 1 i d := by
  pointwise [k0_pay4]
  simp only [negInf_f32]
  rfl

theorem head2_apply : k0_pay7 (F := Ideal) (k0_pay5 q k) (k0_pay6 q k) v (ix2 i d) = khd q k v 2 i d := by
  pointwise [k0_pay7, k0_pay6, k0_pay5]
  simp only [negInf_f32]
  rfl

theorem head3_apply : k0_pay8 (F := Ideal) q k v (ix2 i d) = khd q k v 3 i d := by
  pointwise [k0_pay8]
  simp only [negInf_f32]
  rfl

theorem head4_apply : k0_pay11 (F := Ideal) (k0_pay9 q k) (k0_pay10 q k) v (ix2 i d) = khd q k v 4 i d := by
  pointwise [k0_pay11, k0_pay10, k0_pay9]
  simp only [negInf_f32]
  rfl

theorem head5_apply : k0_pay12 (F := Ideal) q k v (ix2 i d) = khd q k v 5 i d := by
  pointwise [k0_pay12]
  simp only [negInf_f32]
  rfl

theorem head6_apply : k0_pay15 (F := Ideal) (k0_pay13 q k) (k0_pay14 q k) v (ix2 i d) = khd q k v 6 i d := by
  pointwise [k0_pay15, k0_pay14, k0_pay13]
  simp only [negInf_f32]
  rfl

/-- The last head, whose quotient the product with the projection takes itself. -/
def last (p : FVec Ideal S256x4096 .f32) (l : FVec Ideal S256x1 .f32) (w : FVec Ideal S4096x128 .f32) : FVec Ideal S256x128 .f32 :=
  divf (matmul dot_S256x4096_S4096x128_S256x128_1_0_0_1_n_n none p w (constant S256x128 .f32 0x00000000#32))
    (broadcastTo S256x128 l broadcasts_S256x1_S256x128)

theorem head7_apply : last (k0_pay16 (F := Ideal) q k) (k0_pay17 q k) (k0_pay18 v) (ix2 i d) = khd q k v 7 i d := by
  pointwise [last, k0_pay18, k0_pay17, k0_pay16]
  simp only [negInf_f32]
  rfl

theorem pick_eq (f : Fin 8 → Fin 256 → Fin 128 → EReal) (i : Fin 256) {a a' : Fin 8} {b b' : Fin 128} (ha : a.val = a'.val)
    (hb : b.val = b'.val) : f a i b = f a' i b' := by
  obtain rfl := Fin.ext ha
  obtain rfl := Fin.ext hb
  rfl

/-- The product of eight heads, side by side, with a block of the output projection. -/
theorem pay19_apply (a0 a1 a2 a3 a4 a5 a6 : FVec Ideal S256x128 .f32) (p : FVec Ideal S256x4096 .f32) (l : FVec Ideal S256x1 .f32)
    (w : FVec Ideal S4096x128 .f32) (wo : Vec Ideal S1024x1024 .f32) (f : Fin 8 → Fin 256 → Fin 128 → EReal)
    (h0 : ∀ i d, a0 (ix2 i d) = f 0 i d) (h1 : ∀ i d, a1 (ix2 i d) = f 1 i d) (h2 : ∀ i d, a2 (ix2 i d) = f 2 i d)
    (h3 : ∀ i d, a3 (ix2 i d) = f 3 i d) (h4 : ∀ i d, a4 (ix2 i d) = f 4 i d) (h5 : ∀ i d, a5 (ix2 i d) = f 5 i d)
    (h6 : ∀ i d, a6 (ix2 i d) = f 6 i d) (h7 : ∀ i d, last p l w (ix2 i d) = f 7 i d) (i : Fin 256) (n : Fin 1024) :
    k0_pay19 (F := Ideal) a0 a1 a2 a3 a4 a5 a6 p l w (constant S256x128 .f32 0x00000000#32) wo (ix2 i n)
      = ∑ k : Fin 1024, f ⟨k.val / 128, by omega⟩ i ⟨k.val % 128, Nat.mod_lt _ (by decide)⟩ * wo (ix2 k n) := by
  have e : k0_pay19 (F := Ideal) a0 a1 a2 a3 a4 a5 a6 p l w (constant S256x128 .f32 0x00000000#32) wo
      = shapeCast S256x1024 (matmul dot_S256x1024_S1024x1024_S256x1024_1_0_0_1_n_n none (concatenate S256x1024 1 [⟨S256x128, a0⟩, ⟨S256x128, a1⟩, ⟨S256x128, a2⟩, ⟨S256x128, a3⟩, ⟨S256x128, a4⟩, ⟨S256x128, a5⟩, ⟨S256x128, a6⟩, ⟨S256x128, last p l w⟩] concatenates_S256x128_S256x128_S256x128_S256x128_S256x128_S256x128_S256x128_S256x128_S256x1024_d1) (shapeCast S1024x1024 wo shapeCasts_S1024x1024_S1024x1024) (constant S256x1024 .f32 0x00000000#32)) shapeCasts_S256x1024_S256x1024 := rfl
  rw [e]
  generalize last p l w = a7 at h7 ⊢
  pointwise
  refine Finset.sum_congr rfl fun k _ => congrArg (· * wo (ix2 k n)) ?_
  have hk := k.isLt
  by_cases c0 : k.val < 128
  · rw [dif_pos c0]
    exact (h0 i _).trans (pick_eq f i (by show 0 = k.val / 128; omega) (by show k.val = k.val % 128; omega))
  rw [dif_neg c0]
  by_cases c1 : k.val - 128 < 128
  · rw [dif_pos c1]
    exact (h1 i _).trans (pick_eq f i (by show 1 = k.val / 128; omega) (by show k.val - 128 = k.val % 128; omega))
  rw [dif_neg c1]
  by_cases c2 : k.val - 128 - 128 < 128
  · rw [dif_pos c2]
    exact (h2 i _).trans (pick_eq f i (by show 2 = k.val / 128; omega) (by show k.val - 128 - 128 = k.val % 128; omega))
  rw [dif_neg c2]
  by_cases c3 : k.val - 128 - 128 - 128 < 128
  · rw [dif_pos c3]
    exact (h3 i _).trans (pick_eq f i (by show 3 = k.val / 128; omega) (by show k.val - 128 - 128 - 128 = k.val % 128; omega))
  rw [dif_neg c3]
  by_cases c4 : k.val - 128 - 128 - 128 - 128 < 128
  · rw [dif_pos c4]
    exact (h4 i _).trans (pick_eq f i (by show 4 = k.val / 128; omega) (by show k.val - 128 - 128 - 128 - 128 = k.val % 128; omega))
  rw [dif_neg c4]
  by_cases c5 : k.val - 128 - 128 - 128 - 128 - 128 < 128
  · rw [dif_pos c5]
    exact (h5 i _).trans (pick_eq f i (by show 5 = k.val / 128; omega) (by show k.val - 128 - 128 - 128 - 128 - 128 = k.val % 128; omega))
  rw [dif_neg c5]
  by_cases c6 : k.val - 128 - 128 - 128 - 128 - 128 - 128 < 128
  · rw [dif_pos c6]
    exact (h6 i _).trans (pick_eq f i (by show 6 = k.val / 128; omega) (by show k.val - 128 - 128 - 128 - 128 - 128 - 128 = k.val % 128; omega))
  rw [dif_neg c6]
  exact (h7 i _).trans (pick_eq f i (by show 7 = k.val / 128; omega) (by show k.val - 128 - 128 - 128 - 128 - 128 - 128 - 128 = k.val % 128; omega))

theorem pay21_apply (r : FVec Ideal S8x256x128 .f32) : k0_pay21 (F := Ideal) r (ix2 i d) = ∑ s : Fin 8, r (ix3 s i d) := by
  pointwise [k0_pay21]

theorem pay22_apply (r : FVec Ideal S256x1024 .f32) (n : Fin 1024) : k0_pay22 (F := Ideal) r (ix3 (0 : Fin 1) i n) = r (ix2 i n) := by
  pointwise [k0_pay22]

end Cert.KernelIdeal.Pf
-- ==== Proof.KOut.lean ====
/-
# What every device's result holds

The result at row `i` and column `n`, from the launch's memory: the sum over the eight devices of what each one's eight
heads contribute through its rows of the output projection. The scatter and the gather only move column chunks, so
column `n` of the result is column `n` of the sum of the partial products.
-/
module

public import proofs.«01_k».proof.Proof.KVal

@[expose] public section

noncomputable section

namespace Cert.KernelIdeal.Pf

open Cert.KernelIdeal Cert.KernelIdeal.Gen Cert.Att
open Idealize.ShloMosaic Idealize.ShloMosaic.TcCoe
open scoped BigOperators

variable (m : (ℓ : Loc nD τ sig) → Buf (Elt Ideal) ℓ)

/-- Head `h` of device `c`, at one entry. -/
def dhd (c : Dev nD) (h : Fin 8) (i : Fin 256) (d : Fin 128) : EReal := khd (qv m c) (khead m c h) (vhead m c h) h i d

theorem acc_apply (c : Dev nD) (i : Fin 256) (n : Fin 1024) : acc m c (ix2 i n)
    = ∑ k : Fin 1024, dhd m c ⟨k.val / 128, by omega⟩ i ⟨k.val % 128, Nat.mod_lt _ (by decide)⟩ * (wostg m c : Vec Ideal S1024x1024 .f32) (ix2 k n) :=
  pay19_apply (head0 m c) (head1 m c) (head2 m c) (head3 m c) (head4 m c) (head5 m c) (head6 m c)
    (k0_pay16 (qv m c) (khead m c 7)) (k0_pay17 (qv m c) (khead m c 7)) (k0_pay18 (vhead m c 7)) (wostg m c) (dhd m c)
    (head0_apply (qv m c) (khead m c 0) (vhead m c 0)) (head1_apply (qv m c) (khead m c 1) (vhead m c 1))
    (head2_apply (qv m c) (khead m c 2) (vhead m c 2)) (head3_apply (qv m c) (khead m c 3) (vhead m c 3))
    (head4_apply (qv m c) (khead m c 4) (vhead m c 4)) (head5_apply (qv m c) (khead m c 5) (vhead m c 5))
    (head6_apply (qv m c) (khead m c 6) (vhead m c 6)) (head7_apply (qv m c) (khead m c 7) (vhead m c 7)) i n

theorem red_apply (c : Dev nD) (i : Fin 256) (d : Fin 128) (n : Fin 1024) (hn : n.val = 128 * c.val + d.val) :
    red m c (ix2 i d) = ∑ s : Fin 8, acc m s (ix2 i n) := by
  refine (pay21_apply i d (rsv m c)).trans (Finset.sum_congr rfl fun s _ => ?_)
  show acc m s (ValueIdx.ix2 i _) = acc m s (ix2 i n)
  rw [← ix2_eq_valueIdx]
  exact congrArg (fun x => acc m s (ix2 i x)) (Fin.ext hn.symm)

theorem outv_apply (i : Fin 256) (n : Fin 1024) : (outv m : FVec Ideal S1x256x1024 .f32) (ix3 (0 : Fin 1) i n)
    = ∑ s : Fin 8, ∑ k : Fin 1024, dhd m s ⟨k.val / 128, by omega⟩ i ⟨k.val % 128, Nat.mod_lt _ (by decide)⟩
        * (wostg m s : Vec Ideal S1024x1024 .f32) (ix2 k n) := by
  refine (pay22_apply i (agv m) n).trans ?_
  show red m _ (ValueIdx.ix2 i _) = _
  rw [← ix2_eq_valueIdx]
  refine (red_apply m _ i _ n ?_).trans (Finset.sum_congr rfl fun s _ => acc_apply m s i n)
  show n.val = 128 * (n.val / 128) + n.val % 128
  omega

end Cert.KernelIdeal.Pf
-- ==== Proof.RRef.lean ====
/-
# The reference, step by step

The reference goes through the keys in four chunks of 1024, keeping for every head and query the maximum so far, the
sum of the weights, and the weighted sum of the values. This module names those steps and states the reference's result
through them; `RVal.lean` says what they compute.
-/
module

public import proofs.«01_k».proof.Proof.Gen.ReferenceIdeal
public import proofs.«01_k».proof.Proof.Gen.ReferenceIdeal.Run

@[expose] public section

noncomputable section

namespace Cert.ReferenceIdeal.Pf

open Cert.ReferenceIdeal Cert.ReferenceIdeal.Gen Idealize.ShloMosaic Idealize.ShloMosaic.TcCoe

variable {F : FTy → Type} [FloatOps F]

/-- The queries of all heads. -/
def qry (x : FVec F S1x256x1024 .f32) (w : FVec F S1024x8192 .f32) : FVec F S1x256x64x128 .f32 :=
  shapeCast _ (Host.dotGeneral dot_S1x256x1024_S1024x8192_S1x256x8192_2_0_01_1_n_n none x w) shapeCasts_S1x256x8192_S1x256x64x128

/-- The scaled scores of the queries against one chunk of keys. -/
def scr (q : FVec F S1x256x64x128 .f32) (k : FVec F S1x1024x64x128 .f32) : FVec F S1x64x256x1024 .f32 :=
  mulf (Host.dotGeneral dot_S1x256x64x128_S1x1024x64x128_S1x64x256x1024_3_3_1_1_02_02 none q k)
    (broadcastInDim S1x64x256x1024 ![] bcast_S_S1x64x256x1024 (constant S_ .f32 0x3DB504F3#32))

/-- The maximum after a chunk. -/
def mx (m : FVec F S1x64x256x1 .f32) (s : FVec F S1x64x256x1024 .f32) : FVec F S1x64x256x1 .f32 :=
  maximumf m (broadcastInDim S1x64x256x1 ![0, 1, 2] bcast_S1x64x256_S1x64x256x1_0_1_2
    (Host.reduce FloatOps.maximumf s (constant S_ .f32 0xFF800000#32) reducesTo_S1x64x256x1024_S1x64x256_d3 h_S_))

/-- The factor that carries sums taken against the old maximum over to the new one. -/
def alp (m m' : FVec F S1x64x256x1 .f32) : FVec F S1x64x256x1 .f32 := Host.exp (subf m m')

/-- The chunk's weights. -/
def wgt (s : FVec F S1x64x256x1024 .f32) (m' : FVec F S1x64x256x1 .f32) : FVec F S1x64x256x1024 .f32 :=
  Host.exp (subf s (broadcastInDim S1x64x256x1024 ![0, 1, 2, 3] bcast_S1x64x256x1_S1x64x256x1024_0_1_2_3 m'))

/-- The sum of the weights after a chunk. -/
def den (l a : FVec F S1x64x256x1 .f32) (p : FVec F S1x64x256x1024 .f32) : FVec F S1x64x256x1 .f32 :=
  addf (mulf l a) (broadcastInDim S1x64x256x1 ![0, 1, 2] bcast_S1x64x256_S1x64x256x1_0_1_2
    (Host.reduceAdd p (constant S_ .f32 0x00000000#32) reducesTo_S1x64x256x1024_S1x64x256_d3 h_S_))

/-- A number per head and query laid along that head's columns. -/
def lay (a : FVec F S1x64x256x1 .f32) : FVec F S1x256x64x128 .f32 :=
  broadcastInDim S1x256x64x128 ![0, 1, 2, 3] bcast_S1x256x64x1_S1x256x64x128_0_1_2_3
    (transpose S1x256x64x1 [0, 2, 1, 3] a transposes_S1x64x256x1_S1x256x64x1_0_2_1_3)

/-- The weighted sum of the values after a chunk. -/
def num (o : FVec F S1x256x64x128 .f32) (a : FVec F S1x64x256x1 .f32) (v : FVec F S1x1024x64x128 .f32)
    (p : FVec F S1x64x256x1024 .f32) : FVec F S1x256x64x128 .f32 :=
  addf (mulf o (lay a)) (transpose S1x256x64x128 [0, 3, 1, 2]
    (Host.dotGeneral dot_S1x1024x64x128_S1x64x256x1024_S1x64x128x256_1_3_3_2_02_01 none v p) transposes_S1x64x128x256_S1x256x64x128_0_3_1_2)

/-- The quotient, projected. -/
def fin (o : FVec F S1x256x64x128 .f32) (l : FVec F S1x64x256x1 .f32) (w : FVec F S8192x1024 .f32) : FVec F S1x256x1024 .f32 :=
  Host.dotGeneral dot_S1x256x8192_S8192x1024_S1x256x1024_2_0_01_1_n_n none
    (shapeCast _ (Host.divf o (lay l)) shapeCasts_S1x256x64x128_S1x256x8192) w

/-- The four chunks of an array of keys or values. -/
def ch0 (k : FVec F S1x4096x64x128 .f32) : FVec F S1x1024x64x128 .f32 :=
  extractStridedSlice S1x1024x64x128 ![0, 0, 0, 0] k slices_S1x4096x64x128_S1x1024x64x128_0_0_0_0
def ch1 (k : FVec F S1x4096x64x128 .f32) : FVec F S1x1024x64x128 .f32 :=
  extractStridedSlice S1x1024x64x128 ![0, 1024, 0, 0] k slices_S1x4096x64x128_S1x1024x64x128_0_1024_0_0
def ch2 (k : FVec F S1x4096x64x128 .f32) : FVec F S1x1024x64x128 .f32 :=
  extractStridedSlice S1x1024x64x128 ![0, 2048, 0, 0] k slices_S1x4096x64x128_S1x1024x64x128_0_2048_0_0
def ch3 (k : FVec F S1x4096x64x128 .f32) : FVec F S1x1024x64x128 .f32 :=
  extractStridedSlice S1x1024x64x128 ![0, 3072, 0, 0] k slices_S1x4096x64x128_S1x1024x64x128_0_3072_0_0

section Chain
variable (q : FVec F S1x256x64x128 .f32) (k v : FVec F S1x4096x64x128 .f32)

def mx0 : FVec F S1x64x256x1 .f32 := broadcastInDim S1x64x256x1 ![] bcast_S_S1x64x256x1 (constant S_ .f32 0xFF800000#32)
def den0 : FVec F S1x64x256x1 .f32 := broadcastInDim S1x64x256x1 ![] bcast_S_S1x64x256x1 (constant S_ .f32 0x00000000#32)
def num0 : FVec F S1x256x64x128 .f32 := broadcastInDim S1x256x64x128 ![] bcast_S_S1x256x64x128 (constant S_ .f32 0x00000000#32)

def mx1 := mx mx0 (scr q (ch0 k))
def mx2 := mx (mx1 q k) (scr q (ch1 k))
def mx3 := mx (mx2 q k) (scr q (ch2 k))
def mx4 := mx (mx3 q k) (scr q (ch3 k))

def den1 := den den0 (alp mx0 (mx1 q k)) (wgt (scr q (ch0 k)) (mx1 q k))
def den2 := den (den1 q k) (alp (mx1 q k) (mx2 q k)) (wgt (scr q (ch1 k)) (mx2 q k))
def den3 := den (den2 q k) (alp (mx2 q k) (mx3 q k)) (wgt (scr q (ch2 k)) (mx3 q k))
def den4 := den (den3 q k) (alp (mx3 q k) (mx4 q k)) (wgt (scr q (ch3 k)) (mx4 q k))

def num1 := num num0 (alp mx0 (mx1 q k)) (ch0 v) (wgt (scr q (ch0 k)) (mx1 q k))
def num2 := num (num1 q k v) (alp (mx1 q k) (mx2 q k)) (ch1 v) (wgt (scr q (ch1 k)) (mx2 q k))
def num3 := num (num2 q k v) (alp (mx2 q k) (mx3 q k)) (ch2 v) (wgt (scr q (ch2 k)) (mx3 q k))
def num4 := num (num3 q k v) (alp (mx3 q k) (mx4 q k)) (ch3 v) (wgt (scr q (ch3 k)) (mx4 q k))

end Chain

/-- The reference's result as a function of its arguments. -/
def out (x : FVec F S1x256x1024 .f32) (w : FVec F S1024x8192 .f32) (wo : FVec F S8192x1024 .f32)
    (k v : FVec F S1x4096x64x128 .f32) : FVec F S1x256x1024 .f32 :=
  fin (num4 (qry x w) k v) (den4 (qry x w) k) wo

variable (m : (ℓ : Loc nD τ sig) → Buf (Elt F) ℓ)

set_option maxRecDepth 20000 in
set_option maxHeartbeats 4000000 in
theorem res_eq (c : Dev nD) : Value.res_main_v101 m c
    = out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  unfold Value.res_main_v101
  rfl

end Cert.ReferenceIdeal.Pf
-- ==== Proof.RVal.lean ====
/-
# What the reference computes

Each step of the reference read at one index over the extended reals, and from it the whole: attention of every query
against all 4096 keys, in one piece, projected.
-/
module

public import proofs.«01_k».proof.Proof.RRef
public import proofs.«01_k».proof.Proof.Softmax
public import Idealize.ShloMosaic.Lib.Pointwise
public import Idealize.ShloMosaic.Lib.KernelVsHost

@[expose] public section

noncomputable section

namespace Cert.ReferenceIdeal.Pf

open Cert.ReferenceIdeal Cert.ReferenceIdeal.Gen Cert.Att
open Idealize.ShloMosaic
open scoped BigOperators

theorem negInf_f32 : Ideal.ofBits .f32 0xFF800000#32 = ⊥ := by simp [Ideal.ofBits, Ideal.ieee]

section Steps

variable (z : Fin 1) (h : Fin 64) (i : Fin 256) (d : Fin 128)

theorem qry_apply (x : FVec Ideal S1x256x1024 .f32) (w : FVec Ideal S1024x8192 .f32) :
    qry x w (ix4 (0 : Fin 1) i h d) = ∑ t : Fin 1024, x (ix3 (0 : Fin 1) i t) * w (ix2 t (⟨128 * h.val + d.val, by omega⟩ : Fin 8192)) := by
  pointwise [qry]
  refine Finset.sum_congr rfl fun t _ => congrArg (fun n => x (ix3 (0 : Fin 1) i t) * w (ix2 t n)) (Fin.ext ?_)
  show h.val * 128 + d.val = 128 * h.val + d.val
  omega

theorem scr_apply (q : FVec Ideal S1x256x64x128 .f32) (k : FVec Ideal S1x1024x64x128 .f32) (j : Fin 1024) :
    scr q k (ix4 (0 : Fin 1) h i j)
      = (∑ e : Fin 128, q (ix4 (0 : Fin 1) i h e) * k (ix4 (0 : Fin 1) j h e)) * Ideal.ofBits .f32 0x3DB504F3#32 := by
  pointwise [scr]

theorem reduces_row : S1x64x256x1024.Reduces [3] S1x64x256 := by decide

/-- The maximum over a row of scores. -/
theorem rowMax_apply (s : FVec Ideal S1x64x256x1024 .f32) :
    Host.reduce FloatOps.maximumf s (constant S_ .f32 0xFF800000#32) reducesTo_S1x64x256x1024_S1x64x256_d3 h_S_ (ix3 (0 : Fin 1) h i)
      = rmax fun j => s (ix4 (0 : Fin 1) h i j) := by
  have e0 := congrFun (hostReduce_maximumf_eq_multiReduction s 0xFF800000#32 reducesTo_S1x64x256x1024_S1x64x256_d3 h_S_ reduces_row
    (.inl rfl) rfl) (ix3 (0 : Fin 1) h i)
  refine e0.trans ((Ideal.multiReduction_maximumf_single s _ reduces_row _ _ _).trans ?_)
  have e : ∀ j : Fin 1024, reduces_row.lift (ix3 (0 : Fin 1) h i) j = ix4 (0 : Fin 1) h i j := by
    intro j
    funext a; apply Fin.ext
    match a with
    | ⟨0, _⟩ => rfl
    | ⟨1, _⟩ => rfl
    | ⟨2, _⟩ => rfl
    | ⟨3, _⟩ => rfl
  unfold rmax
  rw [show (FloatOps.ofBits (F := Ideal) FTy.f32 0xFF800000#32 : EReal) = ⊥ from negInf_f32]
  exact congrArg (fun f : Fin 1024 → EReal => (Finset.univ : Finset (Fin 1024)).fold max ⊥ f) (funext fun j => congrArg s (e j))

theorem maxBc_apply (m : FVec Ideal S1x64x256x1 .f32) (r : FVec Ideal S1x64x256 .f32) :
    maximumf m (broadcastInDim S1x64x256x1 ![0, 1, 2] bcast_S1x64x256_S1x64x256x1_0_1_2 r) (ix4 (0 : Fin 1) h i (0 : Fin 1))
      = max (m (ix4 (0 : Fin 1) h i (0 : Fin 1))) (r (ix3 (0 : Fin 1) h i)) := by
  pointwise

theorem mx_apply (m : FVec Ideal S1x64x256x1 .f32) (s : FVec Ideal S1x64x256x1024 .f32) :
    mx m s (ix4 (0 : Fin 1) h i (0 : Fin 1)) = max (m (ix4 (0 : Fin 1) h i (0 : Fin 1))) (rmax fun j => s (ix4 (0 : Fin 1) h i j)) :=
  (maxBc_apply h i m _).trans (congrArg (max _) (rowMax_apply h i s))

theorem alp_apply (m m' : FVec Ideal S1x64x256x1 .f32) :
    alp m m' (ix4 (0 : Fin 1) h i (0 : Fin 1)) = Ideal.exp (m (ix4 (0 : Fin 1) h i (0 : Fin 1)) - m' (ix4 (0 : Fin 1) h i (0 : Fin 1))) := by
  pointwise [alp]

theorem wgt_apply (s : FVec Ideal S1x64x256x1024 .f32) (m' : FVec Ideal S1x64x256x1 .f32) (j : Fin 1024) :
    wgt s m' (ix4 (0 : Fin 1) h i j) = Ideal.exp (s (ix4 (0 : Fin 1) h i j) - m' (ix4 (0 : Fin 1) h i (0 : Fin 1))) := by
  pointwise [wgt]

theorem den_apply (l a : FVec Ideal S1x64x256x1 .f32) (p : FVec Ideal S1x64x256x1024 .f32) :
    den l a p (ix4 (0 : Fin 1) h i (0 : Fin 1))
      = l (ix4 (0 : Fin 1) h i (0 : Fin 1)) * a (ix4 (0 : Fin 1) h i (0 : Fin 1)) + ∑ j : Fin 1024, p (ix4 (0 : Fin 1) h i j) := by
  pointwise [den]

theorem num_apply (o : FVec Ideal S1x256x64x128 .f32) (a : FVec Ideal S1x64x256x1 .f32) (v : FVec Ideal S1x1024x64x128 .f32)
    (p : FVec Ideal S1x64x256x1024 .f32) :
    num o a v p (ix4 (0 : Fin 1) i h d) = o (ix4 (0 : Fin 1) i h d) * a (ix4 (0 : Fin 1) h i (0 : Fin 1))
      + ∑ j : Fin 1024, v (ix4 (0 : Fin 1) j h d) * p (ix4 (0 : Fin 1) h i j) := by
  pointwise [num, lay]

theorem fin_apply (o : FVec Ideal S1x256x64x128 .f32) (l : FVec Ideal S1x64x256x1 .f32) (w : FVec Ideal S8192x1024 .f32) (n : Fin 1024) :
    fin o l w (ix3 (0 : Fin 1) i n) = ∑ k : Fin 8192,
      Ideal.div (o (ix4 (0 : Fin 1) i (⟨k.val / 128, by omega⟩ : Fin 64) (⟨k.val % 128, Nat.mod_lt _ (by decide)⟩ : Fin 128)))
        (l (ix4 (0 : Fin 1) (⟨k.val / 128, by omega⟩ : Fin 64) i (0 : Fin 1))) * w (ix2 k n) := by
  pointwise [fin, lay]

theorem ch0_apply (k : FVec Ideal S1x4096x64x128 .f32) (j : Fin 1024) :
    ch0 k (ix4 (0 : Fin 1) j h d) = k (ix4 (0 : Fin 1) (⟨0 + j.val, by omega⟩ : Fin 4096) h d) := by
  pointwise [ch0]

theorem ch1_apply (k : FVec Ideal S1x4096x64x128 .f32) (j : Fin 1024) :
    ch1 k (ix4 (0 : Fin 1) j h d) = k (ix4 (0 : Fin 1) (⟨1024 + j.val, by omega⟩ : Fin 4096) h d) := by
  pointwise [ch1]

theorem ch2_apply (k : FVec Ideal S1x4096x64x128 .f32) (j : Fin 1024) :
    ch2 k (ix4 (0 : Fin 1) j h d) = k (ix4 (0 : Fin 1) (⟨2048 + j.val, by omega⟩ : Fin 4096) h d) := by
  pointwise [ch2]

theorem ch3_apply (k : FVec Ideal S1x4096x64x128 .f32) (j : Fin 1024) :
    ch3 k (ix4 (0 : Fin 1) j h d) = k (ix4 (0 : Fin 1) (⟨3072 + j.val, by omega⟩ : Fin 4096) h d) := by
  pointwise [ch3]

theorem mx0_apply : mx0 (F := Ideal) (ix4 (0 : Fin 1) h i (0 : Fin 1)) = ⊥ := by
  pointwise [mx0]
  exact negInf_f32
theorem den0_apply : den0 (F := Ideal) (ix4 (0 : Fin 1) h i (0 : Fin 1)) = 0 := by
  pointwise [den0]
theorem num0_apply : num0 (F := Ideal) (ix4 (0 : Fin 1) i h d) = 0 := by
  pointwise [num0]

end Steps

section Rows

/-- The first `n` entries of a row of 4096. -/
def pre (S : Fin 4096 → EReal) (n : ℕ) (hn : n ≤ 4096) : Fin n → EReal := fun j => S ⟨j.val, by omega⟩

theorem fstP_pre (S : Fin 4096 → EReal) (n : ℕ) (hn : n + 1024 ≤ 4096) :
    fstP (pre S (n + 1024) hn) = pre S n (by omega) := rfl
theorem sndP_pre (S : Fin 4096 → EReal) (n : ℕ) (hn : n + 1024 ≤ 4096) (j : Fin 1024) :
    sndP (pre S (n + 1024) hn) j = S ⟨n + j.val, by omega⟩ := rfl

variable (h : Fin 64) (i : Fin 256) (d : Fin 128) (S V : Fin 4096 → EReal) {n : ℕ} (hn : n + 1024 ≤ 4096)
  {m m' l : FVec Ideal S1x64x256x1 .f32} {o : FVec Ideal S1x256x64x128 .f32} {s : FVec Ideal S1x64x256x1024 .f32}
  {v : FVec Ideal S1x1024x64x128 .f32}

include hn in
theorem mx_step (hm : m (ix4 (0 : Fin 1) h i (0 : Fin 1)) = rmax (pre S n (by omega)))
    (hs : ∀ j : Fin 1024, s (ix4 (0 : Fin 1) h i j) = S ⟨n + j.val, by omega⟩) :
    mx m s (ix4 (0 : Fin 1) h i (0 : Fin 1)) = rmax (pre S (n + 1024) hn) := by
  rw [mx_apply, hm, rmax_add, fstP_pre]
  exact congrArg (max _) (congrArg rmax (funext hs))

theorem den_step' (hm : m (ix4 (0 : Fin 1) h i (0 : Fin 1)) = rmax (pre S n (by omega)))
    (hm' : m' (ix4 (0 : Fin 1) h i (0 : Fin 1)) = rmax (pre S (n + 1024) hn))
    (hl : l (ix4 (0 : Fin 1) h i (0 : Fin 1)) = rden (pre S n (by omega)))
    (hs : ∀ j : Fin 1024, s (ix4 (0 : Fin 1) h i j) = S ⟨n + j.val, by omega⟩) :
    den l (alp m m') (wgt s m') (ix4 (0 : Fin 1) h i (0 : Fin 1)) = rden (pre S (n + 1024) hn) := by
  rw [den_apply, alp_apply, hl, hm, hm', ← rden_step (pre S (n + 1024) hn), fstP_pre]
  refine congrArg (_ + ·) (Finset.sum_congr rfl fun j _ => ?_)
  rw [wgt_apply, hs, hm', sndP_pre]

theorem num_step' (hm : m (ix4 (0 : Fin 1) h i (0 : Fin 1)) = rmax (pre S n (by omega)))
    (hm' : m' (ix4 (0 : Fin 1) h i (0 : Fin 1)) = rmax (pre S (n + 1024) hn))
    (ho : o (ix4 (0 : Fin 1) i h d) = rnum (pre S n (by omega)) (pre V n (by omega)))
    (hs : ∀ j : Fin 1024, s (ix4 (0 : Fin 1) h i j) = S ⟨n + j.val, by omega⟩)
    (hv : ∀ j : Fin 1024, v (ix4 (0 : Fin 1) j h d) = V ⟨n + j.val, by omega⟩) :
    num o (alp m m') v (wgt s m') (ix4 (0 : Fin 1) i h d) = rnum (pre S (n + 1024) hn) (pre V (n + 1024) hn) := by
  rw [num_apply, alp_apply, ho, hm, hm', ← rnum_step (pre S (n + 1024) hn), fstP_pre, fstP_pre]
  refine congrArg (_ + ·) (Finset.sum_congr rfl fun j _ => ?_)
  rw [wgt_apply, hs, hv, hm', sndP_pre, sndP_pre]

end Rows

section Whole

variable (q : FVec Ideal S1x256x64x128 .f32) (k v : FVec Ideal S1x4096x64x128 .f32) (h : Fin 64) (i : Fin 256) (d : Fin 128)

/-- The scores of one query of one head against all keys. -/
def rscr (j : Fin 4096) : EReal :=
  (∑ e : Fin 128, q (ix4 (0 : Fin 1) i h e) * k (ix4 (0 : Fin 1) j h e)) * Ideal.ofBits .f32 0x3DB504F3#32

/-- One column of one head's values. -/
def rval (j : Fin 4096) : EReal := v (ix4 (0 : Fin 1) j h d)

theorem scr0 (j : Fin 1024) : scr q (ch0 k) (ix4 (0 : Fin 1) h i j) = rscr q k h i ⟨0 + j.val, by omega⟩ := by
  rw [scr_apply]; simp only [ch0_apply]; rfl

theorem scr1 (j : Fin 1024) : scr q (ch1 k) (ix4 (0 : Fin 1) h i j) = rscr q k h i ⟨1024 + j.val, by omega⟩ := by
  rw [scr_apply]; simp only [ch1_apply]; rfl

theorem scr2 (j : Fin 1024) : scr q (ch2 k) (ix4 (0 : Fin 1) h i j) = rscr q k h i ⟨2048 + j.val, by omega⟩ := by
  rw [scr_apply]; simp only [ch2_apply]; rfl

theorem scr3 (j : Fin 1024) : scr q (ch3 k) (ix4 (0 : Fin 1) h i j) = rscr q k h i ⟨3072 + j.val, by omega⟩ := by
  rw [scr_apply]; simp only [ch3_apply]; rfl

theorem mx1_val : mx1 q k (ix4 (0 : Fin 1) h i (0 : Fin 1)) = rmax (pre (rscr q k h i) 1024 (by decide)) :=
  mx_step (n := 0) h i (rscr q k h i) (by decide) (mx0_apply h i) (scr0 q k h i)
theorem mx2_val : mx2 q k (ix4 (0 : Fin 1) h i (0 : Fin 1)) = rmax (pre (rscr q k h i) 2048 (by decide)) :=
  mx_step (n := 1024) h i (rscr q k h i) (by decide) (mx1_val q k h i) (scr1 q k h i)
theorem mx3_val : mx3 q k (ix4 (0 : Fin 1) h i (0 : Fin 1)) = rmax (pre (rscr q k h i) 3072 (by decide)) :=
  mx_step (n := 2048) h i (rscr q k h i) (by decide) (mx2_val q k h i) (scr2 q k h i)
theorem mx4_val : mx4 q k (ix4 (0 : Fin 1) h i (0 : Fin 1)) = rmax (pre (rscr q k h i) 4096 (by decide)) :=
  mx_step (n := 3072) h i (rscr q k h i) (by decide) (mx3_val q k h i) (scr3 q k h i)

theorem den1_val : den1 q k (ix4 (0 : Fin 1) h i (0 : Fin 1)) = rden (pre (rscr q k h i) 1024 (by decide)) :=
  den_step' (n := 0) h i (rscr q k h i) (by decide) (mx0_apply h i) (mx1_val q k h i) (den0_apply h i) (scr0 q k h i)
theorem den2_val : den2 q k (ix4 (0 : Fin 1) h i (0 : Fin 1)) = rden (pre (rscr q k h i) 2048 (by decide)) :=
  den_step' (n := 1024) h i (rscr q k h i) (by decide) (mx1_val q k h i) (mx2_val q k h i) (den1_val q k h i) (scr1 q k h i)
theorem den3_val : den3 q k (ix4 (0 : Fin 1) h i (0 : Fin 1)) = rden (pre (rscr q k h i) 3072 (by decide)) :=
  den_step' (n := 2048) h i (rscr q k h i) (by decide) (mx2_val q k h i) (mx3_val q k h i) (den2_val q k h i) (scr2 q k h i)
theorem den4_val : den4 q k (ix4 (0 : Fin 1) h i (0 : Fin 1)) = rden (pre (rscr q k h i) 4096 (by decide)) :=
  den_step' (n := 3072) h i (rscr q k h i) (by decide) (mx3_val q k h i) (mx4_val q k h i) (den3_val q k h i) (scr3 q k h i)

theorem num1_val : num1 q k v (ix4 (0 : Fin 1) i h d)
    = rnum (pre (rscr q k h i) 1024 (by decide)) (pre (rval v h d) 1024 (by decide)) :=
  num_step' (n := 0) h i d (rscr q k h i) (rval v h d) (by decide) (mx0_apply h i) (mx1_val q k h i) (num0_apply h i d)
    (scr0 q k h i) (ch0_apply h d v)
theorem num2_val : num2 q k v (ix4 (0 : Fin 1) i h d)
    = rnum (pre (rscr q k h i) 2048 (by decide)) (pre (rval v h d) 2048 (by decide)) :=
  num_step' (n := 1024) h i d (rscr q k h i) (rval v h d) (by decide) (mx1_val q k h i) (mx2_val q k h i) (num1_val q k v h i d)
    (scr1 q k h i) (ch1_apply h d v)
theorem num3_val : num3 q k v (ix4 (0 : Fin 1) i h d)
    = rnum (pre (rscr q k h i) 3072 (by decide)) (pre (rval v h d) 3072 (by decide)) :=
  num_step' (n := 2048) h i d (rscr q k h i) (rval v h d) (by decide) (mx2_val q k h i) (mx3_val q k h i) (num2_val q k v h i d)
    (scr2 q k h i) (ch2_apply h d v)
theorem num4_val : num4 q k v (ix4 (0 : Fin 1) i h d)
    = rnum (pre (rscr q k h i) 4096 (by decide)) (pre (rval v h d) 4096 (by decide)) :=
  num_step' (n := 3072) h i d (rscr q k h i) (rval v h d) (by decide) (mx3_val q k h i) (mx4_val q k h i) (num3_val q k v h i d)
    (scr3 q k h i) (ch3_apply h d v)

/-- Four chunks make the whole row. -/
theorem quot_val : Ideal.div (num4 q k v (ix4 (0 : Fin 1) i h d)) (den4 q k (ix4 (0 : Fin 1) h i (0 : Fin 1)))
    = att (rscr q k h i) (rval v h d) := by
  rw [num4_val, den4_val]; rfl

end Whole

/-- **The reference's result**: the sum over the 8192 columns of all heads' attention against the output projection. -/
theorem out_apply (x : FVec Ideal S1x256x1024 .f32) (w : FVec Ideal S1024x8192 .f32) (wo : FVec Ideal S8192x1024 .f32)
    (k v : FVec Ideal S1x4096x64x128 .f32) (i : Fin 256) (n : Fin 1024) :
    out x w wo k v (ix3 (0 : Fin 1) i n) = ∑ c : Fin 8192,
      att (rscr (qry x w) k (⟨c.val / 128, by omega⟩ : Fin 64) i)
        (rval v (⟨c.val / 128, by omega⟩ : Fin 64) (⟨c.val % 128, Nat.mod_lt _ (by decide)⟩ : Fin 128)) * wo (ix2 c n) := by
  unfold out
  rw [fin_apply]
  exact Finset.sum_congr rfl fun c _ => congrArg (· * _) (quot_val _ _ _ _ _ _)

end Cert.ReferenceIdeal.Pf
-- ==== Proof.Equation.lean ====
/-
# The equation

When every device holds the whole input, keys and values, the column block of the query projection that belongs to its
heads and the row block of the output projection that belongs to them, what the kernel leaves on every device is the
reference's result. No hypothesis on the numbers is needed: infinite inputs included, both sides are the same sums.
-/
module

public import proofs.«01_k».proof.Proof.KOut
public import proofs.«01_k».proof.Proof.RVal
public import proofs.«01_k».proof.Proof.Launch

@[expose] public section

noncomputable section

namespace Cert.Equation

open Cert.Att Cert.KernelIdeal.Pf Cert.ReferenceIdeal.Pf
open Idealize.ShloMosaic Idealize.ShloMosaic.TcCoe
open scoped BigOperators

/-- A sum over eight blocks of 1024 is the sum over 8192. -/
theorem sum_blocks (g : Fin 8192 → EReal) :
    ∑ s : Fin 8, ∑ k : Fin 1024, g (⟨1024 * s.val + k.val, by omega⟩ : Fin 8192) = ∑ c : Fin 8192, g c := by
  rw [← Fintype.sum_prod_type', ← Equiv.sum_comp (finProdFinEquiv (m := 8) (n := 1024)) g]
  refine Finset.sum_congr rfl fun p _ => congrArg g (Fin.ext ?_)
  show 1024 * p.1.val + p.2.val = p.2.val + 1024 * p.1.val
  omega

section

variable (m : (ℓ : Loc KernelIdeal.nD KernelIdeal.τ KernelIdeal.sig) → Buf (Elt Ideal) ℓ)
  (x : FVec Ideal ⟨3, ![1, 256, 1024]⟩ .f32) (w : FVec Ideal ⟨2, ![1024, 8192]⟩ .f32) (wo : FVec Ideal ⟨2, ![8192, 1024]⟩ .f32)
  (k v : FVec Ideal ⟨4, ![1, 4096, 64, 128]⟩ .f32) (s : Fin 8)

/-- A device's queries are the reference's, for its own heads. -/
theorem qv_eq (hx : m ((s : Thread KernelIdeal.nD KernelIdeal.τ).loc KernelIdeal.main_arg0) = x)
    (hw : m ((s : Thread KernelIdeal.nD KernelIdeal.τ).loc KernelIdeal.main_arg1)
      = Layout.block ⟨2, ![1024, 1024]⟩ ⟨2, ![1024, 8192]⟩ 1 8 s w)
    (i : Fin 256) (h : Fin 8) (e : Fin 128) (g : Fin 64) (hg : g.val = 8 * s.val + h.val) :
    qv m s (ix2 i (⟨128 * h.val + e.val, by omega⟩ : Fin 1024)) = qry x w (ix4 (0 : Fin 1) i g e) := by
  refine (pay1_apply _ _ i _).trans ((Finset.sum_congr rfl fun t _ => ?_).trans (qry_apply g i e x w).symm)
  rw [xstg_eq, wqstg_eq, hx, hw]
  refine congrArg (x (ix3 (0 : Fin 1) i t) * ·) ?_
  rw [Layout.block_apply]
  refine congrArg w (funext fun a => Fin.ext ?_)
  match a with
  | ⟨0, _⟩ => rfl
  | ⟨1, _⟩ =>
    show s.val * 1024 + (128 * h.val + e.val) = 128 * g.val + e.val
    omega

/-- So are its heads. -/
theorem dhd_eq (hx : m ((s : Thread KernelIdeal.nD KernelIdeal.τ).loc KernelIdeal.main_arg0) = x)
    (hw : m ((s : Thread KernelIdeal.nD KernelIdeal.τ).loc KernelIdeal.main_arg1)
      = Layout.block ⟨2, ![1024, 1024]⟩ ⟨2, ![1024, 8192]⟩ 1 8 s w)
    (hk : m ((s : Thread KernelIdeal.nD KernelIdeal.τ).loc KernelIdeal.main_arg3) = k)
    (hv : m ((s : Thread KernelIdeal.nD KernelIdeal.τ).loc KernelIdeal.main_arg4) = v)
    (i : Fin 256) (h : Fin 8) (d : Fin 128) (g : Fin 64) (hg : g.val = 8 * s.val + h.val) :
    dhd m s h i d = att (rscr (qry x w) k g i) (rval v g d) := by
  have eg : hd s h = g := Fin.ext hg.symm
  refine congrArg₂ att (funext fun j => ?_) (funext fun j => ?_)
  · refine congrArg (· * _) (Finset.sum_congr rfl fun e _ => congrArg₂ (· * ·) (qv_eq m x w s hx hw i h e g hg) ?_)
    show m ((s : Thread KernelIdeal.nD KernelIdeal.τ).loc KernelIdeal.main_arg3) (ValueIdx.ix4 (0 : Fin 1) j (hd s h) e) = _
    rw [hk, eg, ix4_eq_valueIdx]
  · show m ((s : Thread KernelIdeal.nD KernelIdeal.τ).loc KernelIdeal.main_arg4) (ValueIdx.ix4 (0 : Fin 1) j (hd s h) d) = v _
    rw [hv, eg, ix4_eq_valueIdx]

end

/-- **The kernel's result is the reference's.** -/
theorem outv_eq (m : (ℓ : Loc KernelIdeal.nD KernelIdeal.τ KernelIdeal.sig) → Buf (Elt Ideal) ℓ)
    (x : FVec Ideal ⟨3, ![1, 256, 1024]⟩ .f32) (w : FVec Ideal ⟨2, ![1024, 8192]⟩ .f32) (wo : FVec Ideal ⟨2, ![8192, 1024]⟩ .f32)
    (k v : FVec Ideal ⟨4, ![1, 4096, 64, 128]⟩ .f32)
    (hx : ∀ s : Fin 8, m ((s : Thread KernelIdeal.nD KernelIdeal.τ).loc KernelIdeal.main_arg0) = x)
    (hw : ∀ s : Fin 8, m ((s : Thread KernelIdeal.nD KernelIdeal.τ).loc KernelIdeal.main_arg1)
      = Layout.block ⟨2, ![1024, 1024]⟩ ⟨2, ![1024, 8192]⟩ 1 8 s w)
    (ho : ∀ s : Fin 8, m ((s : Thread KernelIdeal.nD KernelIdeal.τ).loc KernelIdeal.main_arg2)
      = Layout.block ⟨2, ![1024, 1024]⟩ ⟨2, ![8192, 1024]⟩ 0 8 s wo)
    (hk : ∀ s : Fin 8, m ((s : Thread KernelIdeal.nD KernelIdeal.τ).loc KernelIdeal.main_arg3) = k)
    (hv : ∀ s : Fin 8, m ((s : Thread KernelIdeal.nD KernelIdeal.τ).loc KernelIdeal.main_arg4) = v) :
    (outv m : FVec Ideal ⟨3, ![1, 256, 1024]⟩ .f32) = out x w wo k v := by
  funext j
  obtain ⟨i, n, rfl⟩ : ∃ (i : Fin 256) (n : Fin 1024), j = ix3 (0 : Fin 1) i n :=
    ⟨j 1, j 2, (eq_ix3 j).trans (congrArg (fun z => ix3 z (j 1) (j 2)) (Subsingleton.elim _ _))⟩
  rw [out_apply, ← sum_blocks]
  refine Eq.trans (α := EReal) (outv_apply m i n) (Finset.sum_congr rfl fun s _ => Finset.sum_congr rfl fun c _ => ?_)
  refine congrArg₂ (· * ·) ?_ ?_
  · refine (dhd_eq m x w k v s (hx s) (hw s) (hk s) (hv s) i _ _ (⟨(1024 * s.val + c.val) / 128, by omega⟩ : Fin 64) ?_).trans ?_
    · show (1024 * s.val + c.val) / 128 = 8 * s.val + c.val / 128
      omega
    · refine congrArg (fun d => att _ (rval v _ d)) (Fin.ext ?_)
      show c.val % 128 = (1024 * s.val + c.val) % 128
      omega
  · rw [wostg_eq, ho, Layout.block_apply]
    refine congrArg wo (funext fun a => Fin.ext ?_)
    match a with
    | ⟨0, _⟩ =>
      show s.val * 1024 + c.val = 1024 * s.val + c.val
      omega
    | ⟨1, _⟩ => rfl

end Cert.Equation
-- ==== Proof.lean ====
/-
# The certificate

Every claim of this certificate, put together: each program runs and leaves its arguments and its counters as they
were, the idealized kernel is the kernel's own text, and over the extended reals every device ends with the reference's
result.
-/
module

public import proofs.«01_k».proof.Defs
public import proofs.«01_k».proof.Proof.Launch
public import proofs.«01_k».proof.Proof.BitsLaunch
public import proofs.«01_k».proof.Proof.Equation
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel runs to its end on all eight devices; arguments and counters end as they began. -/
theorem frame_kernel : Cert.quiescent_Kernel (hKernel := Cert.Kernel.Gen.facts) := fun m g _ => Cert.Kernel.Pf.run_kept (F := Bits) m g

/-- So does the idealized kernel. -/
theorem frame_ideal : Cert.quiescent_KernelIdeal (hKernelIdeal := Cert.KernelIdeal.Gen.facts) := fun m g _ => Cert.KernelIdeal.Pf.run_kept (F := Ideal) m g

/-- So does the reference, on one device. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- From the same arguments, cut as the mesh cuts them, every device of the kernel ends with the reference's result. -/
theorem value : Cert.algebraic_KernelIdeal_ReferenceIdeal (hKernelIdeal := Cert.KernelIdeal.Gen.facts)
    (hReferenceIdeal := Cert.ReferenceIdeal.Gen.facts) := fun m g m' g' _ hargs => by
  have e := (Cert.Equation.outv_eq m _ _ _ _ _ (fun s => (hargs s).1) (fun s => (hargs s).2.1) (fun s => (hargs s).2.2.1)
    (fun s => (hargs s).2.2.2.1) (fun s => (hargs s).2.2.2.2)).trans (Cert.ReferenceIdeal.Pf.res_eq m' 0).symm
  exact ⟨Cert.ReferenceIdeal.Value.res_main_v101 m' 0,
    (θ_run Cert.KernelIdeal.defs _ _).mono (fun r h c => ⟨(h c).1.trans e, (h c).2⟩) (Cert.KernelIdeal.Pf.run_result (F := Ideal) m g),
    (θ_run Cert.ReferenceIdeal.defs _ _).mono (fun r h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, value⟩

end Cert.Proof

end
